-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v99)) (v1 : (c : Dev Cert.KernelIdeal.nD) → Buf (Elt Ideal) ((c.tc : Thread Cert.KernelIdeal.nD Cert.KernelIdeal.τ).loc Cert.KernelIdeal.main_v101)) (v2 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_v101) = v1 c
          ∧ r.2.mem ((c.tc : Thread Cert.KernelIdeal.nD Cert.KernelIdeal.τ).loc Cert.KernelIdeal.main_v104) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v128) = v1 c
          ∧ r.2.mem ((c.tc : Thread Cert.ReferenceIdeal.nD Cert.ReferenceIdeal.τ).loc Cert.ReferenceIdeal.main_v124) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S1x20000x2 : Shape := ⟨3, ![1, 20000, 2]⟩
abbrev S1x1x80x100x200 : Shape := ⟨5, ![1, 1, 80, 100, 200]⟩
abbrev S1x1x4x100x200 : Shape := ⟨5, ![1, 1, 4, 100, 200]⟩
abbrev S1x1x1x100x200 : Shape := ⟨5, ![1, 1, 1, 100, 200]⟩
abbrev S1x2 : Shape := ⟨2, ![1, 2]⟩
abbrev S20000x2 : Shape := ⟨2, ![20000, 2]⟩
abbrev S80x100x200 : Shape := ⟨3, ![80, 100, 200]⟩
abbrev S4x100x200 : Shape := ⟨3, ![4, 100, 200]⟩
abbrev S100x200 : Shape := ⟨2, ![100, 200]⟩
abbrev S80x20000 : Shape := ⟨2, ![80, 20000]⟩
abbrev S20000x80 : Shape := ⟨2, ![20000, 80]⟩
abbrev S4x20000 : Shape := ⟨2, ![4, 20000]⟩
abbrev S20000x4 : Shape := ⟨2, ![20000, 4]⟩
abbrev S20000x1 : Shape := ⟨2, ![20000, 1]⟩
abbrev S1600000 : Shape := ⟨1, ![1600000]⟩
abbrev S_ : Shape := ⟨0, ![]⟩
abbrev S1000 : Shape := ⟨1, ![1000]⟩
abbrev S1000x1 : Shape := ⟨2, ![1000, 1]⟩
abbrev S1 : Shape := ⟨1, ![1]⟩
abbrev S1x1 : Shape := ⟨2, ![1, 1]⟩
abbrev S1000x2 : Shape := ⟨2, ![1000, 2]⟩
abbrev S1000x4 : Shape := ⟨2, ![1000, 4]⟩
abbrev S24x4 : Shape := ⟨2, ![24, 4]⟩
abbrev S1024x4 : Shape := ⟨2, ![1024, 4]⟩
abbrev S24 : Shape := ⟨1, ![24]⟩
abbrev S1024 : Shape := ⟨1, ![1024]⟩
abbrev S4x1024 : Shape := ⟨2, ![4, 1024]⟩
abbrev S1024x1 : Shape := ⟨2, ![1024, 1]⟩
abbrev S1x1024 : Shape := ⟨2, ![1, 1024]⟩
abbrev S128x4 : Shape := ⟨2, ![128, 4]⟩
abbrev S128x1 : Shape := ⟨2, ![128, 1]⟩
abbrev S1024x1024 : Shape := ⟨2, ![1024, 1024]⟩
abbrev S1x1024x1 : Shape := ⟨3, ![1, 1024, 1]⟩
abbrev S1x1x1 : Shape := ⟨3, ![1, 1, 1]⟩
abbrev S128x1024 : Shape := ⟨2, ![128, 1024]⟩
abbrev S128 : Shape := ⟨1, ![128]⟩
abbrev S100x4 : Shape := ⟨2, ![100, 4]⟩
abbrev S100x1 : Shape := ⟨2, ![100, 1]⟩
abbrev S100 : Shape := ⟨1, ![100]⟩

abbrev nBuf : Space → Nat
  | .hbm => 326
  | .vmem => 14
  | .smem => 0
  | _ => 0

abbrev hbmTy0_0 (i : Nat) : BufTy := match i % 128 with
  | 0 => ⟨S1x20000x2, .f32⟩
  | 1 => ⟨S1x1x80x100x200, .f32⟩
  | 2 => ⟨S1x1x4x100x200, .f32⟩
  | 3 => ⟨S1x1x1x100x200, .f32⟩
  | 4 => ⟨S1x2, .i32⟩
  | 5 => ⟨S20000x2, .f32⟩
  | 6 => ⟨S80x100x200, .f32⟩
  | 7 => ⟨S4x100x200, .f32⟩
  | 8 => ⟨S100x200, .f32⟩
  | 9 => ⟨S80x20000, .f32⟩
  | 10 => ⟨S20000x80, .f32⟩
  | 11 => ⟨S4x20000, .f32⟩
  | 12 => ⟨S20000x4, .f32⟩
  | 13 => ⟨S20000x1, .f32⟩
  | 14 => ⟨S20000x80, .f32⟩
  | 15 => ⟨S1600000, .f32⟩
  | 16 => ⟨S_, .f32⟩
  | 17 => ⟨S20000x80, .f32⟩
  | 18 => ⟨S20000x80, .i1⟩
  | 19 => ⟨S20000x80, .i32⟩
  | 20 => ⟨S_, .i32⟩
  | 21 => ⟨S_, .i32⟩
  | 22 => ⟨S_, .i32⟩
  | 23 => ⟨S_, .i32⟩
  | 24 => ⟨S1000, .f32⟩
  | 25 => ⟨S1000, .i32⟩
  | 26 => ⟨S1000, .i32⟩
  | 27 => ⟨S1000, .i32⟩
  | 28 => ⟨S1000, .i1⟩
  | 29 => ⟨S1000, .f32⟩
  | 30 => ⟨S_, .f32⟩
  | 31 => ⟨S1000, .f32⟩
  | 32 => ⟨S1000, .i1⟩
  | 33 => ⟨S1000, .i1⟩
  | 34 => ⟨S_, .i32⟩
  | 35 => ⟨S_, .i32⟩
  | 36 => ⟨S1000, .i32⟩
  | 37 => ⟨S1000, .i32⟩
  | 38 => ⟨S1000, .i32⟩
  | 39 => ⟨S_, .i32⟩
  | 40 => ⟨S1000, .i32⟩
  | 41 => ⟨S1000, .i1⟩
  | 42 => ⟨S1000, .i32⟩
  | 43 => ⟨S1000, .i32⟩
  | 44 => ⟨S_, .i32⟩
  | 45 => ⟨S1000, .i32⟩
  | 46 => ⟨S1000, .i1⟩
  | 47 => ⟨S1000, .i1⟩
  | 48 => ⟨S_, .i32⟩
  | 49 => ⟨S1000, .i32⟩
  | 50 => ⟨S1000, .i32⟩
  | 51 => ⟨S1000, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S1000, .i32⟩
  | 59 => ⟨S1000, .i32⟩
  | 60 => ⟨S_, .i32⟩
  | 61 => ⟨S1000, .i32⟩
  | 62 => ⟨S1000, .i1⟩
  | 63 => ⟨S_, .i32⟩
  | 64 => ⟨S1000, .i32⟩
  | 65 => ⟨S1000, .i1⟩
  | 66 => ⟨S_, .i32⟩
  | 67 => ⟨S_, .i1⟩
  | 68 => ⟨S1000, .i1⟩
  | 69 => ⟨S1000, .i1⟩
  | 70 => ⟨S1000, .i1⟩
  | 71 => ⟨S1000, .i32⟩
  | 72 => ⟨S1000, .i32⟩
  | 73 => ⟨S1000, .i32⟩
  | 74 => ⟨S_, .i32⟩
  | 75 => ⟨S1000, .i32⟩
  | 76 => ⟨S1000, .i32⟩
  | 77 => ⟨S_, .i32⟩
  | 78 => ⟨S1000, .i32⟩
  | 79 => ⟨S1000, .i1⟩
  | 80 => ⟨S_, .i32⟩
  | 81 => ⟨S1000, .i32⟩
  | 82 => ⟨S1000, .i32⟩
  | 83 => ⟨S1000, .i32⟩
  | 84 => ⟨S1000x1, .i32⟩
  | 85 => ⟨S1, .i32⟩
  | 86 => ⟨S_, .i32⟩
  | 87 => ⟨S1000x1, .i32⟩
  | 88 => ⟨S1000x1, .i1⟩
  | 89 => ⟨S1x1, .i32⟩
  | 90 => ⟨S1000x1, .i32⟩
  | 91 => ⟨S1000x1, .i1⟩
  | 92 => ⟨S1000x1, .i1⟩
  | 93 => ⟨S_, .i1⟩
  | 94 => ⟨S1000, .i1⟩
  | 95 => ⟨S1000x2, .f32⟩
  | 96 => ⟨S1000x2, .i1⟩
  | 97 => ⟨S_, .f32⟩
  | 98 => ⟨S1000x2, .f32⟩
  | 99 => ⟨S1000x2, .f32⟩
  | 100 => ⟨S_, .i32⟩
  | 101 => ⟨S1000, .i32⟩
  | 102 => ⟨S1000, .i1⟩
  | 103 => ⟨S_, .i32⟩
  | 104 => ⟨S1000, .i32⟩
  | 105 => ⟨S1000, .i32⟩
  | 106 => ⟨S1000, .i32⟩
  | 107 => ⟨S1000x1, .i32⟩
  | 108 => ⟨S1, .i32⟩
  | 109 => ⟨S_, .i32⟩
  | 110 => ⟨S1000x1, .i32⟩
  | 111 => ⟨S1000x1, .i1⟩
  | 112 => ⟨S1x1, .i32⟩
  | 113 => ⟨S1000x1, .i32⟩
  | 114 => ⟨S1000x1, .i1⟩
  | 115 => ⟨S1000x1, .i1⟩
  | 116 => ⟨S_, .i1⟩
  | 117 => ⟨S1000, .i1⟩
  | 118 => ⟨S1000x4, .f32⟩
  | 119 => ⟨S1000x4, .i1⟩
  | 120 => ⟨S_, .f32⟩
  | 121 => ⟨S1000x4, .f32⟩
  | 122 => ⟨S1000x4, .f32⟩
  | 123 => ⟨S1000x1, .f32⟩
  | 124 => ⟨S1000, .f32⟩
  | 125 => ⟨S1000x1, .f32⟩
  | 126 => ⟨S1000, .f32⟩
  | 127 => ⟨S1000, .f32⟩
  | _ => ⟨S1x20000x2, .f32⟩

abbrev hbmTy0_1 (i : Nat) : BufTy := match i % 128 with
  | 0 => ⟨S1000x1, .f32⟩
  | 1 => ⟨S1000, .f32⟩
  | 2 => ⟨S1000x1, .f32⟩
  | 3 => ⟨S1000, .f32⟩
  | 4 => ⟨S1000, .f32⟩
  | 5 => ⟨S1000x1, .f32⟩
  | 6 => ⟨S1000, .f32⟩
  | 7 => ⟨S1000x1, .f32⟩
  | 8 => ⟨S1000, .f32⟩
  | 9 => ⟨S1000, .f32⟩
  | 10 => ⟨S1000x1, .f32⟩
  | 11 => ⟨S1000, .f32⟩
  | 12 => ⟨S1000x1, .f32⟩
  | 13 => ⟨S1000, .f32⟩
  | 14 => ⟨S1000, .f32⟩
  | 15 => ⟨S1x1, .i32⟩
  | 16 => ⟨S_, .i32⟩
  | 17 => ⟨S_, .f32⟩
  | 18 => ⟨S1x1, .i32⟩
  | 19 => ⟨S_, .i32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S1000, .f32⟩
  | 32 => ⟨S1000, .f32⟩
  | 33 => ⟨S1000, .f32⟩
  | 34 => ⟨S1000, .f32⟩
  | 35 => ⟨S_, .f32⟩
  | 36 => ⟨S_, .f32⟩
  | 37 => ⟨S1000, .f32⟩
  | 38 => ⟨S1000, .f32⟩
  | 39 => ⟨S1000, .f32⟩
  | 40 => ⟨S1000, .f32⟩
  | 41 => ⟨S_, .f32⟩
  | 42 => ⟨S_, .f32⟩
  | 43 => ⟨S1000, .f32⟩
  | 44 => ⟨S1000, .f32⟩
  | 45 => ⟨S1000, .f32⟩
  | 46 => ⟨S1000, .f32⟩
  | 47 => ⟨S_, .f32⟩
  | 48 => ⟨S_, .f32⟩
  | 49 => ⟨S1000, .f32⟩
  | 50 => ⟨S1000, .f32⟩
  | 51 => ⟨S1000, .f32⟩
  | 52 => ⟨S1000, .f32⟩
  | 53 => ⟨S1000x1, .f32⟩
  | 54 => ⟨S1000x1, .f32⟩
  | 55 => ⟨S1000x1, .f32⟩
  | 56 => ⟨S1000x1, .f32⟩
  | 57 => ⟨S1000x4, .f32⟩
  | 58 => ⟨S_, .f32⟩
  | 59 => ⟨S1000, .f32⟩
  | 60 => ⟨S1000, .i1⟩
  | 61 => ⟨S1000, .i1⟩
  | 62 => ⟨S_, .f32⟩
  | 63 => ⟨S_, .f32⟩
  | 64 => ⟨S1000, .f32⟩
  | 65 => ⟨S1000, .f32⟩
  | 66 => ⟨S1000, .f32⟩
  | 67 => ⟨S_, .f32⟩
  | 68 => ⟨S_, .f32⟩
  | 69 => ⟨S1000, .f32⟩
  | 70 => ⟨S1000, .f32⟩
  | 71 => ⟨S_, .f32⟩
  | 72 => ⟨S_, .f32⟩
  | 73 => ⟨S1000, .f32⟩
  | 74 => ⟨S1000, .f32⟩
  | 75 => ⟨S1000, .f32⟩
  | 76 => ⟨S1000, .i32⟩
  | 77 => ⟨S1000, .f32⟩
  | 78 => ⟨S1000, .i32⟩
  | 79 => ⟨S_, .i32⟩
  | 80 => ⟨S1000, .i32⟩
  | 81 => ⟨S1000, .i1⟩
  | 82 => ⟨S_, .i32⟩
  | 83 => ⟨S1000, .i32⟩
  | 84 => ⟨S1000, .i32⟩
  | 85 => ⟨S1000, .i32⟩
  | 86 => ⟨S1000x1, .i32⟩
  | 87 => ⟨S1, .i32⟩
  | 88 => ⟨S_, .i32⟩
  | 89 => ⟨S1000x1, .i32⟩
  | 90 => ⟨S1000x1, .i1⟩
  | 91 => ⟨S1x1, .i32⟩
  | 92 => ⟨S1000x1, .i32⟩
  | 93 => ⟨S1000x1, .i1⟩
  | 94 => ⟨S1000x1, .i1⟩
  | 95 => ⟨S_, .i1⟩
  | 96 => ⟨S1000, .i1⟩
  | 97 => ⟨S1000x4, .f32⟩
  | 98 => ⟨S1000x4, .i1⟩
  | 99 => ⟨S_, .f32⟩
  | 100 => ⟨S1000x4, .f32⟩
  | 101 => ⟨S1000x4, .f32⟩
  | 102 => ⟨S_, .i32⟩
  | 103 => ⟨S1000, .i32⟩
  | 104 => ⟨S1000, .i1⟩
  | 105 => ⟨S_, .i32⟩
  | 106 => ⟨S1000, .i32⟩
  | 107 => ⟨S1000, .i32⟩
  | 108 => ⟨S1000, .i32⟩
  | 109 => ⟨S1000x1, .i32⟩
  | 110 => ⟨S1, .i32⟩
  | 111 => ⟨S_, .i32⟩
  | 112 => ⟨S1000x1, .i32⟩
  | 113 => ⟨S1000x1, .i1⟩
  | 114 => ⟨S1x1, .i32⟩
  | 115 => ⟨S1000x1, .i32⟩
  | 116 => ⟨S1000x1, .i1⟩
  | 117 => ⟨S1000x1, .i1⟩
  | 118 => ⟨S_, .i1⟩
  | 119 => ⟨S1000, .i1⟩
  | 120 => ⟨S1000, .i1⟩
  | 121 => ⟨S_, .i1⟩
  | 122 => ⟨S1000, .i1⟩
  | 123 => ⟨S1000, .i1⟩
  | 124 => ⟨S1000, .f32⟩
  | 125 => ⟨S_, .i32⟩
  | 126 => ⟨S1000, .i32⟩
  | 127 => ⟨S1000, .i1⟩
  | _ => ⟨S1x20000x2, .f32⟩

abbrev hbmTy0_2 (i : Nat) : BufTy := match i % 128 with
  | 0 => ⟨S_, .i32⟩
  | 1 => ⟨S1000, .i32⟩
  | 2 => ⟨S1000, .i32⟩
  | 3 => ⟨S1000, .i32⟩
  | 4 => ⟨S1000x1, .i32⟩
  | 5 => ⟨S1, .i32⟩
  | 6 => ⟨S_, .i32⟩
  | 7 => ⟨S1000x1, .i32⟩
  | 8 => ⟨S1000x1, .i1⟩
  | 9 => ⟨S1x1, .i32⟩
  | 10 => ⟨S1000x1, .i32⟩
  | 11 => ⟨S1000x1, .i1⟩
  | 12 => ⟨S1000x1, .i1⟩
  | 13 => ⟨S_, .i1⟩
  | 14 => ⟨S1000, .i1⟩
  | 15 => ⟨S1000, .f32⟩
  | 16 => ⟨S_, .f32⟩
  | 17 => ⟨S1000, .f32⟩
  | 18 => ⟨S1000, .f32⟩
  | 19 => ⟨S_, .i32⟩
  | 20 => ⟨S1000, .i32⟩
  | 21 => ⟨S1000, .i1⟩
  | 22 => ⟨S_, .i32⟩
  | 23 => ⟨S1000, .i32⟩
  | 24 => ⟨S1000, .i32⟩
  | 25 => ⟨S1000, .i32⟩
  | 26 => ⟨S1000x1, .i32⟩
  | 27 => ⟨S1, .i32⟩
  | 28 => ⟨S_, .i32⟩
  | 29 => ⟨S1000x1, .i32⟩
  | 30 => ⟨S1000x1, .i1⟩
  | 31 => ⟨S1x1, .i32⟩
  | 32 => ⟨S1000x1, .i32⟩
  | 33 => ⟨S1000x1, .i1⟩
  | 34 => ⟨S1000x1, .i1⟩
  | 35 => ⟨S_, .i1⟩
  | 36 => ⟨S1000, .i1⟩
  | 37 => ⟨S1000, .i32⟩
  | 38 => ⟨S_, .i32⟩
  | 39 => ⟨S1000, .i32⟩
  | 40 => ⟨S1000, .i32⟩
  | 41 => ⟨S1000, .f32⟩
  | 42 => ⟨S_, .f32⟩
  | 43 => ⟨S24x4, .f32⟩
  | 44 => ⟨S1024x4, .f32⟩
  | 45 => ⟨S_, .f32⟩
  | 46 => ⟨S24, .f32⟩
  | 47 => ⟨S1024, .f32⟩
  | 48 => ⟨S_, .f32⟩
  | 49 => ⟨S24, .f32⟩
  | 50 => ⟨S1024, .f32⟩
  | 51 => ⟨S_, .f32⟩
  | 52 => ⟨S24, .f32⟩
  | 53 => ⟨S1024, .f32⟩
  | 54 => ⟨S4x1024, .f32⟩
  | 55 => ⟨S1024x1, .f32⟩
  | 56 => ⟨S1x1024, .f32⟩
  | 57 => ⟨S1024x1, .f32⟩
  | 58 => ⟨S1x1024, .f32⟩
  | 59 => ⟨S1024x1, .f32⟩
  | 60 => ⟨S1x1024, .f32⟩
  | 61 => ⟨S128x4, .f32⟩
  | 62 => ⟨S128x1, .f32⟩
  | 63 => ⟨S128x1, .f32⟩
  | 64 => ⟨S100x4, .f32⟩
  | 65 => ⟨S100x1, .f32⟩
  | 66 => ⟨S100, .f32⟩
  | 67 => ⟨S100x1, .f32⟩
  | 68 => ⟨S100, .f32⟩
  | 69 => ⟨S100, .i32⟩
  | _ => ⟨S1x20000x2, .f32⟩

abbrev hbmTy (i : Nat) : BufTy := match i / 128 with
  | 0 => hbmTy0_0 i
  | 1 => hbmTy0_1 i
  | 2 => hbmTy0_2 i
  | _ => ⟨S1x20000x2, .f32⟩

abbrev bufTy : (tb : Table) → Fin (tcTables nBuf tb) → BufTy
  | .hbm, ⟨i, _⟩ => hbmTy i
  | .local _ .vmem, ⟨0, _⟩ => ⟨S20000x80, .f32⟩
  | .local _ .vmem, ⟨1, _⟩ => ⟨S20000x1, .f32⟩
  | .local _ .vmem, ⟨2, _⟩ => ⟨S20000x80, .f32⟩
  | .local _ .vmem, ⟨3, _⟩ => ⟨S1024x4, .f32⟩
  | .local _ .vmem, ⟨4, _⟩ => ⟨S4x1024, .f32⟩
  | .local _ .vmem, ⟨5, _⟩ => ⟨S1024x1, .f32⟩
  | .local _ .vmem, ⟨6, _⟩ => ⟨S1x1024, .f32⟩
  | .local _ .vmem, ⟨7, _⟩ => ⟨S1024x1, .f32⟩
  | .local _ .vmem, ⟨8, _⟩ => ⟨S1x1024, .f32⟩
  | .local _ .vmem, ⟨9, _⟩ => ⟨S1024x1, .f32⟩
  | .local _ .vmem, ⟨10, _⟩ => ⟨S1x1024, .f32⟩
  | .local _ .vmem, ⟨11, _⟩ => ⟨S128x4, .f32⟩
  | .local _ .vmem, ⟨12, _⟩ => ⟨S128x1, .f32⟩
  | .local _ .vmem, ⟨13, _⟩ => ⟨S128x1, .f32⟩
  | _, _ => ⟨S1x20000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_values : Ref sig .tc := ⟨.hbm, 24, rfl⟩
abbrev main_indices : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_2 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_c : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_0 : Ref sig .tc := ⟨.hbm, 48, rfl⟩
abbrev main_call0_v12 : Ref sig .tc := ⟨.hbm, 49, rfl⟩
abbrev main_call0_v13 : Ref sig .tc := ⟨.hbm, 50, rfl⟩
abbrev main_v23 : Ref sig .tc := ⟨.hbm, 51, rfl⟩
abbrev main_c_3 : Ref sig .tc := ⟨.hbm, 52, rfl⟩
abbrev main_call1_v0 : Ref sig .tc := ⟨.hbm, 53, rfl⟩
abbrev main_call1_c : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_c_1 : Ref sig .tc := ⟨.hbm, 60, rfl⟩
abbrev main_call1_v5 : Ref sig .tc := ⟨.hbm, 61, rfl⟩
abbrev main_call1_v6 : Ref sig .tc := ⟨.hbm, 62, rfl⟩
abbrev main_call1_c_2 : Ref sig .tc := ⟨.hbm, 63, rfl⟩
abbrev main_call1_v7 : Ref sig .tc := ⟨.hbm, 64, rfl⟩
abbrev main_call1_v8 : Ref sig .tc := ⟨.hbm, 65, rfl⟩
abbrev main_call1_c_3 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_v24 : Ref sig .tc := ⟨.hbm, 73, rfl⟩
abbrev main_c_4 : Ref sig .tc := ⟨.hbm, 74, rfl⟩
abbrev main_v25 : Ref sig .tc := ⟨.hbm, 75, rfl⟩
abbrev main_v26 : Ref sig .tc := ⟨.hbm, 76, rfl⟩
abbrev main_call2_c : Ref sig .tc := ⟨.hbm, 77, rfl⟩
abbrev main_call2_v0 : Ref sig .tc := ⟨.hbm, 78, rfl⟩
abbrev main_call2_v1 : Ref sig .tc := ⟨.hbm, 79, rfl⟩
abbrev main_call2_c_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_c_1 : Ref sig .tc := ⟨.hbm, 85, rfl⟩
abbrev main_call2_c_2 : Ref sig .tc := ⟨.hbm, 86, rfl⟩
abbrev main_call2_v6 : Ref sig .tc := ⟨.hbm, 87, rfl⟩
abbrev main_call2_v7 : Ref sig .tc := ⟨.hbm, 88, rfl⟩
abbrev main_call2_v8 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_c_3 : Ref sig .tc := ⟨.hbm, 93, rfl⟩
abbrev main_call2_v12 : Ref sig .tc := ⟨.hbm, 94, rfl⟩
abbrev main_call2_v13 : Ref sig .tc := ⟨.hbm, 95, rfl⟩
abbrev main_call2_v14 : Ref sig .tc := ⟨.hbm, 96, rfl⟩
abbrev main_call2_cst : Ref sig .tc := ⟨.hbm, 97, rfl⟩
abbrev main_call2_v15 : Ref sig .tc := ⟨.hbm, 98, rfl⟩
abbrev main_v27 : Ref sig .tc := ⟨.hbm, 99, rfl⟩
abbrev main_call3_c : Ref sig .tc := ⟨.hbm, 100, rfl⟩
abbrev main_call3_v0 : Ref sig .tc := ⟨.hbm, 101, rfl⟩
abbrev main_call3_v1 : Ref sig .tc := ⟨.hbm, 102, rfl⟩
abbrev main_call3_c_0 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_v5 : Ref sig .tc := ⟨.hbm, 107, rfl⟩
abbrev main_call3_c_1 : Ref sig .tc := ⟨.hbm, 108, rfl⟩
abbrev main_call3_c_2 : Ref sig .tc := ⟨.hbm, 109, rfl⟩
abbrev main_call3_v6 : Ref sig .tc := ⟨.hbm, 110, rfl⟩
abbrev main_call3_v7 : Ref sig .tc := ⟨.hbm, 111, rfl⟩
abbrev main_call3_v8 : Ref sig .tc := ⟨.hbm, 112, rfl⟩
abbrev main_call3_v9 : Ref sig .tc := ⟨.hbm, 113, rfl⟩
abbrev main_call3_v10 : Ref sig .tc := ⟨.hbm, 114, rfl⟩
abbrev main_call3_v11 : Ref sig .tc := ⟨.hbm, 115, rfl⟩
abbrev main_call3_c_3 : Ref sig .tc := ⟨.hbm, 116, rfl⟩
abbrev main_call3_v12 : Ref sig .tc := ⟨.hbm, 117, rfl⟩
abbrev main_call3_v13 : Ref sig .tc := ⟨.hbm, 118, rfl⟩
abbrev main_call3_v14 : Ref sig .tc := ⟨.hbm, 119, rfl⟩
abbrev main_call3_cst : Ref sig .tc := ⟨.hbm, 120, rfl⟩
abbrev main_call3_v15 : Ref sig .tc := ⟨.hbm, 121, rfl⟩
abbrev main_v28 : Ref sig .tc := ⟨.hbm, 122, rfl⟩
abbrev main_v29 : Ref sig .tc := ⟨.hbm, 123, rfl⟩
abbrev main_v30 : Ref sig .tc := ⟨.hbm, 124, rfl⟩
abbrev main_v31 : Ref sig .tc := ⟨.hbm, 125, rfl⟩
abbrev main_v32 : Ref sig .tc := ⟨.hbm, 126, rfl⟩
abbrev main_v33 : Ref sig .tc := ⟨.hbm, 127, rfl⟩
abbrev main_v34 : Ref sig .tc := ⟨.hbm, 128, rfl⟩
abbrev main_v35 : Ref sig .tc := ⟨.hbm, 129, rfl⟩
abbrev main_v36 : Ref sig .tc := ⟨.hbm, 130, rfl⟩
abbrev main_v37 : Ref sig .tc := ⟨.hbm, 131, rfl⟩
abbrev main_v38 : Ref sig .tc := ⟨.hbm, 132, rfl⟩
abbrev main_v39 : Ref sig .tc := ⟨.hbm, 133, rfl⟩
abbrev main_v40 : Ref sig .tc := ⟨.hbm, 134, rfl⟩
abbrev main_v41 : Ref sig .tc := ⟨.hbm, 135, rfl⟩
abbrev main_v42 : Ref sig .tc := ⟨.hbm, 136, rfl⟩
abbrev main_v43 : Ref sig .tc := ⟨.hbm, 137, rfl⟩
abbrev main_v44 : Ref sig .tc := ⟨.hbm, 138, rfl⟩
abbrev main_v45 : Ref sig .tc := ⟨.hbm, 139, rfl⟩
abbrev main_v46 : Ref sig .tc := ⟨.hbm, 140, rfl⟩
abbrev main_v47 : Ref sig .tc := ⟨.hbm, 141, rfl⟩
abbrev main_v48 : Ref sig .tc := ⟨.hbm, 142, rfl⟩
abbrev main_v49 : Ref sig .tc := ⟨.hbm, 143, rfl⟩
abbrev main_v50 : Ref sig .tc := ⟨.hbm, 144, rfl⟩
abbrev main_v51 : Ref sig .tc := ⟨.hbm, 145, rfl⟩
abbrev main_v52 : Ref sig .tc := ⟨.hbm, 146, rfl⟩
abbrev main_v53 : Ref sig .tc := ⟨.hbm, 147, rfl⟩
abbrev main_v54 : Ref sig .tc := ⟨.hbm, 148, rfl⟩
abbrev main_cst_5 : Ref sig .tc := ⟨.hbm, 149, rfl⟩
abbrev main_v55 : Ref sig .tc := ⟨.hbm, 150, rfl⟩
abbrev main_cst_6 : Ref sig .tc := ⟨.hbm, 151, rfl⟩
abbrev main_v56 : Ref sig .tc := ⟨.hbm, 152, rfl⟩
abbrev main_cst_7 : Ref sig .tc := ⟨.hbm, 153, rfl⟩
abbrev main_v57 : Ref sig .tc := ⟨.hbm, 154, rfl⟩
abbrev main_cst_8 : Ref sig .tc := ⟨.hbm, 155, rfl⟩
abbrev main_v58 : Ref sig .tc := ⟨.hbm, 156, rfl⟩
abbrev main_cst_9 : Ref sig .tc := ⟨.hbm, 157, rfl⟩
abbrev main_call4_v0 : Ref sig .tc := ⟨.hbm, 158, rfl⟩
abbrev main_call4_v1 : Ref sig .tc := ⟨.hbm, 159, rfl⟩
abbrev main_call4_v2 : Ref sig .tc := ⟨.hbm, 160, rfl⟩
abbrev main_call4_v3 : Ref sig .tc := ⟨.hbm, 161, rfl⟩
abbrev main_v59 : Ref sig .tc := ⟨.hbm, 162, rfl⟩
abbrev main_cst_10 : Ref sig .tc := ⟨.hbm, 163, rfl⟩
abbrev main_call5_v0 : Ref sig .tc := ⟨.hbm, 164, rfl⟩
abbrev main_call5_v1 : Ref sig .tc := ⟨.hbm, 165, rfl⟩
abbrev main_call5_v2 : Ref sig .tc := ⟨.hbm, 166, rfl⟩
abbrev main_call5_v3 : Ref sig .tc := ⟨.hbm, 167, rfl⟩
abbrev main_v60 : Ref sig .tc := ⟨.hbm, 168, rfl⟩
abbrev main_cst_11 : Ref sig .tc := ⟨.hbm, 169, rfl⟩
abbrev main_call6_v0 : Ref sig .tc := ⟨.hbm, 170, rfl⟩
abbrev main_call6_v1 : Ref sig .tc := ⟨.hbm, 171, rfl⟩
abbrev main_call6_v2 : Ref sig .tc := ⟨.hbm, 172, rfl⟩
abbrev main_call6_v3 : Ref sig .tc := ⟨.hbm, 173, rfl⟩
abbrev main_v61 : Ref sig .tc := ⟨.hbm, 174, rfl⟩
abbrev main_cst_12 : Ref sig .tc := ⟨.hbm, 175, rfl⟩
abbrev main_call7_v0 : Ref sig .tc := ⟨.hbm, 176, rfl⟩
abbrev main_call7_v1 : Ref sig .tc := ⟨.hbm, 177, rfl⟩
abbrev main_call7_v2 : Ref sig .tc := ⟨.hbm, 178, rfl⟩
abbrev main_call7_v3 : Ref sig .tc := ⟨.hbm, 179, rfl⟩
abbrev main_v62 : Ref sig .tc := ⟨.hbm, 180, rfl⟩
abbrev main_v63 : Ref sig .tc := ⟨.hbm, 181, rfl⟩
abbrev main_v64 : Ref sig .tc := ⟨.hbm, 182, rfl⟩
abbrev main_v65 : Ref sig .tc := ⟨.hbm, 183, rfl⟩
abbrev main_v66 : Ref sig .tc := ⟨.hbm, 184, rfl⟩
abbrev main_v67 : Ref sig .tc := ⟨.hbm, 185, rfl⟩
abbrev main_cst_13 : Ref sig .tc := ⟨.hbm, 186, rfl⟩
abbrev main_v68 : Ref sig .tc := ⟨.hbm, 187, rfl⟩
abbrev main_v69 : Ref sig .tc := ⟨.hbm, 188, rfl⟩
abbrev main_v70 : Ref sig .tc := ⟨.hbm, 189, rfl⟩
abbrev main_cst_14 : Ref sig .tc := ⟨.hbm, 190, rfl⟩
abbrev main_call8_v0 : Ref sig .tc := ⟨.hbm, 191, rfl⟩
abbrev main_call8_v1 : Ref sig .tc := ⟨.hbm, 192, rfl⟩
abbrev main_v71 : Ref sig .tc := ⟨.hbm, 193, rfl⟩
abbrev main_v72 : Ref sig .tc := ⟨.hbm, 194, rfl⟩
abbrev main_cst_15 : Ref sig .tc := ⟨.hbm, 195, rfl⟩
abbrev main_call9_v0 : Ref sig .tc := ⟨.hbm, 196, rfl⟩
abbrev main_call9_v1 : Ref sig .tc := ⟨.hbm, 197, rfl⟩
abbrev main_v73 : Ref sig .tc := ⟨.hbm, 198, rfl⟩
abbrev main_cst_16 : Ref sig .tc := ⟨.hbm, 199, rfl⟩
abbrev main_call10_v0 : Ref sig .tc := ⟨.hbm, 200, rfl⟩
abbrev main_call10_v1 : Ref sig .tc := ⟨.hbm, 201, rfl⟩
abbrev main_v74 : Ref sig .tc := ⟨.hbm, 202, rfl⟩
abbrev main_v75 : Ref sig .tc := ⟨.hbm, 203, rfl⟩
abbrev main_call11_v0 : Ref sig .tc := ⟨.hbm, 204, rfl⟩
abbrev main_call11_v1_0 : Ref sig .tc := ⟨.hbm, 205, rfl⟩
abbrev main_v76 : Ref sig .tc := ⟨.hbm, 206, rfl⟩
abbrev main_call12_c : Ref sig .tc := ⟨.hbm, 207, rfl⟩
abbrev main_call12_v0 : Ref sig .tc := ⟨.hbm, 208, rfl⟩
abbrev main_call12_v1 : Ref sig .tc := ⟨.hbm, 209, rfl⟩
abbrev main_call12_c_0 : Ref sig .tc := ⟨.hbm, 210, rfl⟩
abbrev main_call12_v2 : Ref sig .tc := ⟨.hbm, 211, rfl⟩
abbrev main_call12_v3 : Ref sig .tc := ⟨.hbm, 212, rfl⟩
abbrev main_call12_v4 : Ref sig .tc := ⟨.hbm, 213, rfl⟩
abbrev main_call12_v5 : Ref sig .tc := ⟨.hbm, 214, rfl⟩
abbrev main_call12_c_1 : Ref sig .tc := ⟨.hbm, 215, rfl⟩
abbrev main_call12_c_2 : Ref sig .tc := ⟨.hbm, 216, rfl⟩
abbrev main_call12_v6 : Ref sig .tc := ⟨.hbm, 217, rfl⟩
abbrev main_call12_v7 : Ref sig .tc := ⟨.hbm, 218, rfl⟩
abbrev main_call12_v8 : Ref sig .tc := ⟨.hbm, 219, rfl⟩
abbrev main_call12_v9 : Ref sig .tc := ⟨.hbm, 220, rfl⟩
abbrev main_call12_v10 : Ref sig .tc := ⟨.hbm, 221, rfl⟩
abbrev main_call12_v11 : Ref sig .tc := ⟨.hbm, 222, rfl⟩
abbrev main_call12_c_3 : Ref sig .tc := ⟨.hbm, 223, rfl⟩
abbrev main_call12_v12 : Ref sig .tc := ⟨.hbm, 224, rfl⟩
abbrev main_call12_v13 : Ref sig .tc := ⟨.hbm, 225, rfl⟩
abbrev main_call12_v14 : Ref sig .tc := ⟨.hbm, 226, rfl⟩
abbrev main_call12_cst : Ref sig .tc := ⟨.hbm, 227, rfl⟩
abbrev main_call12_v15 : Ref sig .tc := ⟨.hbm, 228, rfl⟩
abbrev main_v77 : Ref sig .tc := ⟨.hbm, 229, rfl⟩
abbrev main_call13_c : Ref sig .tc := ⟨.hbm, 230, rfl⟩
abbrev main_call13_v0 : Ref sig .tc := ⟨.hbm, 231, rfl⟩
abbrev main_call13_v1 : Ref sig .tc := ⟨.hbm, 232, rfl⟩
abbrev main_call13_c_0 : Ref sig .tc := ⟨.hbm, 233, rfl⟩
abbrev main_call13_v2 : Ref sig .tc := ⟨.hbm, 234, rfl⟩
abbrev main_call13_v3 : Ref sig .tc := ⟨.hbm, 235, rfl⟩
abbrev main_call13_v4 : Ref sig .tc := ⟨.hbm, 236, rfl⟩
abbrev main_call13_v5 : Ref sig .tc := ⟨.hbm, 237, rfl⟩
abbrev main_call13_c_1 : Ref sig .tc := ⟨.hbm, 238, rfl⟩
abbrev main_call13_c_2 : Ref sig .tc := ⟨.hbm, 239, rfl⟩
abbrev main_call13_v6 : Ref sig .tc := ⟨.hbm, 240, rfl⟩
abbrev main_call13_v7 : Ref sig .tc := ⟨.hbm, 241, rfl⟩
abbrev main_call13_v8 : Ref sig .tc := ⟨.hbm, 242, rfl⟩
abbrev main_call13_v9 : Ref sig .tc := ⟨.hbm, 243, rfl⟩
abbrev main_call13_v10 : Ref sig .tc := ⟨.hbm, 244, rfl⟩
abbrev main_call13_v11 : Ref sig .tc := ⟨.hbm, 245, rfl⟩
abbrev main_call13_c_3 : Ref sig .tc := ⟨.hbm, 246, rfl⟩
abbrev main_call13_v12 : Ref sig .tc := ⟨.hbm, 247, rfl⟩
abbrev main_call13_v13 : Ref sig .tc := ⟨.hbm, 248, rfl⟩
abbrev main_call13_c_4 : Ref sig .tc := ⟨.hbm, 249, rfl⟩
abbrev main_call13_v14 : Ref sig .tc := ⟨.hbm, 250, rfl⟩
abbrev main_v78 : Ref sig .tc := ⟨.hbm, 251, rfl⟩
abbrev main_v79 : Ref sig .tc := ⟨.hbm, 252, rfl⟩
abbrev main_call14_c : Ref sig .tc := ⟨.hbm, 253, rfl⟩
abbrev main_call14_v0 : Ref sig .tc := ⟨.hbm, 254, rfl⟩
abbrev main_call14_v1 : Ref sig .tc := ⟨.hbm, 255, rfl⟩
abbrev main_call14_c_0 : Ref sig .tc := ⟨.hbm, 256, rfl⟩
abbrev main_call14_v2 : Ref sig .tc := ⟨.hbm, 257, rfl⟩
abbrev main_call14_v3 : Ref sig .tc := ⟨.hbm, 258, rfl⟩
abbrev main_call14_v4 : Ref sig .tc := ⟨.hbm, 259, rfl⟩
abbrev main_call14_v5 : Ref sig .tc := ⟨.hbm, 260, rfl⟩
abbrev main_call14_c_1 : Ref sig .tc := ⟨.hbm, 261, rfl⟩
abbrev main_call14_c_2 : Ref sig .tc := ⟨.hbm, 262, rfl⟩
abbrev main_call14_v6 : Ref sig .tc := ⟨.hbm, 263, rfl⟩
abbrev main_call14_v7 : Ref sig .tc := ⟨.hbm, 264, rfl⟩
abbrev main_call14_v8 : Ref sig .tc := ⟨.hbm, 265, rfl⟩
abbrev main_call14_v9 : Ref sig .tc := ⟨.hbm, 266, rfl⟩
abbrev main_call14_v10 : Ref sig .tc := ⟨.hbm, 267, rfl⟩
abbrev main_call14_v11 : Ref sig .tc := ⟨.hbm, 268, rfl⟩
abbrev main_call14_c_3 : Ref sig .tc := ⟨.hbm, 269, rfl⟩
abbrev main_call14_v12 : Ref sig .tc := ⟨.hbm, 270, rfl⟩
abbrev main_call14_v13 : Ref sig .tc := ⟨.hbm, 271, rfl⟩
abbrev main_call14_cst : Ref sig .tc := ⟨.hbm, 272, rfl⟩
abbrev main_call14_v14 : Ref sig .tc := ⟨.hbm, 273, rfl⟩
abbrev main_v80 : Ref sig .tc := ⟨.hbm, 274, rfl⟩
abbrev main_call15_c : Ref sig .tc := ⟨.hbm, 275, rfl⟩
abbrev main_call15_v0 : Ref sig .tc := ⟨.hbm, 276, rfl⟩
abbrev main_call15_v1 : Ref sig .tc := ⟨.hbm, 277, rfl⟩
abbrev main_call15_c_0 : Ref sig .tc := ⟨.hbm, 278, rfl⟩
abbrev main_call15_v2 : Ref sig .tc := ⟨.hbm, 279, rfl⟩
abbrev main_call15_v3 : Ref sig .tc := ⟨.hbm, 280, rfl⟩
abbrev main_call15_v4 : Ref sig .tc := ⟨.hbm, 281, rfl⟩
abbrev main_call15_v5 : Ref sig .tc := ⟨.hbm, 282, rfl⟩
abbrev main_call15_c_1 : Ref sig .tc := ⟨.hbm, 283, rfl⟩
abbrev main_call15_c_2 : Ref sig .tc := ⟨.hbm, 284, rfl⟩
abbrev main_call15_v6 : Ref sig .tc := ⟨.hbm, 285, rfl⟩
abbrev main_call15_v7 : Ref sig .tc := ⟨.hbm, 286, rfl⟩
abbrev main_call15_v8 : Ref sig .tc := ⟨.hbm, 287, rfl⟩
abbrev main_call15_v9 : Ref sig .tc := ⟨.hbm, 288, rfl⟩
abbrev main_call15_v10 : Ref sig .tc := ⟨.hbm, 289, rfl⟩
abbrev main_call15_v11 : Ref sig .tc := ⟨.hbm, 290, rfl⟩
abbrev main_call15_c_3 : Ref sig .tc := ⟨.hbm, 291, rfl⟩
abbrev main_call15_v12 : Ref sig .tc := ⟨.hbm, 292, rfl⟩
abbrev main_call15_v13 : Ref sig .tc := ⟨.hbm, 293, rfl⟩
abbrev main_call15_c_4 : Ref sig .tc := ⟨.hbm, 294, rfl⟩
abbrev main_call15_v14 : Ref sig .tc := ⟨.hbm, 295, rfl⟩
abbrev main_v81 : Ref sig .tc := ⟨.hbm, 296, rfl⟩
abbrev main_v82 : Ref sig .tc := ⟨.hbm, 297, rfl⟩
abbrev main_cst_17 : Ref sig .tc := ⟨.hbm, 298, rfl⟩
abbrev main_v83 : Ref sig .tc := ⟨.hbm, 299, rfl⟩
abbrev main_v84 : Ref sig .tc := ⟨.hbm, 300, rfl⟩
abbrev main_cst_18 : Ref sig .tc := ⟨.hbm, 301, rfl⟩
abbrev main_v85 : Ref sig .tc := ⟨.hbm, 302, rfl⟩
abbrev main_v86 : Ref sig .tc := ⟨.hbm, 303, rfl⟩
abbrev main_cst_19 : Ref sig .tc := ⟨.hbm, 304, rfl⟩
abbrev main_v87 : Ref sig .tc := ⟨.hbm, 305, rfl⟩
abbrev main_v88 : Ref sig .tc := ⟨.hbm, 306, rfl⟩
abbrev main_cst_20 : Ref sig .tc := ⟨.hbm, 307, rfl⟩
abbrev main_v89 : Ref sig .tc := ⟨.hbm, 308, rfl⟩
abbrev main_v90 : Ref sig .tc := ⟨.hbm, 309, rfl⟩
abbrev main_v91 : Ref sig .tc := ⟨.hbm, 310, rfl⟩
abbrev main_v92 : Ref sig .tc := ⟨.hbm, 311, rfl⟩
abbrev main_v93 : Ref sig .tc := ⟨.hbm, 312, rfl⟩
abbrev main_v94 : Ref sig .tc := ⟨.hbm, 313, rfl⟩
abbrev main_v95 : Ref sig .tc := ⟨.hbm, 314, rfl⟩
abbrev main_v96 : Ref sig .tc := ⟨.hbm, 315, rfl⟩
abbrev main_v97 : Ref sig .tc := ⟨.hbm, 316, rfl⟩
abbrev main_v98_0 : Ref sig .tc := ⟨.hbm, 317, rfl⟩
abbrev main_v98_1 : Ref sig .tc := ⟨.hbm, 318, rfl⟩
abbrev main_v98_2 : Ref sig .tc := ⟨.hbm, 319, rfl⟩
abbrev main_v99 : Ref sig .tc := ⟨.hbm, 320, rfl⟩
abbrev main_v100 : Ref sig .tc := ⟨.hbm, 321, rfl⟩
abbrev main_v101 : Ref sig .tc := ⟨.hbm, 322, rfl⟩
abbrev main_v102 : Ref sig .tc := ⟨.hbm, 323, rfl⟩
abbrev main_v103 : Ref sig .tc := ⟨.hbm, 324, rfl⟩
abbrev main_v104 : Ref sig .tc := ⟨.hbm, 325, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg8_0 : Ref sig .tc := ⟨.vmem, 11, rfl⟩
abbrev cc1_stg9_0 : Ref sig .tc := ⟨.vmem, 12, rfl⟩
abbrev cc1_stg10_0 : Ref sig .tc := ⟨.vmem, 13, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc1_sem6_0 : DmaSem sig := 9
abbrev cc1_sem7_0 : DmaSem sig := 10
abbrev cc1_sem8_0 : DmaSem sig := 11
abbrev cc1_sem9_0 : DmaSem sig := 12
abbrev cc1_sem10_0 : DmaSem sig := 13

abbrev nD : Nat := 1
abbrev τ : Topo := Topo.v7x

variable {F : FTy → Type} [FloatOps F]

abbrev grid0 : Pipeline.Grid := .none

abbrev stage0_0 : Fin 1 → Memref sig .tc .vmem S20000x80 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20000x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S20000x80 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := .none

abbrev stage1_0 : Fin 1 → Memref sig .tc .vmem S1024x4 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1024x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1024x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1024x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S128x4 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S128x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S128x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
-- ==== ReferenceIdeal.lean ====
abbrev S1x20000x2 : Shape := ⟨3, ![1, 20000, 2]⟩
abbrev S1x1x80x100x200 : Shape := ⟨5, ![1, 1, 80, 100, 200]⟩
abbrev S1x1x4x100x200 : Shape := ⟨5, ![1, 1, 4, 100, 200]⟩
abbrev S1x1x1x100x200 : Shape := ⟨5, ![1, 1, 1, 100, 200]⟩
abbrev S1x2 : Shape := ⟨2, ![1, 2]⟩
abbrev S20000x2 : Shape := ⟨2, ![20000, 2]⟩
abbrev S1x80x100x200 : Shape := ⟨4, ![1, 80, 100, 200]⟩
abbrev S1x4x100x200 : Shape := ⟨4, ![1, 4, 100, 200]⟩
abbrev S1x1x100x200 : Shape := ⟨4, ![1, 1, 100, 200]⟩
abbrev S2 : Shape := ⟨1, ![2]⟩
abbrev S1x100x200x80 : Shape := ⟨4, ![1, 100, 200, 80]⟩
abbrev S1x20000x80 : Shape := ⟨3, ![1, 20000, 80]⟩
abbrev S1x100x200x4 : Shape := ⟨4, ![1, 100, 200, 4]⟩
abbrev S1x20000x4 : Shape := ⟨3, ![1, 20000, 4]⟩
abbrev S1x100x200x1 : Shape := ⟨4, ![1, 100, 200, 1]⟩
abbrev S1x20000 : Shape := ⟨2, ![1, 20000]⟩
abbrev S_ : Shape := ⟨0, ![]⟩
abbrev S1x20000x1 : Shape := ⟨3, ![1, 20000, 1]⟩
abbrev S20000x80 : Shape := ⟨2, ![20000, 80]⟩
abbrev S1600000 : Shape := ⟨1, ![1600000]⟩
abbrev S1000 : Shape := ⟨1, ![1000]⟩
abbrev S1000x1 : Shape := ⟨2, ![1000, 1]⟩
abbrev S1 : Shape := ⟨1, ![1]⟩
abbrev S1x1 : Shape := ⟨2, ![1, 1]⟩
abbrev S1000x2 : Shape := ⟨2, ![1000, 2]⟩
abbrev S20000x4 : Shape := ⟨2, ![20000, 4]⟩
abbrev S1000x4 : Shape := ⟨2, ![1000, 4]⟩
abbrev S100 : Shape := ⟨1, ![100]⟩
abbrev S100x1 : Shape := ⟨2, ![100, 1]⟩
abbrev S100x4 : Shape := ⟨2, ![100, 4]⟩

abbrev nBuf : Space → Nat
  | .hbm => 542
  | .vmem => 0
  | .smem => 0
  | _ => 0

abbrev hbmTy0_0 (i : Nat) : BufTy := match i % 128 with
  | 0 => ⟨S1x20000x2, .f32⟩
  | 1 => ⟨S1x1x80x100x200, .f32⟩
  | 2 => ⟨S1x1x4x100x200, .f32⟩
  | 3 => ⟨S1x1x1x100x200, .f32⟩
  | 4 => ⟨S1x2, .i32⟩
  | 5 => ⟨S20000x2, .f32⟩
  | 6 => ⟨S1x80x100x200, .f32⟩
  | 7 => ⟨S1x4x100x200, .f32⟩
  | 8 => ⟨S1x1x100x200, .f32⟩
  | 9 => ⟨S2, .i32⟩
  | 10 => ⟨S1x100x200x80, .f32⟩
  | 11 => ⟨S1x20000x80, .f32⟩
  | 12 => ⟨S1x100x200x4, .f32⟩
  | 13 => ⟨S1x20000x4, .f32⟩
  | 14 => ⟨S1x100x200x1, .f32⟩
  | 15 => ⟨S1x20000, .f32⟩
  | 16 => ⟨S_, .f32⟩
  | 17 => ⟨S1x20000x80, .f32⟩
  | 18 => ⟨S1x20000x80, .i1⟩
  | 19 => ⟨S1x20000x1, .f32⟩
  | 20 => ⟨S1x20000x80, .f32⟩
  | 21 => ⟨S1x20000x80, .f32⟩
  | 22 => ⟨S20000x80, .f32⟩
  | 23 => ⟨S1600000, .f32⟩
  | 24 => ⟨S20000x80, .i1⟩
  | 25 => ⟨S1600000, .i1⟩
  | 26 => ⟨S1600000, .i32⟩
  | 27 => ⟨S_, .i32⟩
  | 28 => ⟨S_, .i32⟩
  | 29 => ⟨S_, .i32⟩
  | 30 => ⟨S_, .i32⟩
  | 31 => ⟨S_, .f32⟩
  | 32 => ⟨S_, .f32⟩
  | 33 => ⟨S1600000, .f32⟩
  | 34 => ⟨S1600000, .f32⟩
  | 35 => ⟨S1000, .f32⟩
  | 36 => ⟨S1000, .i32⟩
  | 37 => ⟨S1000, .i32⟩
  | 38 => ⟨S1000, .i32⟩
  | 39 => ⟨S1000, .i1⟩
  | 40 => ⟨S1000, .f32⟩
  | 41 => ⟨S_, .f32⟩
  | 42 => ⟨S1000, .f32⟩
  | 43 => ⟨S1000, .i1⟩
  | 44 => ⟨S1000, .i1⟩
  | 45 => ⟨S_, .i32⟩
  | 46 => ⟨S_, .i32⟩
  | 47 => ⟨S1000, .i32⟩
  | 48 => ⟨S1000, .i32⟩
  | 49 => ⟨S1000, .i32⟩
  | 50 => ⟨S_, .i32⟩
  | 51 => ⟨S1000, .i32⟩
  | 52 => ⟨S1000, .i1⟩
  | 53 => ⟨S1000, .i32⟩
  | 54 => ⟨S1000, .i32⟩
  | 55 => ⟨S_, .i32⟩
  | 56 => ⟨S1000, .i32⟩
  | 57 => ⟨S1000, .i1⟩
  | 58 => ⟨S1000, .i1⟩
  | 59 => ⟨S_, .i32⟩
  | 60 => ⟨S1000, .i32⟩
  | 61 => ⟨S1000, .i32⟩
  | 62 => ⟨S1000, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S1000, .i32⟩
  | 70 => ⟨S1000, .i32⟩
  | 71 => ⟨S_, .i32⟩
  | 72 => ⟨S1000, .i32⟩
  | 73 => ⟨S1000, .i1⟩
  | 74 => ⟨S_, .i32⟩
  | 75 => ⟨S1000, .i32⟩
  | 76 => ⟨S1000, .i1⟩
  | 77 => ⟨S_, .i32⟩
  | 78 => ⟨S_, .i1⟩
  | 79 => ⟨S1000, .i1⟩
  | 80 => ⟨S1000, .i1⟩
  | 81 => ⟨S1000, .i1⟩
  | 82 => ⟨S1000, .i32⟩
  | 83 => ⟨S1000, .i32⟩
  | 84 => ⟨S1000, .i32⟩
  | 85 => ⟨S_, .i32⟩
  | 86 => ⟨S1000, .i32⟩
  | 87 => ⟨S1000, .i32⟩
  | 88 => ⟨S_, .i32⟩
  | 89 => ⟨S1000, .i32⟩
  | 90 => ⟨S1000, .i1⟩
  | 91 => ⟨S_, .i32⟩
  | 92 => ⟨S1000, .i32⟩
  | 93 => ⟨S1000, .i32⟩
  | 94 => ⟨S1000, .i32⟩
  | 95 => ⟨S1000x1, .i32⟩
  | 96 => ⟨S1, .i32⟩
  | 97 => ⟨S_, .i32⟩
  | 98 => ⟨S1000x1, .i32⟩
  | 99 => ⟨S1000x1, .i1⟩
  | 100 => ⟨S1x1, .i32⟩
  | 101 => ⟨S1000x1, .i32⟩
  | 102 => ⟨S1000x1, .i1⟩
  | 103 => ⟨S1000x1, .i1⟩
  | 104 => ⟨S_, .i1⟩
  | 105 => ⟨S1000, .i1⟩
  | 106 => ⟨S1000x2, .f32⟩
  | 107 => ⟨S1000x2, .i1⟩
  | 108 => ⟨S_, .f32⟩
  | 109 => ⟨S1000x2, .f32⟩
  | 110 => ⟨S1000x2, .f32⟩
  | 111 => ⟨S20000x4, .f32⟩
  | 112 => ⟨S_, .i32⟩
  | 113 => ⟨S1000, .i32⟩
  | 114 => ⟨S1000, .i1⟩
  | 115 => ⟨S_, .i32⟩
  | 116 => ⟨S1000, .i32⟩
  | 117 => ⟨S1000, .i32⟩
  | 118 => ⟨S1000, .i32⟩
  | 119 => ⟨S1000x1, .i32⟩
  | 120 => ⟨S1, .i32⟩
  | 121 => ⟨S_, .i32⟩
  | 122 => ⟨S1000x1, .i32⟩
  | 123 => ⟨S1000x1, .i1⟩
  | 124 => ⟨S1x1, .i32⟩
  | 125 => ⟨S1000x1, .i32⟩
  | 126 => ⟨S1000x1, .i1⟩
  | 127 => ⟨S1000x1, .i1⟩
  | _ => ⟨S1x20000x2, .f32⟩

abbrev hbmTy0_1 (i : Nat) : BufTy := match i % 128 with
  | 0 => ⟨S_, .i1⟩
  | 1 => ⟨S1000, .i1⟩
  | 2 => ⟨S1000x4, .f32⟩
  | 3 => ⟨S1000x4, .i1⟩
  | 4 => ⟨S_, .f32⟩
  | 5 => ⟨S1000x4, .f32⟩
  | 6 => ⟨S1000x4, .f32⟩
  | 7 => ⟨S1000x1, .f32⟩
  | 8 => ⟨S1000, .f32⟩
  | 9 => ⟨S1000x1, .f32⟩
  | 10 => ⟨S1000, .f32⟩
  | 11 => ⟨S1000, .f32⟩
  | 12 => ⟨S1000x1, .f32⟩
  | 13 => ⟨S1000, .f32⟩
  | 14 => ⟨S1000x1, .f32⟩
  | 15 => ⟨S1000, .f32⟩
  | 16 => ⟨S1000, .f32⟩
  | 17 => ⟨S1000x1, .f32⟩
  | 18 => ⟨S1000, .f32⟩
  | 19 => ⟨S1000x1, .f32⟩
  | 20 => ⟨S1000, .f32⟩
  | 21 => ⟨S1000, .f32⟩
  | 22 => ⟨S1000x1, .f32⟩
  | 23 => ⟨S1000, .f32⟩
  | 24 => ⟨S1000x1, .f32⟩
  | 25 => ⟨S1000, .f32⟩
  | 26 => ⟨S1000, .f32⟩
  | 27 => ⟨S1, .i32⟩
  | 28 => ⟨S_, .i32⟩
  | 29 => ⟨S_, .f32⟩
  | 30 => ⟨S1, .i32⟩
  | 31 => ⟨S_, .i32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S1000, .f32⟩
  | 43 => ⟨S1000, .f32⟩
  | 44 => ⟨S1000, .f32⟩
  | 45 => ⟨S1000, .f32⟩
  | 46 => ⟨S_, .f32⟩
  | 47 => ⟨S1000, .f32⟩
  | 48 => ⟨S1000, .f32⟩
  | 49 => ⟨S1000, .f32⟩
  | 50 => ⟨S1000, .f32⟩
  | 51 => ⟨S_, .f32⟩
  | 52 => ⟨S1000, .f32⟩
  | 53 => ⟨S1000, .f32⟩
  | 54 => ⟨S1000, .f32⟩
  | 55 => ⟨S1000, .f32⟩
  | 56 => ⟨S_, .f32⟩
  | 57 => ⟨S1000, .f32⟩
  | 58 => ⟨S1000, .f32⟩
  | 59 => ⟨S1000, .f32⟩
  | 60 => ⟨S1000, .f32⟩
  | 61 => ⟨S1000x1, .f32⟩
  | 62 => ⟨S1000x1, .f32⟩
  | 63 => ⟨S1000x1, .f32⟩
  | 64 => ⟨S1000x1, .f32⟩
  | 65 => ⟨S1000x4, .f32⟩
  | 66 => ⟨S_, .f32⟩
  | 67 => ⟨S1000, .f32⟩
  | 68 => ⟨S1000, .i1⟩
  | 69 => ⟨S1000, .i1⟩
  | 70 => ⟨S_, .f32⟩
  | 71 => ⟨S_, .f32⟩
  | 72 => ⟨S1000, .f32⟩
  | 73 => ⟨S1000, .f32⟩
  | 74 => ⟨S1000, .f32⟩
  | 75 => ⟨S_, .f32⟩
  | 76 => ⟨S_, .f32⟩
  | 77 => ⟨S1000, .f32⟩
  | 78 => ⟨S1000, .f32⟩
  | 79 => ⟨S1000, .f32⟩
  | 80 => ⟨S_, .f32⟩
  | 81 => ⟨S1000, .f32⟩
  | 82 => ⟨S1000, .f32⟩
  | 83 => ⟨S1000x1, .f32⟩
  | 84 => ⟨S1000x4, .f32⟩
  | 85 => ⟨S1000x4, .f32⟩
  | 86 => ⟨S_, .f32⟩
  | 87 => ⟨S_, .f32⟩
  | 88 => ⟨S1000, .f32⟩
  | 89 => ⟨S1000, .f32⟩
  | 90 => ⟨S1000, .f32⟩
  | 91 => ⟨S1000, .i32⟩
  | 92 => ⟨S1000, .f32⟩
  | 93 => ⟨S1000, .i32⟩
  | 94 => ⟨S_, .i32⟩
  | 95 => ⟨S1000, .i32⟩
  | 96 => ⟨S1000, .i1⟩
  | 97 => ⟨S_, .i32⟩
  | 98 => ⟨S1000, .i32⟩
  | 99 => ⟨S1000, .i32⟩
  | 100 => ⟨S1000, .i32⟩
  | 101 => ⟨S1000x1, .i32⟩
  | 102 => ⟨S1, .i32⟩
  | 103 => ⟨S_, .i32⟩
  | 104 => ⟨S1000x1, .i32⟩
  | 105 => ⟨S1000x1, .i1⟩
  | 106 => ⟨S1x1, .i32⟩
  | 107 => ⟨S1000x1, .i32⟩
  | 108 => ⟨S1000x1, .i1⟩
  | 109 => ⟨S1000x1, .i1⟩
  | 110 => ⟨S_, .i1⟩
  | 111 => ⟨S1000, .i1⟩
  | 112 => ⟨S1000x4, .f32⟩
  | 113 => ⟨S1000x4, .i1⟩
  | 114 => ⟨S_, .f32⟩
  | 115 => ⟨S1000x4, .f32⟩
  | 116 => ⟨S1000x4, .f32⟩
  | 117 => ⟨S_, .i32⟩
  | 118 => ⟨S1000, .i32⟩
  | 119 => ⟨S1000, .i1⟩
  | 120 => ⟨S_, .i32⟩
  | 121 => ⟨S1000, .i32⟩
  | 122 => ⟨S1000, .i32⟩
  | 123 => ⟨S1000, .i32⟩
  | 124 => ⟨S1000x1, .i32⟩
  | 125 => ⟨S1, .i32⟩
  | 126 => ⟨S_, .i32⟩
  | 127 => ⟨S1000x1, .i32⟩
  | _ => ⟨S1x20000x2, .f32⟩

abbrev hbmTy0_2 (i : Nat) : BufTy := match i % 128 with
  | 0 => ⟨S1000x1, .i1⟩
  | 1 => ⟨S1x1, .i32⟩
  | 2 => ⟨S1000x1, .i32⟩
  | 3 => ⟨S1000x1, .i1⟩
  | 4 => ⟨S1000x1, .i1⟩
  | 5 => ⟨S_, .i1⟩
  | 6 => ⟨S1000, .i1⟩
  | 7 => ⟨S1000, .i1⟩
  | 8 => ⟨S_, .i1⟩
  | 9 => ⟨S1000, .i1⟩
  | 10 => ⟨S1000, .i1⟩
  | 11 => ⟨S_, .i32⟩
  | 12 => ⟨S1000, .i32⟩
  | 13 => ⟨S1000, .i1⟩
  | 14 => ⟨S_, .i32⟩
  | 15 => ⟨S1000, .i32⟩
  | 16 => ⟨S1000, .i32⟩
  | 17 => ⟨S1000, .i32⟩
  | 18 => ⟨S1000x1, .i32⟩
  | 19 => ⟨S1, .i32⟩
  | 20 => ⟨S_, .i32⟩
  | 21 => ⟨S1000x1, .i32⟩
  | 22 => ⟨S1000x1, .i1⟩
  | 23 => ⟨S1x1, .i32⟩
  | 24 => ⟨S1000x1, .i32⟩
  | 25 => ⟨S1000x1, .i1⟩
  | 26 => ⟨S1000x1, .i1⟩
  | 27 => ⟨S_, .i1⟩
  | 28 => ⟨S1000, .i1⟩
  | 29 => ⟨S1000, .f32⟩
  | 30 => ⟨S_, .f32⟩
  | 31 => ⟨S1000, .f32⟩
  | 32 => ⟨S1000, .f32⟩
  | 33 => ⟨S1000x1, .f32⟩
  | 34 => ⟨S1000, .f32⟩
  | 35 => ⟨S1000x1, .f32⟩
  | 36 => ⟨S1000, .f32⟩
  | 37 => ⟨S1000, .f32⟩
  | 38 => ⟨S1000x1, .f32⟩
  | 39 => ⟨S1000, .f32⟩
  | 40 => ⟨S1000x1, .f32⟩
  | 41 => ⟨S1000, .f32⟩
  | 42 => ⟨S1000, .f32⟩
  | 43 => ⟨S1000, .f32⟩
  | 44 => ⟨S1000, .i32⟩
  | 45 => ⟨S_, .i32⟩
  | 46 => ⟨S_, .i32⟩
  | 47 => ⟨S1000x4, .f32⟩
  | 48 => ⟨S1000, .f32⟩
  | 49 => ⟨S1000, .i32⟩
  | 50 => ⟨S_, .i32⟩
  | 51 => ⟨S_, .i32⟩
  | 52 => ⟨S1000, .i1⟩
  | 53 => ⟨S_, .i32⟩
  | 54 => ⟨S_, .i1⟩
  | 55 => ⟨S_, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S_, .i32⟩
  | 69 => ⟨S_, .i32⟩
  | 70 => ⟨S_, .i32⟩
  | 71 => ⟨S1x1, .f32⟩
  | 72 => ⟨S_, .f32⟩
  | 73 => ⟨S1000x1, .f32⟩
  | 74 => ⟨S1000, .f32⟩
  | 75 => ⟨S1000, .f32⟩
  | 76 => ⟨S1000, .f32⟩
  | 77 => ⟨S_, .i32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S_, .i32⟩
  | 89 => ⟨S_, .i32⟩
  | 90 => ⟨S_, .i32⟩
  | 91 => ⟨S1x1, .f32⟩
  | 92 => ⟨S_, .f32⟩
  | 93 => ⟨S1000x1, .f32⟩
  | 94 => ⟨S1000, .f32⟩
  | 95 => ⟨S1000, .f32⟩
  | 96 => ⟨S1000, .f32⟩
  | 97 => ⟨S_, .i32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S_, .i32⟩
  | 111 => ⟨S1x1, .f32⟩
  | 112 => ⟨S_, .f32⟩
  | 113 => ⟨S1000x1, .f32⟩
  | 114 => ⟨S1000, .f32⟩
  | 115 => ⟨S1000, .f32⟩
  | 116 => ⟨S1000, .f32⟩
  | 117 => ⟨S_, .i32⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S1x20000x2, .f32⟩

abbrev hbmTy0_3 (i : Nat) : BufTy := match i % 128 with
  | 0 => ⟨S_, .i32⟩
  | 1 => ⟨S_, .i32⟩
  | 2 => ⟨S_, .i32⟩
  | 3 => ⟨S1x1, .f32⟩
  | 4 => ⟨S_, .f32⟩
  | 5 => ⟨S1000x1, .f32⟩
  | 6 => ⟨S1000, .f32⟩
  | 7 => ⟨S1000, .f32⟩
  | 8 => ⟨S1000, .f32⟩
  | 9 => ⟨S1000, .f32⟩
  | 10 => ⟨S_, .f32⟩
  | 11 => ⟨S1000, .f32⟩
  | 12 => ⟨S1000, .f32⟩
  | 13 => ⟨S1000, .f32⟩
  | 14 => ⟨S_, .f32⟩
  | 15 => ⟨S1000, .f32⟩
  | 16 => ⟨S1000, .f32⟩
  | 17 => ⟨S1000, .f32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S1, .f32⟩
  | 25 => ⟨S_, .f32⟩
  | 26 => ⟨S1000, .f32⟩
  | 27 => ⟨S1000, .f32⟩
  | 28 => ⟨S1000, .f32⟩
  | 29 => ⟨S_, .f32⟩
  | 30 => ⟨S1000, .f32⟩
  | 31 => ⟨S1000, .f32⟩
  | 32 => ⟨S1000, .f32⟩
  | 33 => ⟨S_, .f32⟩
  | 34 => ⟨S1000, .f32⟩
  | 35 => ⟨S1000, .i1⟩
  | 36 => ⟨S_, .i32⟩
  | 37 => ⟨S1000, .i32⟩
  | 38 => ⟨S1000, .i1⟩
  | 39 => ⟨S1000, .i1⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S1, .i1⟩
  | 47 => ⟨S_, .i1⟩
  | 48 => ⟨S1000, .i1⟩
  | 49 => ⟨S1000, .i1⟩
  | 50 => ⟨S1000, .i1⟩
  | 51 => ⟨S1000, .i1⟩
  | 52 => ⟨S_, .i32⟩
  | 53 => ⟨S_, .i32⟩
  | 54 => ⟨S_, .f32⟩
  | 55 => ⟨S_, .f32⟩
  | 56 => ⟨S1000, .f32⟩
  | 57 => ⟨S1000, .f32⟩
  | 58 => ⟨S100, .f32⟩
  | 59 => ⟨S100, .i32⟩
  | 60 => ⟨S_, .i32⟩
  | 61 => ⟨S1000, .i32⟩
  | 62 => ⟨S1000, .i1⟩
  | 63 => ⟨S_, .i32⟩
  | 64 => ⟨S1000, .i32⟩
  | 65 => ⟨S1000, .i32⟩
  | 66 => ⟨S1000, .i32⟩
  | 67 => ⟨S1000x1, .i32⟩
  | 68 => ⟨S1, .i32⟩
  | 69 => ⟨S_, .i32⟩
  | 70 => ⟨S1000x1, .i32⟩
  | 71 => ⟨S1000x1, .i1⟩
  | 72 => ⟨S1x1, .i32⟩
  | 73 => ⟨S1000x1, .i32⟩
  | 74 => ⟨S1000x1, .i1⟩
  | 75 => ⟨S1000x1, .i1⟩
  | 76 => ⟨S_, .i1⟩
  | 77 => ⟨S1000, .i1⟩
  | 78 => ⟨S1000x4, .f32⟩
  | 79 => ⟨S1000x4, .i1⟩
  | 80 => ⟨S_, .f32⟩
  | 81 => ⟨S1000x4, .f32⟩
  | 82 => ⟨S1000x4, .f32⟩
  | 83 => ⟨S_, .i32⟩
  | 84 => ⟨S100, .i32⟩
  | 85 => ⟨S100, .i1⟩
  | 86 => ⟨S_, .i32⟩
  | 87 => ⟨S100, .i32⟩
  | 88 => ⟨S100, .i32⟩
  | 89 => ⟨S100, .i32⟩
  | 90 => ⟨S100x1, .i32⟩
  | 91 => ⟨S1, .i32⟩
  | 92 => ⟨S_, .i32⟩
  | 93 => ⟨S100x1, .i32⟩
  | 94 => ⟨S100x1, .i1⟩
  | 95 => ⟨S1x1, .i32⟩
  | 96 => ⟨S100x1, .i32⟩
  | 97 => ⟨S100x1, .i1⟩
  | 98 => ⟨S100x1, .i1⟩
  | 99 => ⟨S_, .i1⟩
  | 100 => ⟨S100, .i1⟩
  | 101 => ⟨S100x4, .f32⟩
  | 102 => ⟨S100x4, .i1⟩
  | 103 => ⟨S_, .f32⟩
  | 104 => ⟨S100x4, .f32⟩
  | 105 => ⟨S100x4, .f32⟩
  | 106 => ⟨S_, .i32⟩
  | 107 => ⟨S1000, .i32⟩
  | 108 => ⟨S1000, .i1⟩
  | 109 => ⟨S_, .i32⟩
  | 110 => ⟨S1000, .i32⟩
  | 111 => ⟨S1000, .i32⟩
  | 112 => ⟨S1000, .i32⟩
  | 113 => ⟨S1000x1, .i32⟩
  | 114 => ⟨S1, .i32⟩
  | 115 => ⟨S_, .i32⟩
  | 116 => ⟨S1000x1, .i32⟩
  | 117 => ⟨S1000x1, .i1⟩
  | 118 => ⟨S1x1, .i32⟩
  | 119 => ⟨S1000x1, .i32⟩
  | 120 => ⟨S1000x1, .i1⟩
  | 121 => ⟨S1000x1, .i1⟩
  | 122 => ⟨S_, .i1⟩
  | 123 => ⟨S1000, .i1⟩
  | 124 => ⟨S1000, .i32⟩
  | 125 => ⟨S_, .i32⟩
  | 126 => ⟨S1000, .i32⟩
  | 127 => ⟨S1000, .i32⟩
  | _ => ⟨S1x20000x2, .f32⟩

abbrev hbmTy0_4 (i : Nat) : BufTy := match i % 128 with
  | 0 => ⟨S_, .i32⟩
  | 1 => ⟨S100, .i32⟩
  | 2 => ⟨S100, .i1⟩
  | 3 => ⟨S_, .i32⟩
  | 4 => ⟨S100, .i32⟩
  | 5 => ⟨S100, .i32⟩
  | 6 => ⟨S100, .i32⟩
  | 7 => ⟨S100x1, .i32⟩
  | 8 => ⟨S1, .i32⟩
  | 9 => ⟨S_, .i32⟩
  | 10 => ⟨S100x1, .i32⟩
  | 11 => ⟨S100x1, .i1⟩
  | 12 => ⟨S1x1, .i32⟩
  | 13 => ⟨S100x1, .i32⟩
  | 14 => ⟨S100x1, .i1⟩
  | 15 => ⟨S100x1, .i1⟩
  | 16 => ⟨S_, .i1⟩
  | 17 => ⟨S100, .i1⟩
  | 18 => ⟨S100, .i32⟩
  | 19 => ⟨S_, .i32⟩
  | 20 => ⟨S100, .i32⟩
  | 21 => ⟨S100, .i32⟩
  | 22 => ⟨S100, .f32⟩
  | 23 => ⟨S_, .f32⟩
  | 24 => ⟨S100, .f32⟩
  | 25 => ⟨S100, .i1⟩
  | 26 => ⟨S_, .f32⟩
  | 27 => ⟨S_, .f32⟩
  | 28 => ⟨S100, .f32⟩
  | 29 => ⟨S100, .f32⟩
  | _ => ⟨S1x20000x2, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1x20000x2, .f32⟩

abbrev bufTy : (tb : Table) → Fin (tcTables nBuf tb) → BufTy
  | .hbm, ⟨i, _⟩ => hbmTy i
  | _, _ => ⟨S1x20000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_v21 : Ref sig .tc := ⟨.hbm, 28, rfl⟩
abbrev main_c_0 : Ref sig .tc := ⟨.hbm, 29, rfl⟩
abbrev main_v22 : Ref sig .tc := ⟨.hbm, 30, rfl⟩
abbrev main_cst_1 : Ref sig .tc := ⟨.hbm, 31, rfl⟩
abbrev main_call0_v0 : Ref sig .tc := ⟨.hbm, 32, rfl⟩
abbrev main_call0_v1 : Ref sig .tc := ⟨.hbm, 33, rfl⟩
abbrev main_v23 : Ref sig .tc := ⟨.hbm, 34, rfl⟩
abbrev main_values : Ref sig .tc := ⟨.hbm, 35, rfl⟩
abbrev main_indices : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_3 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_c : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_0 : Ref sig .tc := ⟨.hbm, 59, rfl⟩
abbrev main_call1_v12 : Ref sig .tc := ⟨.hbm, 60, rfl⟩
abbrev main_call1_v13 : Ref sig .tc := ⟨.hbm, 61, rfl⟩
abbrev main_v31 : Ref sig .tc := ⟨.hbm, 62, rfl⟩
abbrev main_c_4 : Ref sig .tc := ⟨.hbm, 63, rfl⟩
abbrev main_call2_v0 : Ref sig .tc := ⟨.hbm, 64, rfl⟩
abbrev main_call2_c : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_1 : Ref sig .tc := ⟨.hbm, 71, rfl⟩
abbrev main_call2_v5 : Ref sig .tc := ⟨.hbm, 72, rfl⟩
abbrev main_call2_v6 : Ref sig .tc := ⟨.hbm, 73, rfl⟩
abbrev main_call2_c_2 : Ref sig .tc := ⟨.hbm, 74, rfl⟩
abbrev main_call2_v7 : Ref sig .tc := ⟨.hbm, 75, rfl⟩
abbrev main_call2_v8 : Ref sig .tc := ⟨.hbm, 76, rfl⟩
abbrev main_call2_c_3 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_v32 : Ref sig .tc := ⟨.hbm, 84, rfl⟩
abbrev main_c_5 : Ref sig .tc := ⟨.hbm, 85, rfl⟩
abbrev main_v33 : Ref sig .tc := ⟨.hbm, 86, rfl⟩
abbrev main_v34 : Ref sig .tc := ⟨.hbm, 87, rfl⟩
abbrev main_call3_c : Ref sig .tc := ⟨.hbm, 88, rfl⟩
abbrev main_call3_v0 : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_c_1 : Ref sig .tc := ⟨.hbm, 96, rfl⟩
abbrev main_call3_c_2 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_3 : Ref sig .tc := ⟨.hbm, 104, rfl⟩
abbrev main_call3_v12 : Ref sig .tc := ⟨.hbm, 105, rfl⟩
abbrev main_call3_v13 : Ref sig .tc := ⟨.hbm, 106, rfl⟩
abbrev main_call3_v14 : Ref sig .tc := ⟨.hbm, 107, rfl⟩
abbrev main_call3_cst : Ref sig .tc := ⟨.hbm, 108, rfl⟩
abbrev main_call3_v15 : Ref sig .tc := ⟨.hbm, 109, rfl⟩
abbrev main_v35 : Ref sig .tc := ⟨.hbm, 110, rfl⟩
abbrev main_v36 : Ref sig .tc := ⟨.hbm, 111, rfl⟩
abbrev main_call4_c : Ref sig .tc := ⟨.hbm, 112, rfl⟩
abbrev main_call4_v0 : Ref sig .tc := ⟨.hbm, 113, rfl⟩
abbrev main_call4_v1 : Ref sig .tc := ⟨.hbm, 114, rfl⟩
abbrev main_call4_c_0 : Ref sig .tc := ⟨.hbm, 115, rfl⟩
abbrev main_call4_v2 : Ref sig .tc := ⟨.hbm, 116, rfl⟩
abbrev main_call4_v3 : Ref sig .tc := ⟨.hbm, 117, rfl⟩
abbrev main_call4_v4 : Ref sig .tc := ⟨.hbm, 118, rfl⟩
abbrev main_call4_v5 : Ref sig .tc := ⟨.hbm, 119, rfl⟩
abbrev main_call4_c_1 : Ref sig .tc := ⟨.hbm, 120, rfl⟩
abbrev main_call4_c_2 : Ref sig .tc := ⟨.hbm, 121, rfl⟩
abbrev main_call4_v6 : Ref sig .tc := ⟨.hbm, 122, rfl⟩
abbrev main_call4_v7 : Ref sig .tc := ⟨.hbm, 123, rfl⟩
abbrev main_call4_v8 : Ref sig .tc := ⟨.hbm, 124, rfl⟩
abbrev main_call4_v9 : Ref sig .tc := ⟨.hbm, 125, rfl⟩
abbrev main_call4_v10 : Ref sig .tc := ⟨.hbm, 126, rfl⟩
abbrev main_call4_v11 : Ref sig .tc := ⟨.hbm, 127, rfl⟩
abbrev main_call4_c_3 : Ref sig .tc := ⟨.hbm, 128, rfl⟩
abbrev main_call4_v12 : Ref sig .tc := ⟨.hbm, 129, rfl⟩
abbrev main_call4_v13 : Ref sig .tc := ⟨.hbm, 130, rfl⟩
abbrev main_call4_v14 : Ref sig .tc := ⟨.hbm, 131, rfl⟩
abbrev main_call4_cst : Ref sig .tc := ⟨.hbm, 132, rfl⟩
abbrev main_call4_v15 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩
abbrev main_v45 : Ref sig .tc := ⟨.hbm, 142, rfl⟩
abbrev main_v46 : Ref sig .tc := ⟨.hbm, 143, rfl⟩
abbrev main_v47 : Ref sig .tc := ⟨.hbm, 144, rfl⟩
abbrev main_v48 : Ref sig .tc := ⟨.hbm, 145, rfl⟩
abbrev main_v49 : Ref sig .tc := ⟨.hbm, 146, rfl⟩
abbrev main_v50 : Ref sig .tc := ⟨.hbm, 147, rfl⟩
abbrev main_v51 : Ref sig .tc := ⟨.hbm, 148, rfl⟩
abbrev main_v52 : Ref sig .tc := ⟨.hbm, 149, rfl⟩
abbrev main_v53 : Ref sig .tc := ⟨.hbm, 150, rfl⟩
abbrev main_v54 : Ref sig .tc := ⟨.hbm, 151, rfl⟩
abbrev main_v55 : Ref sig .tc := ⟨.hbm, 152, rfl⟩
abbrev main_v56 : Ref sig .tc := ⟨.hbm, 153, rfl⟩
abbrev main_v57 : Ref sig .tc := ⟨.hbm, 154, rfl⟩
abbrev main_v58 : Ref sig .tc := ⟨.hbm, 155, rfl⟩
abbrev main_v59 : Ref sig .tc := ⟨.hbm, 156, rfl⟩
abbrev main_v60 : Ref sig .tc := ⟨.hbm, 157, rfl⟩
abbrev main_v61 : Ref sig .tc := ⟨.hbm, 158, rfl⟩
abbrev main_v62 : Ref sig .tc := ⟨.hbm, 159, rfl⟩
abbrev main_v63 : Ref sig .tc := ⟨.hbm, 160, rfl⟩
abbrev main_cst_6 : Ref sig .tc := ⟨.hbm, 161, rfl⟩
abbrev main_v64 : Ref sig .tc := ⟨.hbm, 162, rfl⟩
abbrev main_cst_7 : Ref sig .tc := ⟨.hbm, 163, rfl⟩
abbrev main_v65 : Ref sig .tc := ⟨.hbm, 164, rfl⟩
abbrev main_cst_8 : Ref sig .tc := ⟨.hbm, 165, rfl⟩
abbrev main_v66 : Ref sig .tc := ⟨.hbm, 166, rfl⟩
abbrev main_cst_9 : Ref sig .tc := ⟨.hbm, 167, rfl⟩
abbrev main_v67 : Ref sig .tc := ⟨.hbm, 168, rfl⟩
abbrev main_cst_10 : Ref sig .tc := ⟨.hbm, 169, rfl⟩
abbrev main_v68 : Ref sig .tc := ⟨.hbm, 170, rfl⟩
abbrev main_v69 : Ref sig .tc := ⟨.hbm, 171, rfl⟩
abbrev main_v70 : Ref sig .tc := ⟨.hbm, 172, rfl⟩
abbrev main_v71 : Ref sig .tc := ⟨.hbm, 173, rfl⟩
abbrev main_cst_11 : Ref sig .tc := ⟨.hbm, 174, rfl⟩
abbrev main_v72 : Ref sig .tc := ⟨.hbm, 175, rfl⟩
abbrev main_v73 : Ref sig .tc := ⟨.hbm, 176, rfl⟩
abbrev main_v74 : Ref sig .tc := ⟨.hbm, 177, rfl⟩
abbrev main_v75 : Ref sig .tc := ⟨.hbm, 178, rfl⟩
abbrev main_cst_12 : Ref sig .tc := ⟨.hbm, 179, rfl⟩
abbrev main_v76 : Ref sig .tc := ⟨.hbm, 180, rfl⟩
abbrev main_v77 : Ref sig .tc := ⟨.hbm, 181, rfl⟩
abbrev main_v78 : Ref sig .tc := ⟨.hbm, 182, rfl⟩
abbrev main_v79 : Ref sig .tc := ⟨.hbm, 183, rfl⟩
abbrev main_cst_13 : Ref sig .tc := ⟨.hbm, 184, rfl⟩
abbrev main_v80 : Ref sig .tc := ⟨.hbm, 185, rfl⟩
abbrev main_v81 : Ref sig .tc := ⟨.hbm, 186, rfl⟩
abbrev main_v82 : Ref sig .tc := ⟨.hbm, 187, rfl⟩
abbrev main_v83 : Ref sig .tc := ⟨.hbm, 188, rfl⟩
abbrev main_v84 : Ref sig .tc := ⟨.hbm, 189, rfl⟩
abbrev main_v85 : Ref sig .tc := ⟨.hbm, 190, rfl⟩
abbrev main_v86 : Ref sig .tc := ⟨.hbm, 191, rfl⟩
abbrev main_v87 : Ref sig .tc := ⟨.hbm, 192, rfl⟩
abbrev main_v88 : Ref sig .tc := ⟨.hbm, 193, rfl⟩
abbrev main_cst_14 : Ref sig .tc := ⟨.hbm, 194, rfl⟩
abbrev main_v89 : Ref sig .tc := ⟨.hbm, 195, rfl⟩
abbrev main_v90 : Ref sig .tc := ⟨.hbm, 196, rfl⟩
abbrev main_v91 : Ref sig .tc := ⟨.hbm, 197, rfl⟩
abbrev main_cst_15 : Ref sig .tc := ⟨.hbm, 198, rfl⟩
abbrev main_call5_v0 : Ref sig .tc := ⟨.hbm, 199, rfl⟩
abbrev main_call5_v1 : Ref sig .tc := ⟨.hbm, 200, rfl⟩
abbrev main_v92 : Ref sig .tc := ⟨.hbm, 201, rfl⟩
abbrev main_v93 : Ref sig .tc := ⟨.hbm, 202, rfl⟩
abbrev main_cst_16 : Ref sig .tc := ⟨.hbm, 203, rfl⟩
abbrev main_call6_v0 : Ref sig .tc := ⟨.hbm, 204, rfl⟩
abbrev main_call6_v1 : Ref sig .tc := ⟨.hbm, 205, rfl⟩
abbrev main_v94 : Ref sig .tc := ⟨.hbm, 206, rfl⟩
abbrev main_v95 : Ref sig .tc := ⟨.hbm, 207, rfl⟩
abbrev main_cst_17 : Ref sig .tc := ⟨.hbm, 208, rfl⟩
abbrev main_v96 : Ref sig .tc := ⟨.hbm, 209, rfl⟩
abbrev main_v97 : Ref sig .tc := ⟨.hbm, 210, rfl⟩
abbrev main_v98 : Ref sig .tc := ⟨.hbm, 211, rfl⟩
abbrev main_v99 : Ref sig .tc := ⟨.hbm, 212, rfl⟩
abbrev main_v100 : Ref sig .tc := ⟨.hbm, 213, rfl⟩
abbrev main_cst_18 : Ref sig .tc := ⟨.hbm, 214, rfl⟩
abbrev main_call7_v0 : Ref sig .tc := ⟨.hbm, 215, rfl⟩
abbrev main_call7_v1 : Ref sig .tc := ⟨.hbm, 216, rfl⟩
abbrev main_v101 : Ref sig .tc := ⟨.hbm, 217, rfl⟩
abbrev main_v102 : Ref sig .tc := ⟨.hbm, 218, rfl⟩
abbrev main_call8_v0 : Ref sig .tc := ⟨.hbm, 219, rfl⟩
abbrev main_call8_v1_0 : Ref sig .tc := ⟨.hbm, 220, rfl⟩
abbrev main_v103 : Ref sig .tc := ⟨.hbm, 221, rfl⟩
abbrev main_call9_c : Ref sig .tc := ⟨.hbm, 222, rfl⟩
abbrev main_call9_v0 : Ref sig .tc := ⟨.hbm, 223, rfl⟩
abbrev main_call9_v1 : Ref sig .tc := ⟨.hbm, 224, rfl⟩
abbrev main_call9_c_0 : Ref sig .tc := ⟨.hbm, 225, rfl⟩
abbrev main_call9_v2 : Ref sig .tc := ⟨.hbm, 226, rfl⟩
abbrev main_call9_v3 : Ref sig .tc := ⟨.hbm, 227, rfl⟩
abbrev main_call9_v4 : Ref sig .tc := ⟨.hbm, 228, rfl⟩
abbrev main_call9_v5 : Ref sig .tc := ⟨.hbm, 229, rfl⟩
abbrev main_call9_c_1 : Ref sig .tc := ⟨.hbm, 230, rfl⟩
abbrev main_call9_c_2 : Ref sig .tc := ⟨.hbm, 231, rfl⟩
abbrev main_call9_v6 : Ref sig .tc := ⟨.hbm, 232, rfl⟩
abbrev main_call9_v7 : Ref sig .tc := ⟨.hbm, 233, rfl⟩
abbrev main_call9_v8 : Ref sig .tc := ⟨.hbm, 234, rfl⟩
abbrev main_call9_v9 : Ref sig .tc := ⟨.hbm, 235, rfl⟩
abbrev main_call9_v10 : Ref sig .tc := ⟨.hbm, 236, rfl⟩
abbrev main_call9_v11 : Ref sig .tc := ⟨.hbm, 237, rfl⟩
abbrev main_call9_c_3 : Ref sig .tc := ⟨.hbm, 238, rfl⟩
abbrev main_call9_v12 : Ref sig .tc := ⟨.hbm, 239, rfl⟩
abbrev main_call9_v13 : Ref sig .tc := ⟨.hbm, 240, rfl⟩
abbrev main_call9_v14 : Ref sig .tc := ⟨.hbm, 241, rfl⟩
abbrev main_call9_cst : Ref sig .tc := ⟨.hbm, 242, rfl⟩
abbrev main_call9_v15 : Ref sig .tc := ⟨.hbm, 243, rfl⟩
abbrev main_v104 : Ref sig .tc := ⟨.hbm, 244, rfl⟩
abbrev main_call10_c : Ref sig .tc := ⟨.hbm, 245, rfl⟩
abbrev main_call10_v0 : Ref sig .tc := ⟨.hbm, 246, rfl⟩
abbrev main_call10_v1 : Ref sig .tc := ⟨.hbm, 247, rfl⟩
abbrev main_call10_c_0 : Ref sig .tc := ⟨.hbm, 248, rfl⟩
abbrev main_call10_v2 : Ref sig .tc := ⟨.hbm, 249, rfl⟩
abbrev main_call10_v3 : Ref sig .tc := ⟨.hbm, 250, rfl⟩
abbrev main_call10_v4 : Ref sig .tc := ⟨.hbm, 251, rfl⟩
abbrev main_call10_v5 : Ref sig .tc := ⟨.hbm, 252, rfl⟩
abbrev main_call10_c_1 : Ref sig .tc := ⟨.hbm, 253, rfl⟩
abbrev main_call10_c_2 : Ref sig .tc := ⟨.hbm, 254, rfl⟩
abbrev main_call10_v6 : Ref sig .tc := ⟨.hbm, 255, rfl⟩
abbrev main_call10_v7 : Ref sig .tc := ⟨.hbm, 256, rfl⟩
abbrev main_call10_v8 : Ref sig .tc := ⟨.hbm, 257, rfl⟩
abbrev main_call10_v9 : Ref sig .tc := ⟨.hbm, 258, rfl⟩
abbrev main_call10_v10 : Ref sig .tc := ⟨.hbm, 259, rfl⟩
abbrev main_call10_v11 : Ref sig .tc := ⟨.hbm, 260, rfl⟩
abbrev main_call10_c_3 : Ref sig .tc := ⟨.hbm, 261, rfl⟩
abbrev main_call10_v12 : Ref sig .tc := ⟨.hbm, 262, rfl⟩
abbrev main_call10_v13 : Ref sig .tc := ⟨.hbm, 263, rfl⟩
abbrev main_call10_c_4 : Ref sig .tc := ⟨.hbm, 264, rfl⟩
abbrev main_call10_v14 : Ref sig .tc := ⟨.hbm, 265, rfl⟩
abbrev main_v105 : Ref sig .tc := ⟨.hbm, 266, rfl⟩
abbrev main_call11_c : Ref sig .tc := ⟨.hbm, 267, rfl⟩
abbrev main_call11_v0 : Ref sig .tc := ⟨.hbm, 268, rfl⟩
abbrev main_call11_v1 : Ref sig .tc := ⟨.hbm, 269, rfl⟩
abbrev main_call11_c_0 : Ref sig .tc := ⟨.hbm, 270, rfl⟩
abbrev main_call11_v2 : Ref sig .tc := ⟨.hbm, 271, rfl⟩
abbrev main_call11_v3 : Ref sig .tc := ⟨.hbm, 272, rfl⟩
abbrev main_call11_v4 : Ref sig .tc := ⟨.hbm, 273, rfl⟩
abbrev main_call11_v5 : Ref sig .tc := ⟨.hbm, 274, rfl⟩
abbrev main_call11_c_1 : Ref sig .tc := ⟨.hbm, 275, rfl⟩
abbrev main_call11_c_2 : Ref sig .tc := ⟨.hbm, 276, rfl⟩
abbrev main_call11_v6 : Ref sig .tc := ⟨.hbm, 277, rfl⟩
abbrev main_call11_v7 : Ref sig .tc := ⟨.hbm, 278, rfl⟩
abbrev main_call11_v8 : Ref sig .tc := ⟨.hbm, 279, rfl⟩
abbrev main_call11_v9 : Ref sig .tc := ⟨.hbm, 280, rfl⟩
abbrev main_call11_v10 : Ref sig .tc := ⟨.hbm, 281, rfl⟩
abbrev main_call11_v11 : Ref sig .tc := ⟨.hbm, 282, rfl⟩
abbrev main_call11_c_3 : Ref sig .tc := ⟨.hbm, 283, rfl⟩
abbrev main_call11_v12 : Ref sig .tc := ⟨.hbm, 284, rfl⟩
abbrev main_call11_v13 : Ref sig .tc := ⟨.hbm, 285, rfl⟩
abbrev main_call11_cst : Ref sig .tc := ⟨.hbm, 286, rfl⟩
abbrev main_call11_v14 : Ref sig .tc := ⟨.hbm, 287, rfl⟩
abbrev main_v106 : Ref sig .tc := ⟨.hbm, 288, rfl⟩
abbrev main_v107 : Ref sig .tc := ⟨.hbm, 289, rfl⟩
abbrev main_v108 : Ref sig .tc := ⟨.hbm, 290, rfl⟩
abbrev main_v109 : Ref sig .tc := ⟨.hbm, 291, rfl⟩
abbrev main_v110 : Ref sig .tc := ⟨.hbm, 292, rfl⟩
abbrev main_v111 : Ref sig .tc := ⟨.hbm, 293, rfl⟩
abbrev main_v112 : Ref sig .tc := ⟨.hbm, 294, rfl⟩
abbrev main_v113 : Ref sig .tc := ⟨.hbm, 295, rfl⟩
abbrev main_v114 : Ref sig .tc := ⟨.hbm, 296, rfl⟩
abbrev main_v115 : Ref sig .tc := ⟨.hbm, 297, rfl⟩
abbrev main_v116 : Ref sig .tc := ⟨.hbm, 298, rfl⟩
abbrev main_v117 : Ref sig .tc := ⟨.hbm, 299, rfl⟩
abbrev main_v118 : Ref sig .tc := ⟨.hbm, 300, rfl⟩
abbrev main_c_19 : Ref sig .tc := ⟨.hbm, 301, rfl⟩
abbrev main_c_20 : Ref sig .tc := ⟨.hbm, 302, rfl⟩
abbrev main_v119_0 : Ref sig .tc := ⟨.hbm, 303, rfl⟩
abbrev main_v119_1 : Ref sig .tc := ⟨.hbm, 304, rfl⟩
abbrev main_v119_2 : Ref sig .tc := ⟨.hbm, 305, rfl⟩
abbrev main_v119_3 : Ref sig .tc := ⟨.hbm, 306, rfl⟩
abbrev main_v119_4 : Ref sig .tc := ⟨.hbm, 307, rfl⟩
abbrev main_v119_5 : Ref sig .tc := ⟨.hbm, 308, rfl⟩
abbrev main_while0c_c_31 : Ref sig .tc := ⟨.hbm, 309, rfl⟩
abbrev main_while0c_v129 : Ref sig .tc := ⟨.hbm, 310, rfl⟩
abbrev main_while0b_c_31 : Ref sig .tc := ⟨.hbm, 311, rfl⟩
abbrev main_while0b_v129 : Ref sig .tc := ⟨.hbm, 312, rfl⟩
abbrev main_while0b_v130 : Ref sig .tc := ⟨.hbm, 313, rfl⟩
abbrev main_while0b_c_32 : Ref sig .tc := ⟨.hbm, 314, rfl⟩
abbrev main_while0b_v131 : Ref sig .tc := ⟨.hbm, 315, rfl⟩
abbrev main_while0b_c_33 : Ref sig .tc := ⟨.hbm, 316, rfl⟩
abbrev main_while0b_v132 : Ref sig .tc := ⟨.hbm, 317, rfl⟩
abbrev main_while0b_v133 : Ref sig .tc := ⟨.hbm, 318, rfl⟩
abbrev main_while0b_c_34 : Ref sig .tc := ⟨.hbm, 319, rfl⟩
abbrev main_while0b_c_35 : Ref sig .tc := ⟨.hbm, 320, rfl⟩
abbrev main_while0b_v134 : Ref sig .tc := ⟨.hbm, 321, rfl⟩
abbrev main_while0b_c_36 : Ref sig .tc := ⟨.hbm, 322, rfl⟩
abbrev main_while0b_c_37 : Ref sig .tc := ⟨.hbm, 323, rfl⟩
abbrev main_while0b_v135 : Ref sig .tc := ⟨.hbm, 324, rfl⟩
abbrev main_while0b_c_38 : Ref sig .tc := ⟨.hbm, 325, rfl⟩
abbrev main_while0b_v136 : Ref sig .tc := ⟨.hbm, 326, rfl⟩
abbrev main_while0b_v137 : Ref sig .tc := ⟨.hbm, 327, rfl⟩
abbrev main_while0b_v138 : Ref sig .tc := ⟨.hbm, 328, rfl⟩
abbrev main_while0b_v139 : Ref sig .tc := ⟨.hbm, 329, rfl⟩
abbrev main_while0b_v140 : Ref sig .tc := ⟨.hbm, 330, rfl⟩
abbrev main_while0b_v141 : Ref sig .tc := ⟨.hbm, 331, rfl⟩
abbrev main_while0b_v142 : Ref sig .tc := ⟨.hbm, 332, rfl⟩
abbrev main_while0b_v143 : Ref sig .tc := ⟨.hbm, 333, rfl⟩
abbrev main_while0b_c_39 : Ref sig .tc := ⟨.hbm, 334, rfl⟩
abbrev main_while0b_v144 : Ref sig .tc := ⟨.hbm, 335, rfl⟩
abbrev main_while0b_c_40 : Ref sig .tc := ⟨.hbm, 336, rfl⟩
abbrev main_while0b_v145 : Ref sig .tc := ⟨.hbm, 337, rfl⟩
abbrev main_while0b_v146 : Ref sig .tc := ⟨.hbm, 338, rfl⟩
abbrev main_while0b_c_41 : Ref sig .tc := ⟨.hbm, 339, rfl⟩
abbrev main_while0b_c_42 : Ref sig .tc := ⟨.hbm, 340, rfl⟩
abbrev main_while0b_v147 : Ref sig .tc := ⟨.hbm, 341, rfl⟩
abbrev main_while0b_c_43 : Ref sig .tc := ⟨.hbm, 342, rfl⟩
abbrev main_while0b_c_44 : Ref sig .tc := ⟨.hbm, 343, rfl⟩
abbrev main_while0b_v148 : Ref sig .tc := ⟨.hbm, 344, rfl⟩
abbrev main_while0b_c_45 : Ref sig .tc := ⟨.hbm, 345, rfl⟩
abbrev main_while0b_v149 : Ref sig .tc := ⟨.hbm, 346, rfl⟩
abbrev main_while0b_v150 : Ref sig .tc := ⟨.hbm, 347, rfl⟩
abbrev main_while0b_v151 : Ref sig .tc := ⟨.hbm, 348, rfl⟩
abbrev main_while0b_v152 : Ref sig .tc := ⟨.hbm, 349, rfl⟩
abbrev main_while0b_v153 : Ref sig .tc := ⟨.hbm, 350, rfl⟩
abbrev main_while0b_v154 : Ref sig .tc := ⟨.hbm, 351, rfl⟩
abbrev main_while0b_v155 : Ref sig .tc := ⟨.hbm, 352, rfl⟩
abbrev main_while0b_v156 : Ref sig .tc := ⟨.hbm, 353, rfl⟩
abbrev main_while0b_c_46 : Ref sig .tc := ⟨.hbm, 354, rfl⟩
abbrev main_while0b_v157 : Ref sig .tc := ⟨.hbm, 355, rfl⟩
abbrev main_while0b_c_47 : Ref sig .tc := ⟨.hbm, 356, rfl⟩
abbrev main_while0b_v158 : Ref sig .tc := ⟨.hbm, 357, rfl⟩
abbrev main_while0b_v159 : Ref sig .tc := ⟨.hbm, 358, rfl⟩
abbrev main_while0b_c_48 : Ref sig .tc := ⟨.hbm, 359, rfl⟩
abbrev main_while0b_c_49 : Ref sig .tc := ⟨.hbm, 360, rfl⟩
abbrev main_while0b_v160 : Ref sig .tc := ⟨.hbm, 361, rfl⟩
abbrev main_while0b_c_50 : Ref sig .tc := ⟨.hbm, 362, rfl⟩
abbrev main_while0b_c_51 : Ref sig .tc := ⟨.hbm, 363, rfl⟩
abbrev main_while0b_v161 : Ref sig .tc := ⟨.hbm, 364, rfl⟩
abbrev main_while0b_c_52 : Ref sig .tc := ⟨.hbm, 365, rfl⟩
abbrev main_while0b_v162 : Ref sig .tc := ⟨.hbm, 366, rfl⟩
abbrev main_while0b_v163 : Ref sig .tc := ⟨.hbm, 367, rfl⟩
abbrev main_while0b_v164 : Ref sig .tc := ⟨.hbm, 368, rfl⟩
abbrev main_while0b_v165 : Ref sig .tc := ⟨.hbm, 369, rfl⟩
abbrev main_while0b_v166 : Ref sig .tc := ⟨.hbm, 370, rfl⟩
abbrev main_while0b_v167 : Ref sig .tc := ⟨.hbm, 371, rfl⟩
abbrev main_while0b_v168 : Ref sig .tc := ⟨.hbm, 372, rfl⟩
abbrev main_while0b_v169 : Ref sig .tc := ⟨.hbm, 373, rfl⟩
abbrev main_while0b_c_53 : Ref sig .tc := ⟨.hbm, 374, rfl⟩
abbrev main_while0b_v170 : Ref sig .tc := ⟨.hbm, 375, rfl⟩
abbrev main_while0b_c_54 : Ref sig .tc := ⟨.hbm, 376, rfl⟩
abbrev main_while0b_v171 : Ref sig .tc := ⟨.hbm, 377, rfl⟩
abbrev main_while0b_v172 : Ref sig .tc := ⟨.hbm, 378, rfl⟩
abbrev main_while0b_c_55 : Ref sig .tc := ⟨.hbm, 379, rfl⟩
abbrev main_while0b_c_56 : Ref sig .tc := ⟨.hbm, 380, rfl⟩
abbrev main_while0b_v173 : Ref sig .tc := ⟨.hbm, 381, rfl⟩
abbrev main_while0b_c_57 : Ref sig .tc := ⟨.hbm, 382, rfl⟩
abbrev main_while0b_c_58 : Ref sig .tc := ⟨.hbm, 383, rfl⟩
abbrev main_while0b_v174 : Ref sig .tc := ⟨.hbm, 384, rfl⟩
abbrev main_while0b_c_59 : Ref sig .tc := ⟨.hbm, 385, rfl⟩
abbrev main_while0b_v175 : Ref sig .tc := ⟨.hbm, 386, rfl⟩
abbrev main_while0b_v176 : Ref sig .tc := ⟨.hbm, 387, rfl⟩
abbrev main_while0b_v177 : Ref sig .tc := ⟨.hbm, 388, rfl⟩
abbrev main_while0b_v178 : Ref sig .tc := ⟨.hbm, 389, rfl⟩
abbrev main_while0b_v179 : Ref sig .tc := ⟨.hbm, 390, rfl⟩
abbrev main_while0b_v180 : Ref sig .tc := ⟨.hbm, 391, rfl⟩
abbrev main_while0b_v181 : Ref sig .tc := ⟨.hbm, 392, rfl⟩
abbrev main_while0b_v182 : Ref sig .tc := ⟨.hbm, 393, rfl⟩
abbrev main_while0b_cst_60 : Ref sig .tc := ⟨.hbm, 394, rfl⟩
abbrev main_while0b_v183 : Ref sig .tc := ⟨.hbm, 395, rfl⟩
abbrev main_while0b_v184 : Ref sig .tc := ⟨.hbm, 396, rfl⟩
abbrev main_while0b_v185 : Ref sig .tc := ⟨.hbm, 397, rfl⟩
abbrev main_while0b_cst_61 : Ref sig .tc := ⟨.hbm, 398, rfl⟩
abbrev main_while0b_v186 : Ref sig .tc := ⟨.hbm, 399, rfl⟩
abbrev main_while0b_v187 : Ref sig .tc := ⟨.hbm, 400, rfl⟩
abbrev main_while0b_v188 : Ref sig .tc := ⟨.hbm, 401, rfl⟩
abbrev main_while0b_c_62 : Ref sig .tc := ⟨.hbm, 402, rfl⟩
abbrev main_while0b_v189 : Ref sig .tc := ⟨.hbm, 403, rfl⟩
abbrev main_while0b_v190 : Ref sig .tc := ⟨.hbm, 404, rfl⟩
abbrev main_while0b_c_63 : Ref sig .tc := ⟨.hbm, 405, rfl⟩
abbrev main_while0b_v191 : Ref sig .tc := ⟨.hbm, 406, rfl⟩
abbrev main_while0b_v192 : Ref sig .tc := ⟨.hbm, 407, rfl⟩
abbrev main_while0b_v193 : Ref sig .tc := ⟨.hbm, 408, rfl⟩
abbrev main_while0b_v194 : Ref sig .tc := ⟨.hbm, 409, rfl⟩
abbrev main_while0b_v195 : Ref sig .tc := ⟨.hbm, 410, rfl⟩
abbrev main_while0b_v196 : Ref sig .tc := ⟨.hbm, 411, rfl⟩
abbrev main_while0b_v197 : Ref sig .tc := ⟨.hbm, 412, rfl⟩
abbrev main_while0b_cst_64 : Ref sig .tc := ⟨.hbm, 413, rfl⟩
abbrev main_while0b_v198 : Ref sig .tc := ⟨.hbm, 414, rfl⟩
abbrev main_while0b_v199 : Ref sig .tc := ⟨.hbm, 415, rfl⟩
abbrev main_while0b_v200 : Ref sig .tc := ⟨.hbm, 416, rfl⟩
abbrev main_while0b_cst_65 : Ref sig .tc := ⟨.hbm, 417, rfl⟩
abbrev main_while0b_v201 : Ref sig .tc := ⟨.hbm, 418, rfl⟩
abbrev main_while0b_v202 : Ref sig .tc := ⟨.hbm, 419, rfl⟩
abbrev main_while0b_v203 : Ref sig .tc := ⟨.hbm, 420, rfl⟩
abbrev main_while0b_v204 : Ref sig .tc := ⟨.hbm, 421, rfl⟩
abbrev main_while0b_v205 : Ref sig .tc := ⟨.hbm, 422, rfl⟩
abbrev main_while0b_v206 : Ref sig .tc := ⟨.hbm, 423, rfl⟩
abbrev main_while0b_c_66 : Ref sig .tc := ⟨.hbm, 424, rfl⟩
abbrev main_while0b_v207 : Ref sig .tc := ⟨.hbm, 425, rfl⟩
abbrev main_while0b_v208 : Ref sig .tc := ⟨.hbm, 426, rfl⟩
abbrev main_while0b_c_67 : Ref sig .tc := ⟨.hbm, 427, rfl⟩
abbrev main_while0b_v209 : Ref sig .tc := ⟨.hbm, 428, rfl⟩
abbrev main_while0b_v210 : Ref sig .tc := ⟨.hbm, 429, rfl⟩
abbrev main_while0b_v211 : Ref sig .tc := ⟨.hbm, 430, rfl⟩
abbrev main_while0b_v212 : Ref sig .tc := ⟨.hbm, 431, rfl⟩
abbrev main_while0b_v213 : Ref sig .tc := ⟨.hbm, 432, rfl⟩
abbrev main_while0b_v214 : Ref sig .tc := ⟨.hbm, 433, rfl⟩
abbrev main_while0b_v215 : Ref sig .tc := ⟨.hbm, 434, rfl⟩
abbrev main_while0b_v216 : Ref sig .tc := ⟨.hbm, 435, rfl⟩
abbrev main_while0b_c_68 : Ref sig .tc := ⟨.hbm, 436, rfl⟩
abbrev main_while0b_v217 : Ref sig .tc := ⟨.hbm, 437, rfl⟩
abbrev main_cst_21 : Ref sig .tc := ⟨.hbm, 438, rfl⟩
abbrev main_call12_v0 : Ref sig .tc := ⟨.hbm, 439, rfl⟩
abbrev main_call12_v1 : Ref sig .tc := ⟨.hbm, 440, rfl⟩
abbrev main_v120 : Ref sig .tc := ⟨.hbm, 441, rfl⟩
abbrev main_values_22 : Ref sig .tc := ⟨.hbm, 442, rfl⟩
abbrev main_indices_23 : Ref sig .tc := ⟨.hbm, 443, rfl⟩
abbrev main_call13_c : Ref sig .tc := ⟨.hbm, 444, rfl⟩
abbrev main_call13_v0 : Ref sig .tc := ⟨.hbm, 445, rfl⟩
abbrev main_call13_v1 : Ref sig .tc := ⟨.hbm, 446, rfl⟩
abbrev main_call13_c_0 : Ref sig .tc := ⟨.hbm, 447, rfl⟩
abbrev main_call13_v2 : Ref sig .tc := ⟨.hbm, 448, rfl⟩
abbrev main_call13_v3 : Ref sig .tc := ⟨.hbm, 449, rfl⟩
abbrev main_call13_v4 : Ref sig .tc := ⟨.hbm, 450, rfl⟩
abbrev main_call13_v5 : Ref sig .tc := ⟨.hbm, 451, rfl⟩
abbrev main_call13_c_1 : Ref sig .tc := ⟨.hbm, 452, rfl⟩
abbrev main_call13_c_2 : Ref sig .tc := ⟨.hbm, 453, rfl⟩
abbrev main_call13_v6 : Ref sig .tc := ⟨.hbm, 454, rfl⟩
abbrev main_call13_v7 : Ref sig .tc := ⟨.hbm, 455, rfl⟩
abbrev main_call13_v8 : Ref sig .tc := ⟨.hbm, 456, rfl⟩
abbrev main_call13_v9 : Ref sig .tc := ⟨.hbm, 457, rfl⟩
abbrev main_call13_v10 : Ref sig .tc := ⟨.hbm, 458, rfl⟩
abbrev main_call13_v11 : Ref sig .tc := ⟨.hbm, 459, rfl⟩
abbrev main_call13_c_3 : Ref sig .tc := ⟨.hbm, 460, rfl⟩
abbrev main_call13_v12 : Ref sig .tc := ⟨.hbm, 461, rfl⟩
abbrev main_call13_v13 : Ref sig .tc := ⟨.hbm, 462, rfl⟩
abbrev main_call13_v14 : Ref sig .tc := ⟨.hbm, 463, rfl⟩
abbrev main_call13_cst : Ref sig .tc := ⟨.hbm, 464, rfl⟩
abbrev main_call13_v15 : Ref sig .tc := ⟨.hbm, 465, rfl⟩
abbrev main_v121 : Ref sig .tc := ⟨.hbm, 466, rfl⟩
abbrev main_call14_c : Ref sig .tc := ⟨.hbm, 467, rfl⟩
abbrev main_call14_v0 : Ref sig .tc := ⟨.hbm, 468, rfl⟩
abbrev main_call14_v1 : Ref sig .tc := ⟨.hbm, 469, rfl⟩
abbrev main_call14_c_0 : Ref sig .tc := ⟨.hbm, 470, rfl⟩
abbrev main_call14_v2 : Ref sig .tc := ⟨.hbm, 471, rfl⟩
abbrev main_call14_v3 : Ref sig .tc := ⟨.hbm, 472, rfl⟩
abbrev main_call14_v4 : Ref sig .tc := ⟨.hbm, 473, rfl⟩
abbrev main_call14_v5 : Ref sig .tc := ⟨.hbm, 474, rfl⟩
abbrev main_call14_c_1 : Ref sig .tc := ⟨.hbm, 475, rfl⟩
abbrev main_call14_c_2 : Ref sig .tc := ⟨.hbm, 476, rfl⟩
abbrev main_call14_v6 : Ref sig .tc := ⟨.hbm, 477, rfl⟩
abbrev main_call14_v7 : Ref sig .tc := ⟨.hbm, 478, rfl⟩
abbrev main_call14_v8 : Ref sig .tc := ⟨.hbm, 479, rfl⟩
abbrev main_call14_v9 : Ref sig .tc := ⟨.hbm, 480, rfl⟩
abbrev main_call14_v10 : Ref sig .tc := ⟨.hbm, 481, rfl⟩
abbrev main_call14_v11 : Ref sig .tc := ⟨.hbm, 482, rfl⟩
abbrev main_call14_c_3 : Ref sig .tc := ⟨.hbm, 483, rfl⟩
abbrev main_call14_v12 : Ref sig .tc := ⟨.hbm, 484, rfl⟩
abbrev main_call14_v13 : Ref sig .tc := ⟨.hbm, 485, rfl⟩
abbrev main_call14_v14 : Ref sig .tc := ⟨.hbm, 486, rfl⟩
abbrev main_call14_cst : Ref sig .tc := ⟨.hbm, 487, rfl⟩
abbrev main_call14_v15 : Ref sig .tc := ⟨.hbm, 488, rfl⟩
abbrev main_v122 : Ref sig .tc := ⟨.hbm, 489, rfl⟩
abbrev main_call15_c : Ref sig .tc := ⟨.hbm, 490, rfl⟩
abbrev main_call15_v0 : Ref sig .tc := ⟨.hbm, 491, rfl⟩
abbrev main_call15_v1 : Ref sig .tc := ⟨.hbm, 492, rfl⟩
abbrev main_call15_c_0 : Ref sig .tc := ⟨.hbm, 493, rfl⟩
abbrev main_call15_v2 : Ref sig .tc := ⟨.hbm, 494, rfl⟩
abbrev main_call15_v3 : Ref sig .tc := ⟨.hbm, 495, rfl⟩
abbrev main_call15_v4 : Ref sig .tc := ⟨.hbm, 496, rfl⟩
abbrev main_call15_v5 : Ref sig .tc := ⟨.hbm, 497, rfl⟩
abbrev main_call15_c_1 : Ref sig .tc := ⟨.hbm, 498, rfl⟩
abbrev main_call15_c_2 : Ref sig .tc := ⟨.hbm, 499, rfl⟩
abbrev main_call15_v6 : Ref sig .tc := ⟨.hbm, 500, rfl⟩
abbrev main_call15_v7 : Ref sig .tc := ⟨.hbm, 501, rfl⟩
abbrev main_call15_v8 : Ref sig .tc := ⟨.hbm, 502, rfl⟩
abbrev main_call15_v9 : Ref sig .tc := ⟨.hbm, 503, rfl⟩
abbrev main_call15_v10 : Ref sig .tc := ⟨.hbm, 504, rfl⟩
abbrev main_call15_v11 : Ref sig .tc := ⟨.hbm, 505, rfl⟩
abbrev main_call15_c_3 : Ref sig .tc := ⟨.hbm, 506, rfl⟩
abbrev main_call15_v12 : Ref sig .tc := ⟨.hbm, 507, rfl⟩
abbrev main_call15_v13 : Ref sig .tc := ⟨.hbm, 508, rfl⟩
abbrev main_call15_c_4 : Ref sig .tc := ⟨.hbm, 509, rfl⟩
abbrev main_call15_v14 : Ref sig .tc := ⟨.hbm, 510, rfl⟩
abbrev main_v123 : Ref sig .tc := ⟨.hbm, 511, rfl⟩
abbrev main_call16_c : Ref sig .tc := ⟨.hbm, 512, rfl⟩
abbrev main_call16_v0 : Ref sig .tc := ⟨.hbm, 513, rfl⟩
abbrev main_call16_v1 : Ref sig .tc := ⟨.hbm, 514, rfl⟩
abbrev main_call16_c_0 : Ref sig .tc := ⟨.hbm, 515, rfl⟩
abbrev main_call16_v2 : Ref sig .tc := ⟨.hbm, 516, rfl⟩
abbrev main_call16_v3 : Ref sig .tc := ⟨.hbm, 517, rfl⟩
abbrev main_call16_v4 : Ref sig .tc := ⟨.hbm, 518, rfl⟩
abbrev main_call16_v5 : Ref sig .tc := ⟨.hbm, 519, rfl⟩
abbrev main_call16_c_1 : Ref sig .tc := ⟨.hbm, 520, rfl⟩
abbrev main_call16_c_2 : Ref sig .tc := ⟨.hbm, 521, rfl⟩
abbrev main_call16_v6 : Ref sig .tc := ⟨.hbm, 522, rfl⟩
abbrev main_call16_v7 : Ref sig .tc := ⟨.hbm, 523, rfl⟩
abbrev main_call16_v8 : Ref sig .tc := ⟨.hbm, 524, rfl⟩
abbrev main_call16_v9 : Ref sig .tc := ⟨.hbm, 525, rfl⟩
abbrev main_call16_v10 : Ref sig .tc := ⟨.hbm, 526, rfl⟩
abbrev main_call16_v11 : Ref sig .tc := ⟨.hbm, 527, rfl⟩
abbrev main_call16_c_3 : Ref sig .tc := ⟨.hbm, 528, rfl⟩
abbrev main_call16_v12 : Ref sig .tc := ⟨.hbm, 529, rfl⟩
abbrev main_call16_v13 : Ref sig .tc := ⟨.hbm, 530, rfl⟩
abbrev main_call16_c_4 : Ref sig .tc := ⟨.hbm, 531, rfl⟩
abbrev main_call16_v14 : Ref sig .tc := ⟨.hbm, 532, rfl⟩
abbrev main_v124 : Ref sig .tc := ⟨.hbm, 533, rfl⟩
abbrev main_v125 : Ref sig .tc := ⟨.hbm, 534, rfl⟩
abbrev main_cst_24 : Ref sig .tc := ⟨.hbm, 535, rfl⟩
abbrev main_v126 : Ref sig .tc := ⟨.hbm, 536, rfl⟩
abbrev main_v127 : Ref sig .tc := ⟨.hbm, 537, rfl⟩
abbrev main_cst_25 : Ref sig .tc := ⟨.hbm, 538, rfl⟩
abbrev main_call17_v0 : Ref sig .tc := ⟨.hbm, 539, rfl⟩
abbrev main_call17_v1 : Ref sig .tc := ⟨.hbm, 540, rfl⟩
abbrev main_v128 : Ref sig .tc := ⟨.hbm, 541, rfl⟩

abbrev nD : Nat := 1
abbrev τ : Topo := Topo.v7x

variable {F : FTy → Type} [FloatOps F]

abbrev main_while0_count : Scf.Loop 32 := ⟨0#32, 1000#32, 1#32⟩
-- ==== Proof.Nms.Launch.lean ====
/-
  The run of the kernel program at the extended reals, part one: the resources every region's proof is stated
  over, and one region's segment record built from its proof data.

  A region here has one grid point, whole-array windows, nothing owed and no semaphore of its own. Its record
  is entered from every unscoped buffer held at a valuation `V`, and left with the same buffers held at
  `afterRegion` of `V`: the output windows' arrays at what the body leaves, all others untouched.
-/
module

public import proofs.«01_k».proof.Proof.Gen.KernelIdeal.Regions
public import proofs.«01_k».proof.Proof.Gen.KernelIdeal.Skeleton
public import Idealize.ShloMosaic.Lib.Pipeline.FrameTail
public import Idealize.ShloMosaic.Lib.Pipeline.RegionArraysS
public import Idealize.ShloMosaic.Lib.Tactic
public import Idealize.ShloMosaic.PureOps.Ideal

@[expose] public section

set_option maxRecDepth 1860

noncomputable section

namespace Cert.Proof.Nms

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The ghost algebra: the rounds library's over the machine's cells. -/
abbrev UR : Type := URounds (GSem nD τ sig) Unit

local notation "𝕄" => MT nD τ sig Unit (Elt Ideal) ℕ UR ℕ

/-- Its embedding into the whole algebra. -/
def EP : Emb UR 𝕄 :=
  (Emb.refl _).trans (uEmb (nD := nD) (sig := sig) (Ix := Unit) (Val := Elt Ideal) (Name := ℕ) (U := UR) (Lvl := ℕ)).toEmb

instance EP_landsIn : (EP : Emb UR 𝕄).LandsIn (upEmb : UEmb _ 𝕄) := by unfold EP; infer_instance

/-- The loop inside the second kernel counts down a natural number. -/
abbrev 𝒱₀ : Variants := Variants.nat

/-- No core owes another anything, so no level is assigned. -/
abbrev L : GSem nD τ sig → Finset Unit := fun _ => ∅
abbrev lv : GSem nD τ sig → Unit → ℕ := fun _ _ => 0

/-- A valuation of core `c`'s buffers. -/
abbrev Vals : Type := Dev nD → Valuation τ sig (Elt Ideal)

section Region

variable (p : Fin 2) (lf : Pipeline.LaunchFacts (nD := nD) (τ := τ) (cfgs (F := Ideal)) p)
  (pdats : (p : Fin 2) → (c : Dev nD) → Dat τ (Elt Ideal) Unit ℕ UR ℕ (Pipeline.pin (pcfgs (F := Ideal)) adm p) c)
  (V : Vals)

set_option backward.isDefEq.respectTransparency.types false in
/-- The record of one region: every unscoped buffer at `V` before, at `afterRegion` of `V` after. -/
def regionOf (hbody : ∀ c, BodyObligation (pdats p c) (defs₀ (F := Ideal)) 𝒱₀ () Set.univ)
    (hK : (pcfgs (F := Ideal) p).pre.K = 0)
    (hA : ∀ c w, (pdats p c).A w = V c (Proc.devRef .tc (Pipeline.arrRef (Pipeline.pin (pcfgs (F := Ideal)) adm p).spec w)))
    (hq : ∀ c w, (pdats p c).q w = fullShare)
    (howed : ∀ c t, (pdats p c).owed t = 0)
    (hrec : ∀ c, (pdats p c).recorded 0 = Set.univ)
    (hΦ0 : ∀ c, (pdats p c).Φ 0 = Pipeline.scopedRest (Ix := Unit) (Name := ℕ) (U := UR) (Lvl := ℕ) (Val := Elt Ideal) (Pipeline.pin (pcfgs (F := Ideal)) adm p).spec c)
    (hΦ1 : ∀ c, (pdats p c).Φ (Fin.last _) = Pipeline.scopedRest (Ix := Unit) (Name := ℕ) (U := UR) (Lvl := ℕ) (Val := Elt Ideal) (Pipeline.pin (pcfgs (F := Ideal)) adm p).spec c) :
    Pipeline.RegionSeg (pcfgs (F := Ideal)) adm pdats () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(unscopedBufs c (fun b => V c b) ∗ ∃ W, owes (c : Thread nD τ) (0 : CellTallies nD τ sig Unit) W)
  post c := iprop(unscopedBufs c (fun b => Pipeline.afterRegion (pdats p c) (V c) b) ∗ ∃ W, owes (c : Thread nD τ) (0 : CellTallies nD τ sig Unit) W)
  X _ := BI.emp
  Y _ := BI.emp
  Z c := Pipeline.unscopedRest (Ix := Unit) (Name := ℕ) (U := UR) (Lvl := ℕ) (Pipeline.pin (pcfgs (F := Ideal)) adm p).spec c (fun b => V c b)
  hentry c := by
    rw [Pipeline.ownSems0_none]
    have hsplit := Pipeline.arrays_of_unscopedBufs (p := p) (pcfgs (F := Ideal)) adm pdats lf.win lf.arr_whole c
      ((pdats p c).share_full (hq c)) (fun b => V c b) (hA c)
    iintro ⟨⟨Hub, HO⟩, -, -⟩
    ihave H := hsplit $$ Hub
    icases H with ⟨Ha, Hrest⟩
    imodintro
    isplitl [Ha]; · iexact Ha
    isplitr
    · unfold Pipeline.prefHeld
      rw [show (Finset.univ : Finset (Fin (pcfgs (F := Ideal) p).pre.K)) = ∅ from by
        apply Finset.eq_empty_of_forall_notMem; intro x; exact (Fin.cast hK x).elim0, BI.bigSep_empty]
      iempintro
    isplitl [HO]
    · unfold Pipeline.Dat.owesAt Pipeline.owesWithin
      rw [howed c 0]
      icases HO with ⟨%W, HO⟩; iexists W; isplitr; · ipureintro; exact fun x _ => Or.inl (by rw [hrec c]; exact trivial)
      iexact HO
    isplitr; · iempintro
    iexact Hrest
  hin c := by
    rw [hΦ0 c]
    iintro ⟨-, -, Hr⟩; iexact Hr
  hout c := by
    rw [Pipeline.ownSems0_none, hΦ1 c]
    iintro Hr
    isplitr; · iempintro
    isplitr; · iempintro
    iexact Hr
  hexit c := by
    have hjoin := Pipeline.unscopedBufs_of_arrays (p := p) (pcfgs (F := Ideal)) adm (Ix := Unit) (Name := ℕ) (U := UR) (Lvl := ℕ) lf.win lf.arr_whole c
      pdats ((pdats p c).share_full (hq c)) (fun b => V c b) (fun b => Pipeline.afterRegion (pdats p c) (V c) b) ((pdats p c).arrAt · _)
      (fun w => (Pipeline.afterRegion_arr (pdats p c) (V c) lf.win.arr_inj w).symm)
      (fun b hb => Pipeline.afterRegion_of_not_arr (pdats p c) (V c) fun w e => hb (Finset.mem_image.mpr ⟨w, Finset.mem_univ _, e.symm⟩))
    iintro ⟨Ha, HO, -, Hrest⟩
    imodintro
    isplitl [Ha Hrest]
    · iapply hjoin; isplitl [Ha] <;> iassumption
    unfold Pipeline.Dat.owesAt Pipeline.owesWithin
    rw [howed c]
    icases HO with ⟨%W, -, HO⟩; iexists W; iexact HO

/-- The region's record read at its entry. -/
theorem regionOf_pre (hbody : ∀ c, BodyObligation (pdats p c) (defs₀ (F := Ideal)) 𝒱₀ () Set.univ)
    (hK : (pcfgs (F := Ideal) p).pre.K = 0)
    (hA : ∀ c w, (pdats p c).A w = V c (Proc.devRef .tc (Pipeline.arrRef (Pipeline.pin (pcfgs (F := Ideal)) adm p).spec w)))
    (hq : ∀ c w, (pdats p c).q w = fullShare)
    (howed : ∀ c t, (pdats p c).owed t = 0)
    (hrec : ∀ c, (pdats p c).recorded 0 = Set.univ)
    (hΦ0 : ∀ c, (pdats p c).Φ 0 = Pipeline.scopedRest (Ix := Unit) (Name := ℕ) (U := UR) (Lvl := ℕ) (Val := Elt Ideal) (Pipeline.pin (pcfgs (F := Ideal)) adm p).spec c)
    (hΦ1 : ∀ c, (pdats p c).Φ (Fin.last _) = Pipeline.scopedRest (Ix := Unit) (Name := ℕ) (U := UR) (Lvl := ℕ) (Val := Elt Ideal) (Pipeline.pin (pcfgs (F := Ideal)) adm p).spec c) (c : Dev nD) :
    (regionOf p lf pdats V hbody hK hA hq howed hrec hΦ0 hΦ1).pre c
      = iprop(unscopedBufs c (fun b => V c b) ∗ ∃ W, owes (c : Thread nD τ) (0 : CellTallies nD τ sig Unit) W) := rfl
/-- The region's record read at its exit. -/
theorem regionOf_post (hbody : ∀ c, BodyObligation (pdats p c) (defs₀ (F := Ideal)) 𝒱₀ () Set.univ)
    (hK : (pcfgs (F := Ideal) p).pre.K = 0)
    (hA : ∀ c w, (pdats p c).A w = V c (Proc.devRef .tc (Pipeline.arrRef (Pipeline.pin (pcfgs (F := Ideal)) adm p).spec w)))
    (hq : ∀ c w, (pdats p c).q w = fullShare)
    (howed : ∀ c t, (pdats p c).owed t = 0)
    (hrec : ∀ c, (pdats p c).recorded 0 = Set.univ)
    (hΦ0 : ∀ c, (pdats p c).Φ 0 = Pipeline.scopedRest (Ix := Unit) (Name := ℕ) (U := UR) (Lvl := ℕ) (Val := Elt Ideal) (Pipeline.pin (pcfgs (F := Ideal)) adm p).spec c)
    (hΦ1 : ∀ c, (pdats p c).Φ (Fin.last _) = Pipeline.scopedRest (Ix := Unit) (Name := ℕ) (U := UR) (Lvl := ℕ) (Val := Elt Ideal) (Pipeline.pin (pcfgs (F := Ideal)) adm p).spec c) (c : Dev nD) :
    (regionOf p lf pdats V hbody hK hA hq howed hrec hΦ0 hΦ1).post c
      = iprop(unscopedBufs c (fun b => Pipeline.afterRegion (pdats p c) (V c) b) ∗ ∃ W, owes (c : Thread nD τ) (0 : CellTallies nD τ sig Unit) W) := rfl

end Region

end Cert.Proof.Nms

end
-- ==== Proof.Nms.Body0.lean ====
/-
  The first kernel of the program (masked scores): what its body leaves in the output's staging buffer, its proof
  data at an entry valuation, and its body obligation. The body loads the class scores and the centerness whole and
  stores their masked product whole.
-/
module

public import proofs.«01_k».proof.Proof.Nms.Launch
public import Idealize.ShloMosaic.Lib.Pipeline.ValueKit

@[expose] public section

set_option maxRecDepth 1860

noncomputable section

namespace Cert.Proof.Nms

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ UR ℕ

variable (V : Vals)

/-- What the first kernel computes from the whole class scores `a` and the centerness column `b`. -/
abbrev score (a : Vec Ideal S20000x80 .f32) (b : Vec Ideal S20000x1 .f32) : Vec Ideal S20000x80 .f32 := k0_pay1 a b

/-- The two inputs as staged at the one point: the arrays read through their windows. -/
def stg0_0 (c : Dev nD) : (cc0_stg0_0 : Ref sig .tc).ty.Contents (Elt Ideal) :=
  (win0_0.blk t0_0).view.read (Elt Ideal) (V c (Proc.devRef .tc main_v5))
def stg0_1 (c : Dev nD) : (cc0_stg1_0 : Ref sig .tc).ty.Contents (Elt Ideal) :=
  (win0_1.blk t0_0).view.read (Elt Ideal) (V c (Proc.devRef .tc main_v8))

/-- The proof data of the first region: arrays at `V`, inputs left as fetched, the output at the masked scores. -/
def dat0 (c : Dev nD) : Dat τ (Elt Ideal) Unit ℕ UR ℕ (cfg0 (F := Ideal)) c where
  A w := V c (Proc.devRef .tc (Pipeline.arrRef spec0 w))
  after w _ := match w with
    | ⟨0, _⟩ => stg0_0 V c
    | ⟨1, _⟩ => stg0_1 V c
    | ⟨2, _⟩ => score (stg0_0 V c) (stg0_1 V c)
  Φ _ := Pipeline.scopedRest (Ix := Unit) (Name := ℕ) (U := UR) (Lvl := ℕ) (Val := Elt Ideal) spec0 c
  q _ := fullShare
  owed _ := 0

/-- Owning a whole buffer at contents `X` is its points-to at some contents equal to `X`. -/
theorem owns_whole (c : Dev nD) (b : Ref sig .tc) (X : b.ty.Contents (Elt Ideal)) :
    (owns (Ix := Unit) (Name := ℕ) (U := UR) (Lvl := ℕ) (c : Thread nD τ) (Memref.whole b) fullShare X : sProp 𝕄)
      = iprop(∃ f : Buf (Elt Ideal) (((c : Dev nD) : Thread nD τ).loc b), ⌜f = X⌝ ∗ (((c : Thread nD τ).loc b) ↦{fullShare} f)) := by
  unfold owns; simp only [Memref.view_whole, View.read_whole, View.set_whole]

/-- The first body run from its three staging buffers. -/
theorem run0 (c : Dev nD) (f0 : Buf (Elt Ideal) (((c : Dev nD) : Thread nD τ).loc cc0_stg0_0))
    (f1 : Buf (Elt Ideal) (((c : Dev nD) : Thread nD τ).loc cc0_stg1_0))
    (f2 : Buf (Elt Ideal) (((c : Dev nD) : Thread nD τ).loc cc0_stg2_0)) (Q : PUnit → sProp 𝕄) :
    iprop((((c : Thread nD τ).loc cc0_stg0_0) ↦{fullShare} f0) ∗ (((c : Thread nD τ).loc cc0_stg1_0) ↦{fullShare} f1)
      ∗ (((c : Thread nD τ).loc cc0_stg2_0) ↦{fullShare} f2)
      ∗ (iprop((((c : Thread nD τ).loc cc0_stg0_0) ↦{fullShare} f0) ∗ (((c : Thread nD τ).loc cc0_stg1_0) ↦{fullShare} f1)
          ∗ (((c : Thread nD τ).loc cc0_stg2_0) ↦{fullShare} (score f0 f1))) -∗ Q ⟨⟩))
      ⊢ wp frame (wpE (defs₀ (F := Ideal)) 𝒱₀ (c : Thread nD τ) none) Set.univ
          (cc0__score_body (Memref.whole cc0_stg0_0) (Memref.isWhole_whole _) (Memref.whole cc0_stg1_0) (Memref.isWhole_whole _)
            (Memref.whole cc0_stg2_0) (Memref.isWhole_whole _)) Q := by
  simp only [cc0__score_body_eq_skeleton]; unfold cc0__score_body_skel
  simp only [Prog.lift, Prog.bind_op, Prog.bind_ret, Prog.pure_eq_ret]
  iintro ⟨H0, H1, H2, Hk⟩
  iapply (wp_load 𝒱₀ (c : Thread nD τ) none Set.univ (m := Memref.whole cc0_stg0_0) (Finset.subset_univ _)) $$ H0; iintro H0
  iapply (wp_load 𝒱₀ (c : Thread nD τ) none Set.univ (m := Memref.whole cc0_stg1_0) (Finset.subset_univ _)) $$ H1; iintro H1
  iapply (wp_load 𝒱₀ (c : Thread nD τ) none Set.univ (m := Memref.whole cc0_stg2_0) (Finset.subset_univ _)) $$ H2; iintro H2
  iapply (wp_store 𝒱₀ (c : Thread nD τ) none Set.univ (m := Memref.whole cc0_stg2_0)
    (r := Rect.unit (s := S20000x80) ![0, 0] S20000x80.size inb_S20000x80_S20000x80_0_0) (Mk := Finset.univ) (Finset.subset_univ _)) $$ H2; iintro H2
  have e0 := Memref.readAt_unit_zero (Elt Ideal) cc0_stg0_0 (off := ![0, 0]) (funext fun a => by fin_cases a <;> rfl) inb_S20000x80_S20000x80_0_0 f0
  have e1 := Memref.readAt_unit_zero (Elt Ideal) cc0_stg1_0 (off := ![0, 0]) (funext fun a => by fin_cases a <;> rfl) inb_S20000x1_S20000x1_0_0 f1
  have e2 := Memref.write_access_unit_zero_univ (Elt Ideal) cc0_stg2_0 (off := ![0, 0]) (funext fun a => by fin_cases a <;> rfl) inb_S20000x80_S20000x80_0_0 f2 (score f0 f1)
  rw [wp_ret]; imodintro
  iapply Hk
  isplitl [H0]; · iexact H0
  isplitl [H1]; · iexact H1
  erw [e0, e1, e2]
  iexact H2

theorem before0_0 (c : Dev nD) (d) : (dat0 V c).before (0 : Fin 3) t0_0 d = stg0_0 V c := by
  unfold Dat.before; rw [if_pos (by decide)]; rfl
theorem before0_1 (c : Dev nD) (d) : (dat0 V c).before (1 : Fin 3) t0_0 d = stg0_1 V c := by
  unfold Dat.before; rw [if_pos (by decide)]; rfl

/-- The first region's body obligation. -/
theorem body0 (c : Dev nD) : BodyObligation (dat0 V c) (defs₀ (F := Ideal)) 𝒱₀ () Set.univ := fun t => by
  obtain rfl := fin_N0 t
  rw [bigSep_W0, bigSep_W0]
  sl_whnfR [defs₀, Defs.onTc]
  simp only [owns_whole, show stage0_0 0 = Memref.whole cc0_stg0_0 from rfl, show stage0_1 0 = Memref.whole cc0_stg1_0 from rfl,
    show stage0_2 0 = Memref.whole cc0_stg2_0 from rfl]
  rw [show (dat0 V c).Φ (Fin.succ t0_0) = (dat0 V c).Φ (Fin.castSucc t0_0) from rfl,
    show (dat0 V c).owesAt () (Fin.succ t0_0) = (dat0 V c).owesAt () (Fin.castSucc t0_0) from rfl]
  iintro ⟨HΦ, Howes, ⟨%d0, %f0, %h0, H0⟩, ⟨%d1, %f1, %h1, H1⟩, ⟨%d2, %f2, -, H2⟩⟩
  rw [before0_0] at h0
  rw [before0_1] at h1
  subst h0 h1
  iapply (run0 c _ _ f2 _)
  isplitl [H0]; · iexact H0
  isplitl [H1]; · iexact H1
  isplitl [H2]; · iexact H2
  iintro ⟨H0, H1, H2⟩
  isplitl [HΦ]; · iexact HΦ
  isplitl [Howes]; · iexact Howes
  isplitl [H0]
  · iexists _; isplitr; swap; (· iexact H0); ipureintro; rfl
  isplitl [H1]
  · iexists _; isplitr; swap; (· iexact H1); ipureintro; rfl
  iexists _; isplitr; swap; (· iexact H2); ipureintro; rfl

/-- The staged inputs are the arrays. -/
theorem stg0_0_eq (c : Dev nD) : stg0_0 V c = V c (Proc.devRef .tc main_v5) := by
  funext i; unfold stg0_0; blk_simp
  refine congrArg _ (funext fun a => Fin.ext ?_)
  simp
  exact Or.inl rfl
theorem stg0_1_eq (c : Dev nD) : stg0_1 V c = V c (Proc.devRef .tc main_v8) := by
  funext i; unfold stg0_1; blk_simp
  refine congrArg _ (funext fun a => Fin.ext ?_)
  simp
  exact Or.inl rfl

/-- After the region the output's array holds the masked scores of the two input arrays. -/
theorem out0 (c : Dev nD) : (dat0 V c).arrAt (2 : Fin 3) (cfg0 (F := Ideal)).N
    = score (V c (Proc.devRef .tc main_v5)) (V c (Proc.devRef .tc main_v8)) := by
  refine (dat0 V c).arrAt_eq_of_after_last (2 : Fin 3) t0_0 (by decide +kernel) _ fun j => ?_
  blk_simp
  show score (stg0_0 V c) (stg0_1 V c) _ = _
  rw [stg0_0_eq, stg0_1_eq]
  try rfl

end Cert.Proof.Nms

end
-- ==== Proof.Nms.Loop.lean ====
/-
  The suppression loop of the second kernel, as a pure recursion over the reals with infinities: its three carried
  values after `t` rounds, what a round computes at an entry, that a strictly lower triangular matrix makes the column
  stable after 1024 rounds, and hence that the loop's flag falls.
-/
module

public import proofs.«01_k».proof.Proof.Nms.Body0
public import Idealize.ShloMosaic.Lib.ValueIdx
public import Idealize.ShloMosaic.Lib.MatmulPlain
public import Idealize.ShloMosaic.Lib.IdealHost

@[expose] public section

set_option maxRecDepth 1860

noncomputable section

namespace Cert.Proof.Nms

open Cert.KernelIdeal Cert.KernelIdeal.Gen

open Idealize.ShloMosaic hiding ix1 ix2 ix3 ix4 eq_ix1 eq_ix2 eq_ix3 eq_ix4
open Idealize.ShloMosaic.ValueIdx
open Idealize.ShloMosaic.TcCoe

/-- The column of survivors after `t` rounds. -/
def colIt (S : FVec Ideal S1024x1024 .bf16) (v : FVec Ideal S1024x1 .f32) : ℕ → FVec Ideal S1024x1 .f32
  | 0 => v
  | t + 1 => k1_pay3 S v (colIt S v t)
/-- The row of survivors after `t` rounds. -/
def rowIt (S : FVec Ideal S1024x1024 .bf16) (v : FVec Ideal S1x1024 .f32) : ℕ → FVec Ideal S1x1024 .f32
  | 0 => v
  | t + 1 => k1_pay2 S v (rowIt S v t)
/-- The flag the loop tests after `t` rounds. -/
def flagIt (S : FVec Ideal S1024x1024 .bf16) (v : FVec Ideal S1024x1 .f32) : ℕ → BitVec 1
  | 0 => 1#1
  | t + 1 => Scalar.cmpf (F := Ideal) .ogt (k1_pay4 S v (colIt S v t)) (Scalar.ofBits .f32 0x00000000#32)

/-- A float comparison `>` at an entry. -/
theorem cmpf_ogt_iff {φ : FTy} (a b : Ideal φ) : FloatOps.cmpf (F := Ideal) .ogt a b = 1#1 ↔ (b : EReal) < a := by
  show Ideal.cmp .ogt a b = 1#1 ↔ _
  by_cases h : (b : EReal) < a <;> simp [Ideal.cmp, h]
/-- A float comparison `≠` at an entry. -/
theorem cmpf_one_iff {φ : FTy} (a b : Ideal φ) : FloatOps.cmpf (F := Ideal) .one a b = 1#1 ↔ (a : EReal) ≠ b := by
  show Ideal.cmp .one a b = 1#1 ↔ _
  by_cases h : (a : EReal) = b <;> simp [Ideal.cmp, h]
/-- A select whose bit is decided by a proposition is the `if` on it. -/
theorem select_of_iff {α : Type} {b : BitVec 1} {p : Prop} [Decidable p] (h : b = 1#1 ↔ p) (x y : α) :
    Scalar.select b x y = if p then x else y := by
  by_cases hp : p
  · rw [if_pos hp, h.mpr hp]; rfl
  · rw [if_neg hp, eq_zero_of_ne_one fun e => hp (h.mp e)]; rfl

/-- One round of the column at an entry: the value is cleared when a survivor suppresses it. -/
theorem pay3_apply (S : FVec Ideal S1024x1024 .bf16) (v k : FVec Ideal S1024x1 .f32) (i : Fin 1024) :
    k1_pay3 S v k (ix2 i (0 : Fin 1))
      = if (0 : EReal) < ∑ j : Fin 1024, (S (ix2 i j) : EReal) * k (ix2 j (0 : Fin 1)) then (0 : EReal) else v (ix2 i (0 : Fin 1)) := by
  have hm : matmul dot_S1024x1024_S1024x1_S1024x1_1_0_0_1_n_n none S (truncf .bf16 k bitsLt_bf16_f32 : FVec Ideal S1024x1 .bf16)
      (constant S1024x1 .f32 0x00000000#32) (ix2 i (0 : Fin 1)) = ∑ j : Fin 1024, (S (ix2 i j) : EReal) * k (ix2 j (0 : Fin 1)) := by
    refine (Ideal.matmul_plain_apply (M := 1024) (K := 1024) (N := 1) none S (truncf .bf16 k bitsLt_bf16_f32) (constant _ .f32 0x00000000#32) i 0).trans ?_
    show Ideal.ofBits .f32 0x00000000#32 + _ = _
    rw [Ideal.ofBits_zero_f32, zero_add]; rfl
  show Scalar.select (FloatOps.cmpf .ogt (matmul dot_S1024x1024_S1024x1_S1024x1_1_0_0_1_n_n none S (truncf .bf16 k bitsLt_bf16_f32 : FVec Ideal S1024x1 .bf16)
      (constant S1024x1 .f32 0x00000000#32) (ix2 i (0 : Fin 1))) (Ideal.ofBits .f32 0x00000000#32)) (Ideal.ofBits .f32 0x00000000#32) (v (ix2 i (0 : Fin 1))) = _
  rw [hm, select_of_iff (cmpf_ogt_iff _ _), Ideal.ofBits_zero_f32]

/-- One round of the row at an entry. -/
theorem pay2_apply (S : FVec Ideal S1024x1024 .bf16) (v k : FVec Ideal S1x1024 .f32) (i : Fin 1024) :
    k1_pay2 S v k (ix2 (0 : Fin 1) i)
      = if (0 : EReal) < ∑ j : Fin 1024, (k (ix2 (0 : Fin 1) j) : EReal) * S (ix2 j i) then (0 : EReal) else v (ix2 (0 : Fin 1) i) := by
  have hm : matmul dot_S1x1024_S1024x1024_S1x1024_1_0_0_1_n_n none (truncf .bf16 k bitsLt_bf16_f32 : FVec Ideal S1x1024 .bf16) S
      (constant S1x1024 .f32 0x00000000#32) (ix2 (0 : Fin 1) i) = ∑ j : Fin 1024, (k (ix2 (0 : Fin 1) j) : EReal) * S (ix2 j i) := by
    refine (Ideal.matmul_plain_apply (M := 1) (K := 1024) (N := 1024) none (truncf .bf16 k bitsLt_bf16_f32) S (constant _ .f32 0x00000000#32) 0 i).trans ?_
    show Ideal.ofBits .f32 0x00000000#32 + _ = _
    rw [Ideal.ofBits_zero_f32, zero_add]; rfl
  show Scalar.select (FloatOps.cmpf .ogt (matmul dot_S1x1024_S1024x1024_S1x1024_1_0_0_1_n_n none (truncf .bf16 k bitsLt_bf16_f32 : FVec Ideal S1x1024 .bf16) S
      (constant S1x1024 .f32 0x00000000#32) (ix2 (0 : Fin 1) i)) (Ideal.ofBits .f32 0x00000000#32)) (Ideal.ofBits .f32 0x00000000#32) (v (ix2 (0 : Fin 1) i)) = _
  rw [hm, select_of_iff (cmpf_ogt_iff _ _), Ideal.ofBits_zero_f32]

/-- A column is determined by its 1024 entries. -/
theorem col_ext {α : Type} {x y : S1024x1.Idx → α} (h : ∀ i : Fin 1024, x (ix2 i (0 : Fin 1)) = y (ix2 i (0 : Fin 1))) : x = y := by
  funext j; rw [eq_ix2 j, show j 1 = (0 : Fin 1) from Subsingleton.elim (α := Fin 1) _ _]; exact h (j 0)
/-- A row is determined by its 1024 entries. -/
theorem row_ext {α : Type} {x y : S1x1024.Idx → α} (h : ∀ i : Fin 1024, x (ix2 (0 : Fin 1) i) = y (ix2 (0 : Fin 1) i)) : x = y := by
  funext j; rw [eq_ix2 j, show j 0 = (0 : Fin 1) from Subsingleton.elim (α := Fin 1) _ _]; exact h (j 1)

/-- The maximum over a whole column is positive exactly when an entry is. -/
theorem redmax_pos (src : FVec Ideal S1x1024x1 .f32) (hφ : FKind.Formats .f32) (hacc : (0xFF800000#32 : BitVec 32) = FKind.maximumf.neutral .f32 hφ) (j : S1.Idx) :
    (0 : EReal) < (multiReduction .maximumf [1, 2] S1 src 0xFF800000#32 reduces_S1x1024x1_S1 hφ hacc : FVec Ideal S1 .f32) j ↔ ∃ i, (0 : EReal) < src i := by
  rw [multiReduction_maximumf_eq_fold (F := Ideal) (φ := .f32) src 0xFF800000#32 reduces_S1x1024x1_S1 hφ hacc j]
  refine (Finset.lt_fold_max (β := EReal) (c := (0 : EReal))).trans ⟨?_, ?_⟩
  · rintro (h | ⟨x, -, h⟩)
    · exfalso; revert h; simp [Ideal.ofBits, Ideal.ieee]
    · exact ⟨x, h⟩
  · rintro ⟨x, h⟩
    refine Or.inr ⟨x, Finset.mem_filter.mpr ⟨Finset.mem_univ _, ?_⟩, h⟩
    funext a
    match a with
    | ⟨0, _⟩ => exact Subsingleton.elim (α := Fin 1) _ _

/-- The flag falls exactly when a round changes nothing. -/
theorem flag_iff (S : FVec Ideal S1024x1024 .bf16) (v k : FVec Ideal S1024x1 .f32) :
    Scalar.cmpf (F := Ideal) .ogt (k1_pay4 S v k) (Scalar.ofBits .f32 0x00000000#32) = 1#1 ↔ k1_pay3 S v k ≠ k := by
  refine (cmpf_ogt_iff (φ := .f32) _ _).trans ?_
  show Ideal.ofBits .f32 0x00000000#32 < k1_pay4 S v k ↔ _
  rw [Ideal.ofBits_zero_f32]
  unfold k1_pay4
  generalize k1_pay3 S v k = k'
  refine (redmax_pos _ (.inl rfl) rfl _).trans ?_
  constructor
  · rintro ⟨x, h⟩ hk
    rw [hk] at h
    revert h
    show (0 : EReal) < Scalar.select (FloatOps.cmpf .one (k _) (k _)) (Ideal.ofBits .f32 0x3F800000#32) (Ideal.ofBits .f32 0x00000000#32) → False
    rw [select_of_iff (cmpf_one_iff _ _), if_neg (fun h => h rfl), Ideal.ofBits_zero_f32]
    exact fun h => lt_irrefl _ h
  · intro hne
    obtain ⟨i, hi⟩ := Function.ne_iff.mp hne
    refine ⟨(Shape.reshapeEquiv shapeCasts_S1024x1_S1x1024x1).symm i, ?_⟩
    show (0 : EReal) < Scalar.select (FloatOps.cmpf .one (k' (Shape.reshapeEquiv shapeCasts_S1024x1_S1x1024x1 _)) (k (Shape.reshapeEquiv shapeCasts_S1024x1_S1x1024x1 _))) (Ideal.ofBits .f32 0x3F800000#32) (Ideal.ofBits .f32 0x00000000#32)
    rw [Equiv.apply_symm_apply, select_of_iff (cmpf_one_iff _ _), if_pos hi, Ideal.ofBits_one_f32]
    exact zero_lt_one

/-- For a strictly lower triangular matrix the first `t` entries are stable from round `t` on. -/
theorem colIt_stable (S : FVec Ideal S1024x1024 .bf16) (v : FVec Ideal S1024x1 .f32)
    (hS : ∀ i j : Fin 1024, i ≤ j → S (ix2 i j) = (0 : EReal)) (t : ℕ) :
    ∀ i : Fin 1024, i.val < t → colIt S v (t + 1) (ix2 i (0 : Fin 1)) = colIt S v t (ix2 i (0 : Fin 1)) := by
  induction t with
  | zero => intro i hi; exact absurd hi (Nat.not_lt_zero _)
  | succ t ih =>
    intro i hi
    show k1_pay3 S v (colIt S v (t + 1)) _ = k1_pay3 S v (colIt S v t) _
    rw [pay3_apply, pay3_apply]
    have : ∑ j : Fin 1024, (S (ix2 i j) : EReal) * colIt S v (t + 1) (ix2 j (0 : Fin 1))
        = ∑ j : Fin 1024, (S (ix2 i j) : EReal) * colIt S v t (ix2 j (0 : Fin 1)) := by
      refine Finset.sum_congr rfl fun j _ => ?_
      by_cases hj : j.val < t
      · rw [ih j hj]
      · rw [hS i j (Fin.le_def.mpr (by omega)), zero_mul, zero_mul]
    rw [this]

/-- So the flag after 1025 rounds is not set. -/
theorem flagIt_last (S : FVec Ideal S1024x1024 .bf16) (v : FVec Ideal S1024x1 .f32)
    (hS : ∀ i j : Fin 1024, i ≤ j → S (ix2 i j) = (0 : EReal)) : flagIt S v 1025 ≠ 1#1 := by
  intro h
  exact (flag_iff S v (colIt S v 1024)).mp h (col_ext fun i => colIt_stable S v hS 1024 i i.isLt)

section Equations
variable (S : FVec Ideal S1024x1024 .bf16) (v : FVec Ideal S1024x1 .f32) (w : FVec Ideal S1x1024 .f32) (t : ℕ)
theorem colIt_zero : colIt S v 0 = v := rfl
theorem colIt_succ : colIt S v (t + 1) = k1_pay3 S v (colIt S v t) := rfl
theorem rowIt_zero : rowIt S w 0 = w := rfl
theorem rowIt_succ : rowIt S w (t + 1) = k1_pay2 S w (rowIt S w t) := rfl
theorem flagIt_zero : flagIt S v 0 = 1#1 := rfl
theorem flagIt_succ : flagIt S v (t + 1)
    = Scalar.cmpf (F := Ideal) .ogt (k1_pay4 S v (colIt S v t)) (Scalar.ofBits .f32 0x00000000#32) := rfl
end Equations
attribute [irreducible] colIt rowIt flagIt

end Cert.Proof.Nms

end
-- ==== Proof.Nms.LoopRun.lean ====
/-
  The second kernel of the program (the suppression): its `while` label answered at the exit values of the pure loop,
  its body run from the eleven staging buffers, its proof data at an entry valuation and its body obligation.
-/
module

public import proofs.«01_k».proof.Proof.Nms.Loop

@[expose] public section

set_option maxRecDepth 1860

noncomputable section

namespace Cert.Proof.Nms

open Cert.KernelIdeal Cert.KernelIdeal.Gen

open Idealize.ShloMosaic hiding ix1 ix2 ix3 ix4 eq_ix1 eq_ix2 eq_ix3 eq_ix4
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ UR ℕ
/-- The number of rounds after which the loop's flag is first not set. -/
@[irreducible] def rounds (S : FVec Ideal S1024x1024 .bf16) (v : FVec Ideal S1024x1 .f32) : ℕ := sInf {t | flagIt S v t ≠ 1#1}

theorem rounds_le (S : FVec Ideal S1024x1024 .bf16) (v : FVec Ideal S1024x1 .f32) (t : ℕ) (h : flagIt S v t ≠ 1#1) : rounds S v ≤ t := by
  unfold rounds; exact Nat.sInf_le (Set.mem_setOf.mpr h)
theorem rounds_mem (S : FVec Ideal S1024x1024 .bf16) (v : FVec Ideal S1024x1 .f32) (t : ℕ) (h : flagIt S v t ≠ 1#1) :
    flagIt S v (rounds S v) ≠ 1#1 := by
  have := Nat.sInf_mem (s := {t | flagIt S v t ≠ 1#1}) ⟨t, h⟩
  rw [rounds]; exact this

/-- What the `while` leaves. -/
def loopOut (U S : FVec Ideal S1024x1024 .bf16) (w : FVec Ideal S1x1024 .f32) (v : FVec Ideal S1024x1 .f32) :
    FVec Ideal S1024x1 .f32 × FVec Ideal S1x1024 .f32 × BitVec 1 :=
  (colIt S v (rounds S v), rowIt U w (rounds S v), flagIt S v (rounds S v))

/-- The label's specification: it hands back the exit values and touches nothing. -/
def loopSpec (U S : FVec Ideal S1024x1024 .bf16) (w : FVec Ideal S1x1024 .f32) (v : FVec Ideal S1024x1 .f32) :
    sWPT 𝕄 (FVec Ideal S1024x1 .f32 × FVec Ideal S1x1024 .f32 × BitVec 1) := pure (loopOut U S w v)
theorem loopSpec_apply (U S : FVec Ideal S1024x1024 .bf16) (w : FVec Ideal S1x1024 .f32) (v : FVec Ideal S1024x1 .f32)
    (K : FVec Ideal S1024x1 .f32 × FVec Ideal S1x1024 .f32 × BitVec 1 → sProp 𝕄) :
    loopSpec U S w v K = K (colIt S v (rounds S v), rowIt U w (rounds S v), flagIt S v (rounds S v)) := rfl

/-- The label entered after `t` rounds with fuel `k` meets its specification. -/
structure LoopMeets (c : Dev nD) (E : Set ℕ) (U S : FVec Ideal S1024x1024 .bf16) (w : FVec Ideal S1x1024 .f32) (v : FVec Ideal S1024x1 .f32)
    (k t : ℕ) : Prop where
  le : loopSpec U S w v ≤ wp frame (wpE (defs₀ (F := Ideal)) 𝒱₀ (c : Thread nD τ) (some k)) E
          (defs₀ (F := Ideal) .tc 2 ⟨U, S, w, v, colIt S v t, rowIt U w t, flagIt S v t⟩)

/-- The label entered after `t` rounds, with fuel for the rounds that remain, hands back the exit values. -/
theorem loop_le (c : Dev nD) (E : Set ℕ) (U S : FVec Ideal S1024x1024 .bf16) (w : FVec Ideal S1x1024 .f32) (v : FVec Ideal S1024x1 .f32)
    (hT : flagIt S v (rounds S v) ≠ 1#1) :
    ∀ k t, t ≤ rounds S v → rounds S v ≤ t + k → LoopMeets c E U S w v k t := by
  intro k
  induction k with
  | zero =>
    intro t h1 h2; refine ⟨fun K => ?_⟩
    have ht : t = rounds S v := by omega
    subst ht
    rw [loopSpec_apply]
    show _ ⊢ wp frame (wpE (defs₀ (F := Ideal)) 𝒱₀ (c : Thread nD τ) (some 0)) E
      (cc1_while1 U S w v (colIt S v (rounds S v)) (rowIt U w (rounds S v)) (flagIt S v (rounds S v))) K
    simp only [cc1_while1_eq_skeleton]; unfold cc1_while1_skel
    simp only [hT, ↓reduceIte, Prog.pure_eq_ret]
    iintro Hk
    rw [wp_ret]; imodintro
    iexact Hk
  | succ k ih =>
    intro t h1 h2; refine ⟨fun K => ?_⟩
    rw [loopSpec_apply]
    show _ ⊢ wp frame (wpE (defs₀ (F := Ideal)) 𝒱₀ (c : Thread nD τ) (some (k + 1))) E
      (cc1_while1 U S w v (colIt S v t) (rowIt U w t) (flagIt S v t)) K
    simp only [cc1_while1_eq_skeleton]; unfold cc1_while1_skel
    by_cases hf : flagIt S v t = 1#1
    · simp only [hf, ↓reduceIte, Prog.lift, Prog.bind_op, Prog.bind_ret, Prog.pure_eq_ret]
      have hne : t ≠ rounds S v := fun e => hT (e ▸ hf)
      rw [← colIt_succ, ← rowIt_succ, ← flagIt_succ]
      have hle : rounds S v ≤ t + 1 + k := by clear ih; omega
      have hle' : t + 1 ≤ rounds S v := by clear ih; omega
      have hih := (ih (t + 1) hle' hle).le
      have hlt : ∀ u ∈ (some (k + 1) : Option ℕ), (𝒱₀).lt k u := fun u hu => by cases hu; exact Nat.lt_succ_self k
      iintro Hk
      iapply (wp_call_spec (ℓ := (2 : (Λ₀ Ideal).Label)) 𝒱₀ (c : Thread nD τ) (some (k + 1)) E (loopSpec U S w v) k hlt hih)
      rw [loopSpec_apply, wp_ret]; imodintro
      iexact Hk
    · have ht : t = rounds S v := Nat.le_antisymm h1 (rounds_le S v t hf)
      subst ht
      simp only [hT, ↓reduceIte, Prog.pure_eq_ret]
      iintro Hk
      rw [wp_ret]; imodintro
      iexact Hk

end Cert.Proof.Nms

end
-- ==== Proof.Nms.Body1.lean ====
/-
  The second kernel of the program (the suppression): its body run from the eleven staging buffers. The body reads the
  boxes, the labels, the scores and the valid flags as columns and as rows, builds the two triangular overlap matrices,
  runs the loop, and writes the detections' scores, labels and four box coordinates.
-/
module

public import proofs.«01_k».proof.Proof.Nms.LoopRun

@[expose] public section

set_option maxRecDepth 1860

noncomputable section

namespace Cert.Proof.Nms

open Cert.KernelIdeal Cert.KernelIdeal.Gen

open Idealize.ShloMosaic hiding ix1 ix2 ix3 ix4 eq_ix1 eq_ix2 eq_ix3 eq_ix4
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ UR ℕ
open ValueIdx

/-- The rectangles the body reads and writes: column `k` and row `k` of the boxes, and the whole columns and rows. -/
abbrev ldC0 (f : (cc1_stg0_0 : Ref sig .tc).ty.Contents (Elt Ideal)) : Vec Ideal S1024x1 .f32 :=
  (Memref.whole cc1_stg0_0).view.readAt (Elt Ideal) (Rect.unit (s := S1024x4) ![0, 0] S1024x1.size inb_S1024x4_S1024x1_0_0).toLoadRect f
abbrev ldC1 (f : (cc1_stg0_0 : Ref sig .tc).ty.Contents (Elt Ideal)) : Vec Ideal S1024x1 .f32 :=
  (Memref.whole cc1_stg0_0).view.readAt (Elt Ideal) (Rect.unit (s := S1024x4) ![0, 1] S1024x1.size inb_S1024x4_S1024x1_0_1).toLoadRect f
abbrev ldC2 (f : (cc1_stg0_0 : Ref sig .tc).ty.Contents (Elt Ideal)) : Vec Ideal S1024x1 .f32 :=
  (Memref.whole cc1_stg0_0).view.readAt (Elt Ideal) (Rect.unit (s := S1024x4) ![0, 2] S1024x1.size inb_S1024x4_S1024x1_0_2).toLoadRect f
abbrev ldC3 (f : (cc1_stg0_0 : Ref sig .tc).ty.Contents (Elt Ideal)) : Vec Ideal S1024x1 .f32 :=
  (Memref.whole cc1_stg0_0).view.readAt (Elt Ideal) (Rect.unit (s := S1024x4) ![0, 3] S1024x1.size inb_S1024x4_S1024x1_0_3).toLoadRect f
abbrev ldR0 (f : (cc1_stg1_0 : Ref sig .tc).ty.Contents (Elt Ideal)) : Vec Ideal S1x1024 .f32 :=
  (Memref.whole cc1_stg1_0).view.readAt (Elt Ideal) (Rect.unit (s := S4x1024) ![0, 0] S1x1024.size inb_S4x1024_S1x1024_0_0).toLoadRect f
abbrev ldR1 (f : (cc1_stg1_0 : Ref sig .tc).ty.Contents (Elt Ideal)) : Vec Ideal S1x1024 .f32 :=
  (Memref.whole cc1_stg1_0).view.readAt (Elt Ideal) (Rect.unit (s := S4x1024) ![1, 0] S1x1024.size inb_S4x1024_S1x1024_1_0).toLoadRect f
abbrev ldR2 (f : (cc1_stg1_0 : Ref sig .tc).ty.Contents (Elt Ideal)) : Vec Ideal S1x1024 .f32 :=
  (Memref.whole cc1_stg1_0).view.readAt (Elt Ideal) (Rect.unit (s := S4x1024) ![2, 0] S1x1024.size inb_S4x1024_S1x1024_2_0).toLoadRect f
abbrev ldR3 (f : (cc1_stg1_0 : Ref sig .tc).ty.Contents (Elt Ideal)) : Vec Ideal S1x1024 .f32 :=
  (Memref.whole cc1_stg1_0).view.readAt (Elt Ideal) (Rect.unit (s := S4x1024) ![3, 0] S1x1024.size inb_S4x1024_S1x1024_3_0).toLoadRect f

/-- The strictly upper and strictly lower overlap matrices, from the boxes' columns and rows and the labels. -/
@[irreducible] def upper (c0 c1 c2 c3 l : Vec Ideal S1024x1 .f32) (r0 r1 r2 r3 m : Vec Ideal S1x1024 .f32) : FVec Ideal S1024x1024 .bf16 :=
  k1_pay18 (k1_pay7 l c0) (k1_pay8 l c1) (k1_pay9 l c2) (k1_pay10 l c3) (k1_pay11 m r0) (k1_pay12 m r1) (k1_pay13 m r2) (k1_pay14 m r3)
    (k1_pay15 l m c2 r2) (k1_pay16 l m c0 r0)
@[irreducible] def lower (c0 c1 c2 c3 l : Vec Ideal S1024x1 .f32) (r0 r1 r2 r3 m : Vec Ideal S1x1024 .f32) : FVec Ideal S1024x1024 .bf16 :=
  k1_pay19 (k1_pay7 l c0) (k1_pay8 l c1) (k1_pay9 l c2) (k1_pay10 l c3) (k1_pay11 m r0) (k1_pay12 m r1) (k1_pay13 m r2) (k1_pay14 m r3)
    (k1_pay15 l m c2 r2) (k1_pay16 l m c0 r0)

theorem upper_eq (c0 c1 c2 c3 l : Vec Ideal S1024x1 .f32) (r0 r1 r2 r3 m : Vec Ideal S1x1024 .f32) :
    k1_pay18 (k1_pay7 l c0) (k1_pay8 l c1) (k1_pay9 l c2) (k1_pay10 l c3) (k1_pay11 m r0) (k1_pay12 m r1) (k1_pay13 m r2) (k1_pay14 m r3)
      (k1_pay15 l m c2 r2) (k1_pay16 l m c0 r0) = upper c0 c1 c2 c3 l r0 r1 r2 r3 m := by unfold upper; rfl
theorem lower_eq (c0 c1 c2 c3 l : Vec Ideal S1024x1 .f32) (r0 r1 r2 r3 m : Vec Ideal S1x1024 .f32) :
    k1_pay19 (k1_pay7 l c0) (k1_pay8 l c1) (k1_pay9 l c2) (k1_pay10 l c3) (k1_pay11 m r0) (k1_pay12 m r1) (k1_pay13 m r2) (k1_pay14 m r3)
      (k1_pay15 l m c2 r2) (k1_pay16 l m c0 r0) = lower c0 c1 c2 c3 l r0 r1 r2 r3 m := by unfold lower; rfl

/-- The integer a small natural's 32-bit word stands for. -/
theorem toInt_ofNat (n : ℕ) (h : n < 2147483648) : (BitVec.ofNat 32 n).toInt = (n : ℤ) := by
  rw [BitVec.toInt_eq_toNat_of_lt] <;> simp only [BitVec.toNat_ofNat] <;> omega
/-- Comparing two small naturals' words. -/
theorem cmpi_sgt_ofNat (a b : ℕ) (ha : a < 2147483648) (hb : b < 2147483648) :
    IntOp.cmpi .sgt (BitVec.ofNat 32 a) (BitVec.ofNat 32 b) = 1#1 ↔ b < a := by
  by_cases h : b < a <;> simp [IntOp.cmpi, BitVec.slt, toInt_ofNat a ha, toInt_ofNat b hb, h]
theorem cmpi_slt_ofNat (a b : ℕ) (ha : a < 2147483648) (hb : b < 2147483648) :
    IntOp.cmpi .slt (BitVec.ofNat 32 a) (BitVec.ofNat 32 b) = 1#1 ↔ a < b := by
  by_cases h : a < b <;> simp [IntOp.cmpi, BitVec.slt, toInt_ofNat a ha, toInt_ofNat b hb, h]
theorem cmpi_eq_ofNat (a b : ℕ) (ha : a < 2147483648) (hb : b < 2147483648) :
    IntOp.cmpi .eq (BitVec.ofNat 32 a) (BitVec.ofNat 32 b) = 1#1 ↔ a = b := by
  have : (BitVec.ofNat 32 a = BitVec.ofNat 32 b) ↔ a = b :=
    ⟨fun e => by have := congrArg BitVec.toInt e; rw [toInt_ofNat a ha, toInt_ofNat b hb] at this; omega, fun e => e ▸ rfl⟩
  show BitVec.ofBool (BitVec.ofNat 32 a == BitVec.ofNat 32 b) = 1#1 ↔ a = b
  by_cases h : a = b
  · subst h; simp
  · rw [show (BitVec.ofNat 32 a == BitVec.ofNat 32 b) = false from beq_eq_false_iff_ne.mpr (fun e => h (this.mp e))]
    simp [h]

/-- Every entry of the lower matrix on or above the diagonal is zero. -/
theorem pay19_zero (v10 v13 v16 v19 : FVec Ideal S1024x1 .f32) (v22 v25 v28 v31 : FVec Ideal S1x1024 .f32) (v34 v37 : FVec Ideal S1024x1024 .f32)
    (i j : Fin 1024) (h : i ≤ j) : k1_pay19 v10 v13 v16 v19 v22 v25 v28 v31 v34 v37 (ix2 i j) = (0 : EReal) := by
  unfold k1_pay19
  generalize k1_pay17 v10 v13 v16 v19 v22 v25 v28 v31 v34 v37 = m
  have hc : cmpi .sgt (iota .tc S1024x1024 32 [0] iota_S1024x1024_d0_w32) (iota .tc S1024x1024 32 [1] iota_S1024x1024_d1_w32) (ix2 i j) = 0#1 := by
    refine eq_zero_of_ne_one fun e => ?_
    rw [show cmpi .sgt (iota .tc S1024x1024 32 [0] iota_S1024x1024_d0_w32) (iota .tc S1024x1024 32 [1] iota_S1024x1024_d1_w32) (ix2 i j)
      = IntOp.cmpi .sgt (iota .tc S1024x1024 32 [0] iota_S1024x1024_d0_w32 (ix2 i j)) (iota .tc S1024x1024 32 [1] iota_S1024x1024_d1_w32 (ix2 i j)) from rfl,
      iota_single_apply, iota_single_apply] at e
    have := (cmpi_sgt_ofNat i.val j.val (by have := i.isLt; omega) (by have := j.isLt; omega)).mp e
    exact absurd h (by rw [Fin.le_def]; omega)
  show Scalar.select (IntOp.andi (m (ix2 i j)) (cmpi .sgt (iota .tc S1024x1024 32 [0] iota_S1024x1024_d0_w32) (iota .tc S1024x1024 32 [1] iota_S1024x1024_d1_w32) (ix2 i j)))
    (Ideal.ofBits .f32 0x3F800000#32) (Ideal.ofBits .f32 0x00000000#32) = _
  rw [hc, show IntOp.andi (m (ix2 i j)) 0#1 = 0#1 from by simp [IntOp.andi], select_zero, Ideal.ofBits_zero_f32]

theorem lower_zero (c0 c1 c2 c3 l : Vec Ideal S1024x1 .f32) (r0 r1 r2 r3 m : Vec Ideal S1x1024 .f32) (i j : Fin 1024) (h : i ≤ j) :
    lower c0 c1 c2 c3 l r0 r1 r2 r3 m (ix2 i j) = (0 : EReal) := by
  unfold lower; exact pay19_zero _ _ _ _ _ _ _ _ _ _ i j h

/-- The survivors, as a column and as a row, from the two matrices and the valid flags. -/
@[irreducible] def keepCol (S : FVec Ideal S1024x1024 .bf16) (v : Vec Ideal S1024x1 .f32) : FVec Ideal S1024x1 .f32 :=
  colIt S (k1_pay20 v) (rounds S (k1_pay20 v))
@[irreducible] def keepRow (U S : FVec Ideal S1024x1024 .bf16) (v : Vec Ideal S1024x1 .f32) (w : Vec Ideal S1x1024 .f32) : FVec Ideal S1x1024 .f32 :=
  rowIt U (k1_pay21 w) (rounds S (k1_pay20 v))

theorem keepCol_eq (S : FVec Ideal S1024x1024 .bf16) (v : Vec Ideal S1024x1 .f32) :
    colIt S (k1_pay20 v) (rounds S (k1_pay20 v)) = keepCol S v := by unfold keepCol; rfl
theorem keepRow_eq (U S : FVec Ideal S1024x1024 .bf16) (v : Vec Ideal S1024x1 .f32) (w : Vec Ideal S1x1024 .f32) :
    rowIt U (k1_pay21 w) (rounds S (k1_pay20 v)) = keepRow U S v w := by unfold keepRow; rfl

/-- The one-hot matrix of the detections' places, and the detections' scores. -/
abbrev places (kc : FVec Ideal S1024x1 .f32) (kr : FVec Ideal S1x1024 .f32) (s : Vec Ideal S1024x1 .f32) (t : Vec Ideal S1x1024 .f32) : FVec Ideal S128x1024 .f32 :=
  k1_pay23 (iota .tc S1024x1024 32 [0] iota_S1024x1024_d0_w32) (iota .tc S1024x1024 32 [1] iota_S1024x1024_d1_w32) kc kr s t
abbrev detScores (kc : FVec Ideal S1024x1 .f32) (kr : FVec Ideal S1x1024 .f32) (s : Vec Ideal S1024x1 .f32) (t : Vec Ideal S1x1024 .f32) : FVec Ideal S128x1 .f32 :=
  k1_pay24 (iota .tc S1024x1024 32 [0] iota_S1024x1024_d0_w32) (iota .tc S1024x1024 32 [1] iota_S1024x1024_d1_w32) kc kr s t

/-- The label `2` called on the initial values hands back the survivors. -/
theorem call_loop (c : Dev nD) (E : Set ℕ) (U S : FVec Ideal S1024x1024 .bf16) (w : FVec Ideal S1x1024 .f32) (v : FVec Ideal S1024x1 .f32)
    (hS : ∀ i j : Fin 1024, i ≤ j → S (ix2 i j) = (0 : EReal)) :
    LoopMeets c E U S w v (rounds S v) 0 :=
  loop_le c E U S w v (rounds_mem S v 1025 (flagIt_last S v hS)) (rounds S v) 0 (Nat.zero_le _) (by rw [Nat.zero_add])

/-- The grid of places and the scores from the eight inputs. -/
@[irreducible] def theGrid (f0 : (cc1_stg0_0 : Ref sig .tc).ty.Contents (Elt Ideal)) (f1 : (cc1_stg1_0 : Ref sig .tc).ty.Contents (Elt Ideal)) (f2 : (cc1_stg2_0 : Ref sig .tc).ty.Contents (Elt Ideal)) (f3 : (cc1_stg3_0 : Ref sig .tc).ty.Contents (Elt Ideal)) (f4 : (cc1_stg4_0 : Ref sig .tc).ty.Contents (Elt Ideal)) (f5 : (cc1_stg5_0 : Ref sig .tc).ty.Contents (Elt Ideal)) (f6 : (cc1_stg6_0 : Ref sig .tc).ty.Contents (Elt Ideal)) (f7 : (cc1_stg7_0 : Ref sig .tc).ty.Contents (Elt Ideal)) : FVec Ideal S128x1024 .f32 :=
  places (keepCol (lower (ldC0 f0) (ldC1 f0) (ldC2 f0) (ldC3 f0) f4 (ldR0 f1) (ldR1 f1) (ldR2 f1) (ldR3 f1) f5) f6)
    (keepRow (upper (ldC0 f0) (ldC1 f0) (ldC2 f0) (ldC3 f0) f4 (ldR0 f1) (ldR1 f1) (ldR2 f1) (ldR3 f1) f5) (lower (ldC0 f0) (ldC1 f0) (ldC2 f0) (ldC3 f0) f4 (ldR0 f1) (ldR1 f1) (ldR2 f1) (ldR3 f1) f5) f6 f7) f2 f3
@[irreducible] def theScores (f0 : (cc1_stg0_0 : Ref sig .tc).ty.Contents (Elt Ideal)) (f1 : (cc1_stg1_0 : Ref sig .tc).ty.Contents (Elt Ideal)) (f2 : (cc1_stg2_0 : Ref sig .tc).ty.Contents (Elt Ideal)) (f3 : (cc1_stg3_0 : Ref sig .tc).ty.Contents (Elt Ideal)) (f4 : (cc1_stg4_0 : Ref sig .tc).ty.Contents (Elt Ideal)) (f5 : (cc1_stg5_0 : Ref sig .tc).ty.Contents (Elt Ideal)) (f6 : (cc1_stg6_0 : Ref sig .tc).ty.Contents (Elt Ideal)) (f7 : (cc1_stg7_0 : Ref sig .tc).ty.Contents (Elt Ideal)) : FVec Ideal S128x1 .f32 :=
  detScores (keepCol (lower (ldC0 f0) (ldC1 f0) (ldC2 f0) (ldC3 f0) f4 (ldR0 f1) (ldR1 f1) (ldR2 f1) (ldR3 f1) f5) f6)
    (keepRow (upper (ldC0 f0) (ldC1 f0) (ldC2 f0) (ldC3 f0) f4 (ldR0 f1) (ldR1 f1) (ldR2 f1) (ldR3 f1) f5) (lower (ldC0 f0) (ldC1 f0) (ldC2 f0) (ldC3 f0) f4 (ldR0 f1) (ldR1 f1) (ldR2 f1) (ldR3 f1) f5) f6 f7) f2 f3
theorem theGrid_eq (f0 : (cc1_stg0_0 : Ref sig .tc).ty.Contents (Elt Ideal)) (f1 : (cc1_stg1_0 : Ref sig .tc).ty.Contents (Elt Ideal)) (f2 : (cc1_stg2_0 : Ref sig .tc).ty.Contents (Elt Ideal)) (f3 : (cc1_stg3_0 : Ref sig .tc).ty.Contents (Elt Ideal)) (f4 : (cc1_stg4_0 : Ref sig .tc).ty.Contents (Elt Ideal)) (f5 : (cc1_stg5_0 : Ref sig .tc).ty.Contents (Elt Ideal)) (f6 : (cc1_stg6_0 : Ref sig .tc).ty.Contents (Elt Ideal)) (f7 : (cc1_stg7_0 : Ref sig .tc).ty.Contents (Elt Ideal)) : k1_pay23 (iota .tc S1024x1024 32 [0] iota_S1024x1024_d0_w32) (iota .tc S1024x1024 32 [1] iota_S1024x1024_d1_w32)
    (keepCol (lower (ldC0 f0) (ldC1 f0) (ldC2 f0) (ldC3 f0) f4 (ldR0 f1) (ldR1 f1) (ldR2 f1) (ldR3 f1) f5) f6)
    (keepRow (upper (ldC0 f0) (ldC1 f0) (ldC2 f0) (ldC3 f0) f4 (ldR0 f1) (ldR1 f1) (ldR2 f1) (ldR3 f1) f5) (lower (ldC0 f0) (ldC1 f0) (ldC2 f0) (ldC3 f0) f4 (ldR0 f1) (ldR1 f1) (ldR2 f1) (ldR3 f1) f5) f6 f7) f2 f3 = theGrid f0 f1 f2 f3 f4 f5 f6 f7 := by unfold theGrid; rfl
theorem theScores_eq (f0 : (cc1_stg0_0 : Ref sig .tc).ty.Contents (Elt Ideal)) (f1 : (cc1_stg1_0 : Ref sig .tc).ty.Contents (Elt Ideal)) (f2 : (cc1_stg2_0 : Ref sig .tc).ty.Contents (Elt Ideal)) (f3 : (cc1_stg3_0 : Ref sig .tc).ty.Contents (Elt Ideal)) (f4 : (cc1_stg4_0 : Ref sig .tc).ty.Contents (Elt Ideal)) (f5 : (cc1_stg5_0 : Ref sig .tc).ty.Contents (Elt Ideal)) (f6 : (cc1_stg6_0 : Ref sig .tc).ty.Contents (Elt Ideal)) (f7 : (cc1_stg7_0 : Ref sig .tc).ty.Contents (Elt Ideal)) : k1_pay24 (iota .tc S1024x1024 32 [0] iota_S1024x1024_d0_w32) (iota .tc S1024x1024 32 [1] iota_S1024x1024_d1_w32)
    (keepCol (lower (ldC0 f0) (ldC1 f0) (ldC2 f0) (ldC3 f0) f4 (ldR0 f1) (ldR1 f1) (ldR2 f1) (ldR3 f1) f5) f6)
    (keepRow (upper (ldC0 f0) (ldC1 f0) (ldC2 f0) (ldC3 f0) f4 (ldR0 f1) (ldR1 f1) (ldR2 f1) (ldR3 f1) f5) (lower (ldC0 f0) (ldC1 f0) (ldC2 f0) (ldC3 f0) f4 (ldR0 f1) (ldR1 f1) (ldR2 f1) (ldR3 f1) f5) f6 f7) f2 f3 = theScores f0 f1 f2 f3 f4 f5 f6 f7 := by unfold theScores; rfl

/-- The boxes' buffer after its four column writes. -/
@[irreducible] def out8 (g : FVec Ideal S128x1024 .f32) (f1 : (cc1_stg1_0 : Ref sig .tc).ty.Contents (Elt Ideal)) (f8 : (cc1_stg8_0 : Ref sig .tc).ty.Contents (Elt Ideal)) :
    (cc1_stg8_0 : Ref sig .tc).ty.Contents (Elt Ideal) :=
  ((Memref.whole cc1_stg8_0).access (Rect.unit (s := S128x4) ![0, 3] S128x1.size inb_S128x4_S128x1_0_3)).write (Elt Ideal) (((Memref.whole cc1_stg8_0).access (Rect.unit (s := S128x4) ![0, 2] S128x1.size inb_S128x4_S128x1_0_2)).write (Elt Ideal) (((Memref.whole cc1_stg8_0).access (Rect.unit (s := S128x4) ![0, 1] S128x1.size inb_S128x4_S128x1_0_1)).write (Elt Ideal)
    (((Memref.whole cc1_stg8_0).access (Rect.unit (s := S128x4) ![0, 0] S128x1.size inb_S128x4_S128x1_0_0)).write (Elt Ideal) f8 (k1_pay26 g (ldR0 f1)) Finset.univ)
    (k1_pay27 g (ldR1 f1)) Finset.univ) (k1_pay28 g (ldR2 f1)) Finset.univ) (k1_pay1 g (k1_pay29 (ldR3 f1))) Finset.univ

set_option maxHeartbeats 2000000 in
/-- The second body run from its eleven staging buffers. -/
theorem run1 (c : Dev nD)
    (f0 : Buf (Elt Ideal) (((c : Dev nD) : Thread nD τ).loc cc1_stg0_0))
    (f1 : Buf (Elt Ideal) (((c : Dev nD) : Thread nD τ).loc cc1_stg1_0))
    (f2 : Buf (Elt Ideal) (((c : Dev nD) : Thread nD τ).loc cc1_stg2_0))
    (f3 : Buf (Elt Ideal) (((c : Dev nD) : Thread nD τ).loc cc1_stg3_0))
    (f4 : Buf (Elt Ideal) (((c : Dev nD) : Thread nD τ).loc cc1_stg4_0))
    (f5 : Buf (Elt Ideal) (((c : Dev nD) : Thread nD τ).loc cc1_stg5_0))
    (f6 : Buf (Elt Ideal) (((c : Dev nD) : Thread nD τ).loc cc1_stg6_0))
    (f7 : Buf (Elt Ideal) (((c : Dev nD) : Thread nD τ).loc cc1_stg7_0))
    (f8 : Buf (Elt Ideal) (((c : Dev nD) : Thread nD τ).loc cc1_stg8_0))
    (f9 : Buf (Elt Ideal) (((c : Dev nD) : Thread nD τ).loc cc1_stg9_0))
    (f10 : Buf (Elt Ideal) (((c : Dev nD) : Thread nD τ).loc cc1_stg10_0))
    (Q : PUnit → sProp 𝕄) :
    iprop((((c : Thread nD τ).loc cc1_stg0_0) ↦{fullShare} f0)
      ∗ (((c : Thread nD τ).loc cc1_stg1_0) ↦{fullShare} f1)
      ∗ (((c : Thread nD τ).loc cc1_stg2_0) ↦{fullShare} f2)
      ∗ (((c : Thread nD τ).loc cc1_stg3_0) ↦{fullShare} f3)
      ∗ (((c : Thread nD τ).loc cc1_stg4_0) ↦{fullShare} f4)
      ∗ (((c : Thread nD τ).loc cc1_stg5_0) ↦{fullShare} f5)
      ∗ (((c : Thread nD τ).loc cc1_stg6_0) ↦{fullShare} f6)
      ∗ (((c : Thread nD τ).loc cc1_stg7_0) ↦{fullShare} f7)
      ∗ (((c : Thread nD τ).loc cc1_stg8_0) ↦{fullShare} f8)
      ∗ (((c : Thread nD τ).loc cc1_stg9_0) ↦{fullShare} f9)
      ∗ (((c : Thread nD τ).loc cc1_stg10_0) ↦{fullShare} f10)
      ∗ (iprop((((c : Thread nD τ).loc cc1_stg0_0) ↦{fullShare} f0)
          ∗ (((c : Thread nD τ).loc cc1_stg1_0) ↦{fullShare} f1)
          ∗ (((c : Thread nD τ).loc cc1_stg2_0) ↦{fullShare} f2)
          ∗ (((c : Thread nD τ).loc cc1_stg3_0) ↦{fullShare} f3)
          ∗ (((c : Thread nD τ).loc cc1_stg4_0) ↦{fullShare} f4)
          ∗ (((c : Thread nD τ).loc cc1_stg5_0) ↦{fullShare} f5)
          ∗ (((c : Thread nD τ).loc cc1_stg6_0) ↦{fullShare} f6)
          ∗ (((c : Thread nD τ).loc cc1_stg7_0) ↦{fullShare} f7)
          ∗ (((c : Thread nD τ).loc cc1_stg8_0) ↦{fullShare} (out8 (theGrid f0 f1 f2 f3 f4 f5 f6 f7) f1 f8))
          ∗ (((c : Thread nD τ).loc cc1_stg9_0) ↦{fullShare} (theScores f0 f1 f2 f3 f4 f5 f6 f7))
          ∗ (((c : Thread nD τ).loc cc1_stg10_0) ↦{fullShare} (k1_pay25 (theGrid f0 f1 f2 f3 f4 f5 f6 f7) f5))) -∗ Q ⟨⟩))
      ⊢ wp frame (wpE (defs₀ (F := Ideal)) 𝒱₀ (c : Thread nD τ) none) Set.univ
          (cc1__nms_body (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole cc1_stg8_0) (Memref.isWhole_whole _) (Memref.whole cc1_stg9_0) (Memref.isWhole_whole _) (Memref.whole cc1_stg10_0) (Memref.isWhole_whole _)) Q := by
  simp only [cc1__nms_body_eq_skeleton]; unfold cc1__nms_body_skel
  simp only [k1_part1_eq_skeleton, k1_part2_eq_skeleton, k1_part3_eq_skeleton, k1_part4_eq_skeleton]
  unfold k1_part1_skel k1_part2_skel k1_part3_skel k1_part4_skel
  simp only [Prog.lift, Prog.bind_op, Prog.bind_ret, Prog.pure_eq_ret]
  have e2 := Memref.readAt_unit_zero (Elt Ideal) cc1_stg2_0 (off := ![0, 0]) (funext fun a => by fin_cases a <;> rfl) inb_S1024x1_S1024x1_0_0 f2
  have e3 := Memref.readAt_unit_zero (Elt Ideal) cc1_stg3_0 (off := ![0, 0]) (funext fun a => by fin_cases a <;> rfl) inb_S1x1024_S1x1024_0_0 f3
  have e4 := Memref.readAt_unit_zero (Elt Ideal) cc1_stg4_0 (off := ![0, 0]) (funext fun a => by fin_cases a <;> rfl) inb_S1024x1_S1024x1_0_0 f4
  have e5 := Memref.readAt_unit_zero (Elt Ideal) cc1_stg5_0 (off := ![0, 0]) (funext fun a => by fin_cases a <;> rfl) inb_S1x1024_S1x1024_0_0 f5
  have e6 := Memref.readAt_unit_zero (Elt Ideal) cc1_stg6_0 (off := ![0, 0]) (funext fun a => by fin_cases a <;> rfl) inb_S1024x1_S1024x1_0_0 f6
  have e7 := Memref.readAt_unit_zero (Elt Ideal) cc1_stg7_0 (off := ![0, 0]) (funext fun a => by fin_cases a <;> rfl) inb_S1x1024_S1x1024_0_0 f7
  iintro ⟨H0, H1, H2, H3, H4, H5, H6, H7, H8, H9, H10, Hk⟩
  iapply (wp_load 𝒱₀ (c : Thread nD τ) none Set.univ (m := Memref.whole cc1_stg4_0) (Finset.subset_univ _)) $$ H4; iintro H4
  iapply (wp_load 𝒱₀ (c : Thread nD τ) none Set.univ (m := Memref.whole cc1_stg5_0) (Finset.subset_univ _)) $$ H5; iintro H5
  iapply (wp_load 𝒱₀ (c : Thread nD τ) none Set.univ (m := Memref.whole cc1_stg0_0) (Finset.subset_univ _)) $$ H0; iintro H0
  iapply (wp_load 𝒱₀ (c : Thread nD τ) none Set.univ (m := Memref.whole cc1_stg0_0) (Finset.subset_univ _)) $$ H0; iintro H0
  iapply (wp_load 𝒱₀ (c : Thread nD τ) none Set.univ (m := Memref.whole cc1_stg0_0) (Finset.subset_univ _)) $$ H0; iintro H0
  iapply (wp_load 𝒱₀ (c : Thread nD τ) none Set.univ (m := Memref.whole cc1_stg0_0) (Finset.subset_univ _)) $$ H0; iintro H0
  iapply (wp_load 𝒱₀ (c : Thread nD τ) none Set.univ (m := Memref.whole cc1_stg1_0) (Finset.subset_univ _)) $$ H1; iintro H1
  iapply (wp_load 𝒱₀ (c : Thread nD τ) none Set.univ (m := Memref.whole cc1_stg1_0) (Finset.subset_univ _)) $$ H1; iintro H1
  iapply (wp_load 𝒱₀ (c : Thread nD τ) none Set.univ (m := Memref.whole cc1_stg1_0) (Finset.subset_univ _)) $$ H1; iintro H1
  iapply (wp_load 𝒱₀ (c : Thread nD τ) none Set.univ (m := Memref.whole cc1_stg1_0) (Finset.subset_univ _)) $$ H1; iintro H1
  iapply (wp_load 𝒱₀ (c : Thread nD τ) none Set.univ (m := Memref.whole cc1_stg6_0) (Finset.subset_univ _)) $$ H6; iintro H6
  iapply (wp_load 𝒱₀ (c : Thread nD τ) none Set.univ (m := Memref.whole cc1_stg7_0) (Finset.subset_univ _)) $$ H7; iintro H7
  erw [e4, e5, e6, e7]
  rw [upper_eq, lower_eq]
  have hm := (call_loop c Set.univ (upper (ldC0 f0) (ldC1 f0) (ldC2 f0) (ldC3 f0) f4 (ldR0 f1) (ldR1 f1) (ldR2 f1) (ldR3 f1) f5) (lower (ldC0 f0) (ldC1 f0) (ldC2 f0) (ldC3 f0) f4 (ldR0 f1) (ldR1 f1) (ldR2 f1) (ldR3 f1) f5)
    (k1_pay21 f7) (k1_pay20 f6) (fun i j h => lower_zero _ _ _ _ _ _ _ _ _ _ i j h)).le
  rw [colIt_zero, rowIt_zero, flagIt_zero] at hm
  iapply (wp_call_spec (ℓ := (2 : (Λ₀ Ideal).Label)) 𝒱₀ (c : Thread nD τ) none Set.univ (loopSpec _ _ _ _) _ (fun u hu => nomatch hu) hm)
  rw [loopSpec_apply, keepCol_eq, keepRow_eq]
  iapply (wp_load 𝒱₀ (c : Thread nD τ) none Set.univ (m := Memref.whole cc1_stg2_0) (Finset.subset_univ _)) $$ H2; iintro H2
  iapply (wp_load 𝒱₀ (c : Thread nD τ) none Set.univ (m := Memref.whole cc1_stg3_0) (Finset.subset_univ _)) $$ H3; iintro H3
  erw [e2, e3]
  rw [theGrid_eq, theScores_eq]
  iapply (wp_load 𝒱₀ (c : Thread nD τ) none Set.univ (m := Memref.whole cc1_stg9_0) (Finset.subset_univ _)) $$ H9; iintro H9
  iapply (wp_store 𝒱₀ (c : Thread nD τ) none Set.univ (m := Memref.whole cc1_stg9_0)
    (r := Rect.unit (s := S128x1) ![0, 0] S128x1.size inb_S128x1_S128x1_0_0) (Mk := Finset.univ) (Finset.subset_univ _)) $$ H9; iintro H9
  iapply (wp_load 𝒱₀ (c : Thread nD τ) none Set.univ (m := Memref.whole cc1_stg5_0) (Finset.subset_univ _)) $$ H5; iintro H5
  erw [e5]
  iapply (wp_load 𝒱₀ (c : Thread nD τ) none Set.univ (m := Memref.whole cc1_stg10_0) (Finset.subset_univ _)) $$ H10; iintro H10
  iapply (wp_store 𝒱₀ (c : Thread nD τ) none Set.univ (m := Memref.whole cc1_stg10_0)
    (r := Rect.unit (s := S128x1) ![0, 0] S128x1.size inb_S128x1_S128x1_0_0) (Mk := Finset.univ) (Finset.subset_univ _)) $$ H10; iintro H10
  iapply (wp_load 𝒱₀ (c : Thread nD τ) none Set.univ (m := Memref.whole cc1_stg1_0) (Finset.subset_univ _)) $$ H1; iintro H1
  iapply (wp_load 𝒱₀ (c : Thread nD τ) none Set.univ (m := Memref.whole cc1_stg8_0) (Finset.subset_univ _)) $$ H8; iintro H8
  iapply (wp_store 𝒱₀ (c : Thread nD τ) none Set.univ (m := Memref.whole cc1_stg8_0)
    (r := Rect.unit (s := S128x4) ![0, 0] S128x1.size inb_S128x4_S128x1_0_0) (Mk := Finset.univ) (Finset.subset_univ _)) $$ H8; iintro H8
  iapply (wp_load 𝒱₀ (c : Thread nD τ) none Set.univ (m := Memref.whole cc1_stg1_0) (Finset.subset_univ _)) $$ H1; iintro H1
  iapply (wp_load 𝒱₀ (c : Thread nD τ) none Set.univ (m := Memref.whole cc1_stg8_0) (Finset.subset_univ _)) $$ H8; iintro H8
  iapply (wp_store 𝒱₀ (c : Thread nD τ) none Set.univ (m := Memref.whole cc1_stg8_0)
    (r := Rect.unit (s := S128x4) ![0, 1] S128x1.size inb_S128x4_S128x1_0_1) (Mk := Finset.univ) (Finset.subset_univ _)) $$ H8; iintro H8
  iapply (wp_load 𝒱₀ (c : Thread nD τ) none Set.univ (m := Memref.whole cc1_stg1_0) (Finset.subset_univ _)) $$ H1; iintro H1
  iapply (wp_load 𝒱₀ (c : Thread nD τ) none Set.univ (m := Memref.whole cc1_stg8_0) (Finset.subset_univ _)) $$ H8; iintro H8
  iapply (wp_store 𝒱₀ (c : Thread nD τ) none Set.univ (m := Memref.whole cc1_stg8_0)
    (r := Rect.unit (s := S128x4) ![0, 2] S128x1.size inb_S128x4_S128x1_0_2) (Mk := Finset.univ) (Finset.subset_univ _)) $$ H8; iintro H8
  iapply (wp_load 𝒱₀ (c : Thread nD τ) none Set.univ (m := Memref.whole cc1_stg1_0) (Finset.subset_univ _)) $$ H1; iintro H1
  iapply (wp_load 𝒱₀ (c : Thread nD τ) none Set.univ (m := Memref.whole cc1_stg8_0) (Finset.subset_univ _)) $$ H8; iintro H8
  iapply (wp_store 𝒱₀ (c : Thread nD τ) none Set.univ (m := Memref.whole cc1_stg8_0)
    (r := Rect.unit (s := S128x4) ![0, 3] S128x1.size inb_S128x4_S128x1_0_3) (Mk := Finset.univ) (Finset.subset_univ _)) $$ H8; iintro H8
  have e9 := Memref.write_access_unit_zero_univ (Elt Ideal) cc1_stg9_0 (off := ![0, 0]) (funext fun a => by fin_cases a <;> rfl) inb_S128x1_S128x1_0_0 f9
    (theScores f0 f1 f2 f3 f4 f5 f6 f7)
  have e10 := Memref.write_access_unit_zero_univ (Elt Ideal) cc1_stg10_0 (off := ![0, 0]) (funext fun a => by fin_cases a <;> rfl) inb_S128x1_S128x1_0_0 f10
    (k1_pay25 (theGrid f0 f1 f2 f3 f4 f5 f6 f7) f5)
  rw [wp_ret]; imodintro
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold out8; iexact H8
  erw [e9, e10]
  isplitl [H9]; · iexact H9
  iexact H10

end Cert.Proof.Nms

end
-- ==== Proof.Nms.Dat1.lean ====
/-
  The second kernel's region: what the staged buffers hold, the four column writes read at an index, its proof data at
  an entry valuation, its body obligation, and the three output arrays after the region.
-/
module

public import proofs.«01_k».proof.Proof.Nms.Body1
public import Idealize.ShloMosaic.Lib.WritesUnit

@[expose] public section

set_option maxRecDepth 1860

noncomputable section

namespace Cert.Proof.Nms

open Cert.KernelIdeal Cert.KernelIdeal.Gen

open Idealize.ShloMosaic hiding ix1 ix2 ix3 ix4 eq_ix1 eq_ix2 eq_ix3 eq_ix4
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ UR ℕ
open ValueIdx

/-- A column written into the 128 by 4 buffer, read at an index. -/
theorem colWrite_apply (k : Fin 4) (inb) (f : (cc1_stg8_0 : Ref sig .tc).ty.Contents (Elt Ideal)) (w : Vec Ideal S128x1 .f32)
    (p : Fin 128) (q : Fin 4) :
    ((Memref.whole cc1_stg8_0).access (Rect.unit (s := S128x4) ![0, k.val] S128x1.size inb)).write (Elt Ideal) f w Finset.univ (ix2 p q)
      = if q = k then w (ix2 p (0 : Fin 1)) else f (ix2 p q) := by
  by_cases h : q = k
  · rw [if_pos h]
    exact View.read_writes_cons_unit_of_mem (Memref.whole cc1_stg8_0).view f inb w [] (ix2 p q) (ix2 p (0 : Fin 1)) rfl
      (fun a => by subst h; match a with
        | ⟨0, _⟩ => exact (Nat.zero_add _).symm
        | ⟨1, _⟩ => rfl)
  · rw [if_neg h]
    exact View.read_writes_cons_unit_of_not_mem (Memref.whole cc1_stg8_0).view f inb w [] (ix2 p q) rfl (1 : Fin 2)
      (by have : q.val ≠ k.val := fun e => h (Fin.ext e)
          show q.val < k.val ∨ k.val + 1 ≤ q.val
          omega)

/-- The boxes' buffer after the four writes, at an index. -/
def det8at (g : FVec Ideal S128x1024 .f32) (f1 : (cc1_stg1_0 : Ref sig .tc).ty.Contents (Elt Ideal)) (p : Fin 128) (q : Fin 4) : EReal :=
  if q = 3 then k1_pay1 g (k1_pay29 (ldR3 f1)) (ix2 p (0 : Fin 1))
  else if q = 2 then k1_pay28 g (ldR2 f1) (ix2 p (0 : Fin 1))
  else if q = 1 then k1_pay27 g (ldR1 f1) (ix2 p (0 : Fin 1))
  else k1_pay26 g (ldR0 f1) (ix2 p (0 : Fin 1))
def det8 (g : FVec Ideal S128x1024 .f32) (f1 : (cc1_stg1_0 : Ref sig .tc).ty.Contents (Elt Ideal)) : Vec Ideal S128x4 .f32 :=
  fun y => det8at g f1 (y 0) (y 1)
theorem out8_eq (g : FVec Ideal S128x1024 .f32) (f1 : (cc1_stg1_0 : Ref sig .tc).ty.Contents (Elt Ideal)) (f8 : (cc1_stg8_0 : Ref sig .tc).ty.Contents (Elt Ideal)) :
    out8 g f1 f8 = det8 g f1 := by
  funext y
  obtain ⟨p, q, rfl⟩ : ∃ (p : Fin 128) (q : Fin 4), y = ix2 p q := ⟨y 0, y 1, eq_ix2 y⟩
  show _ = det8at g f1 p q
  unfold out8 det8at
  refine (colWrite_apply 3 _ _ _ p q).trans ?_
  by_cases h3 : q = 3
  · rw [if_pos h3, if_pos h3]
  rw [if_neg h3, if_neg h3]
  refine (colWrite_apply 2 _ _ _ p q).trans ?_
  by_cases h2 : q = 2
  · rw [if_pos h2, if_pos h2]
  rw [if_neg h2, if_neg h2]
  refine (colWrite_apply 1 _ _ _ p q).trans ?_
  by_cases h1 : q = 1
  · rw [if_pos h1, if_pos h1]
  rw [if_neg h1, if_neg h1]
  refine (colWrite_apply 0 _ _ _ p q).trans ?_
  rw [if_pos (by omega)]

variable (V : Vals)

/-- Input 0 as staged at the one point. -/
def stg1_0 (c : Dev nD) : (cc1_stg0_0 : Ref sig .tc).ty.Contents (Elt Ideal) :=
  (win1_0.blk t1_0).view.read (Elt Ideal) (V c (Proc.devRef .tc main_v84))
/-- Input 1 as staged at the one point. -/
def stg1_1 (c : Dev nD) : (cc1_stg1_0 : Ref sig .tc).ty.Contents (Elt Ideal) :=
  (win1_1.blk t1_0).view.read (Elt Ideal) (V c (Proc.devRef .tc main_v91))
/-- Input 2 as staged at the one point. -/
def stg1_2 (c : Dev nD) : (cc1_stg2_0 : Ref sig .tc).ty.Contents (Elt Ideal) :=
  (win1_2.blk t1_0).view.read (Elt Ideal) (V c (Proc.devRef .tc main_v92))
/-- Input 3 as staged at the one point. -/
def stg1_3 (c : Dev nD) : (cc1_stg3_0 : Ref sig .tc).ty.Contents (Elt Ideal) :=
  (win1_3.blk t1_0).view.read (Elt Ideal) (V c (Proc.devRef .tc main_v93))
/-- Input 4 as staged at the one point. -/
def stg1_4 (c : Dev nD) : (cc1_stg4_0 : Ref sig .tc).ty.Contents (Elt Ideal) :=
  (win1_4.blk t1_0).view.read (Elt Ideal) (V c (Proc.devRef .tc main_v94))
/-- Input 5 as staged at the one point. -/
def stg1_5 (c : Dev nD) : (cc1_stg5_0 : Ref sig .tc).ty.Contents (Elt Ideal) :=
  (win1_5.blk t1_0).view.read (Elt Ideal) (V c (Proc.devRef .tc main_v95))
/-- Input 6 as staged at the one point. -/
def stg1_6 (c : Dev nD) : (cc1_stg6_0 : Ref sig .tc).ty.Contents (Elt Ideal) :=
  (win1_6.blk t1_0).view.read (Elt Ideal) (V c (Proc.devRef .tc main_v96))
/-- Input 7 as staged at the one point. -/
def stg1_7 (c : Dev nD) : (cc1_stg7_0 : Ref sig .tc).ty.Contents (Elt Ideal) :=
  (win1_7.blk t1_0).view.read (Elt Ideal) (V c (Proc.devRef .tc main_v97))

/-- The outputs the body leaves. -/
@[irreducible] def grid1 (c : Dev nD) : FVec Ideal S128x1024 .f32 := theGrid (stg1_0 V c) (stg1_1 V c) (stg1_2 V c) (stg1_3 V c) (stg1_4 V c) (stg1_5 V c) (stg1_6 V c) (stg1_7 V c)
@[irreducible] def det0 (c : Dev nD) : Vec Ideal S128x4 .f32 := det8 (grid1 V c) (stg1_1 V c)
@[irreducible] def det1 (c : Dev nD) : Vec Ideal S128x1 .f32 := theScores (stg1_0 V c) (stg1_1 V c) (stg1_2 V c) (stg1_3 V c) (stg1_4 V c) (stg1_5 V c) (stg1_6 V c) (stg1_7 V c)
@[irreducible] def det2 (c : Dev nD) : Vec Ideal S128x1 .f32 := k1_pay25 (grid1 V c) (stg1_5 V c)

/-- The proof data of the second region. -/
def dat1 (c : Dev nD) : Dat τ (Elt Ideal) Unit ℕ UR ℕ (cfg1 (F := Ideal)) c where
  A w := V c (Proc.devRef .tc (Pipeline.arrRef spec1 w))
  after w _ := match w with
    | ⟨0, _⟩ => stg1_0 V c
    | ⟨1, _⟩ => stg1_1 V c
    | ⟨2, _⟩ => stg1_2 V c
    | ⟨3, _⟩ => stg1_3 V c
    | ⟨4, _⟩ => stg1_4 V c
    | ⟨5, _⟩ => stg1_5 V c
    | ⟨6, _⟩ => stg1_6 V c
    | ⟨7, _⟩ => stg1_7 V c
    | ⟨8, _⟩ => det0 V c
    | ⟨9, _⟩ => det1 V c
    | ⟨10, _⟩ => det2 V c
  Φ _ := Pipeline.scopedRest (Ix := Unit) (Name := ℕ) (U := UR) (Lvl := ℕ) (Val := Elt Ideal) spec1 c
  q _ := fullShare
  owed _ := 0

theorem before1_0 (c : Dev nD) (d) : (dat1 V c).before (0 : Fin 11) t1_0 d = stg1_0 V c := by
  unfold Dat.before; rw [if_pos (by decide)]; rfl
theorem before1_1 (c : Dev nD) (d) : (dat1 V c).before (1 : Fin 11) t1_0 d = stg1_1 V c := by
  unfold Dat.before; rw [if_pos (by decide)]; rfl
theorem before1_2 (c : Dev nD) (d) : (dat1 V c).before (2 : Fin 11) t1_0 d = stg1_2 V c := by
  unfold Dat.before; rw [if_pos (by decide)]; rfl
theorem before1_3 (c : Dev nD) (d) : (dat1 V c).before (3 : Fin 11) t1_0 d = stg1_3 V c := by
  unfold Dat.before; rw [if_pos (by decide)]; rfl
theorem before1_4 (c : Dev nD) (d) : (dat1 V c).before (4 : Fin 11) t1_0 d = stg1_4 V c := by
  unfold Dat.before; rw [if_pos (by decide)]; rfl
theorem before1_5 (c : Dev nD) (d) : (dat1 V c).before (5 : Fin 11) t1_0 d = stg1_5 V c := by
  unfold Dat.before; rw [if_pos (by decide)]; rfl
theorem before1_6 (c : Dev nD) (d) : (dat1 V c).before (6 : Fin 11) t1_0 d = stg1_6 V c := by
  unfold Dat.before; rw [if_pos (by decide)]; rfl
theorem before1_7 (c : Dev nD) (d) : (dat1 V c).before (7 : Fin 11) t1_0 d = stg1_7 V c := by
  unfold Dat.before; rw [if_pos (by decide)]; rfl

set_option maxHeartbeats 2000000 in
/-- The second region's body obligation. -/
theorem body1 (c : Dev nD) : BodyObligation (dat1 V c) (defs₀ (F := Ideal)) 𝒱₀ () Set.univ := fun t => by
  obtain rfl := fin_N1 t
  rw [bigSep_W1, bigSep_W1]
  sl_whnfR [defs₀, Defs.onTc]
  simp only [owns_whole, show stage1_0 0 = Memref.whole cc1_stg0_0 from rfl, show stage1_1 0 = Memref.whole cc1_stg1_0 from rfl, show stage1_2 0 = Memref.whole cc1_stg2_0 from rfl, show stage1_3 0 = Memref.whole cc1_stg3_0 from rfl, show stage1_4 0 = Memref.whole cc1_stg4_0 from rfl, show stage1_5 0 = Memref.whole cc1_stg5_0 from rfl, show stage1_6 0 = Memref.whole cc1_stg6_0 from rfl, show stage1_7 0 = Memref.whole cc1_stg7_0 from rfl, show stage1_8 0 = Memref.whole cc1_stg8_0 from rfl, show stage1_9 0 = Memref.whole cc1_stg9_0 from rfl, show stage1_10 0 = Memref.whole cc1_stg10_0 from rfl]
  rw [show (dat1 V c).Φ (Fin.succ t1_0) = (dat1 V c).Φ (Fin.castSucc t1_0) from rfl,
    show (dat1 V c).owesAt () (Fin.succ t1_0) = (dat1 V c).owesAt () (Fin.castSucc t1_0) from rfl]
  iintro ⟨HΦ, Howes, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, -, H8⟩, ⟨%d9, %f9, -, H9⟩, ⟨%d10, %f10, -, H10⟩⟩
  rw [before1_0] at h0
  rw [before1_1] at h1
  rw [before1_2] at h2
  rw [before1_3] at h3
  rw [before1_4] at h4
  rw [before1_5] at h5
  rw [before1_6] at h6
  rw [before1_7] at h7
  subst h0 h1 h2 h3 h4 h5 h6 h7
  have e8 : out8 (theGrid (stg1_0 V c) (stg1_1 V c) (stg1_2 V c) (stg1_3 V c) (stg1_4 V c) (stg1_5 V c) (stg1_6 V c) (stg1_7 V c)) (stg1_1 V c) f8 = det0 V c := by
    rw [out8_eq, det0, grid1]
  have e9 : theScores (stg1_0 V c) (stg1_1 V c) (stg1_2 V c) (stg1_3 V c) (stg1_4 V c) (stg1_5 V c) (stg1_6 V c) (stg1_7 V c) = det1 V c := by rw [det1]
  have e10 : k1_pay25 (theGrid (stg1_0 V c) (stg1_1 V c) (stg1_2 V c) (stg1_3 V c) (stg1_4 V c) (stg1_5 V c) (stg1_6 V c) (stg1_7 V c)) (stg1_5 V c) = det2 V c := by rw [det2, grid1]
  iapply (run1 c _ _ _ _ _ _ _ _ f8 f9 f10 _)
  rw [e8, e9, e10]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  isplitl [HΦ]; · iexact HΦ
  isplitl [Howes]; · iexact Howes
  isplitl [H0]
  · iexists _; isplitr; swap; (· iexact H0); ipureintro; rfl
  isplitl [H1]
  · iexists _; isplitr; swap; (· iexact H1); ipureintro; rfl
  isplitl [H2]
  · iexists _; isplitr; swap; (· iexact H2); ipureintro; rfl
  isplitl [H3]
  · iexists _; isplitr; swap; (· iexact H3); ipureintro; rfl
  isplitl [H4]
  · iexists _; isplitr; swap; (· iexact H4); ipureintro; rfl
  isplitl [H5]
  · iexists _; isplitr; swap; (· iexact H5); ipureintro; rfl
  isplitl [H6]
  · iexists _; isplitr; swap; (· iexact H6); ipureintro; rfl
  isplitl [H7]
  · iexists _; isplitr; swap; (· iexact H7); ipureintro; rfl
  isplitl [H8]
  · iexists _; isplitr; swap; (· iexact H8); ipureintro; rfl
  isplitl [H9]
  · iexists _; isplitr; swap; (· iexact H9); ipureintro; rfl
  iexists _; isplitr; swap; (· iexact H10); ipureintro; rfl

/-! The staged inputs are the arrays. -/
theorem stg1_0_eq (c : Dev nD) : stg1_0 V c = V c (Proc.devRef .tc main_v84) := by
  funext i; unfold stg1_0; blk_simp
  refine congrArg _ (funext fun a => Fin.ext ?_)
  simp
  exact Or.inl rfl
theorem stg1_1_eq (c : Dev nD) : stg1_1 V c = V c (Proc.devRef .tc main_v91) := by
  funext i; unfold stg1_1; blk_simp
  refine congrArg _ (funext fun a => Fin.ext ?_)
  simp
  exact Or.inl rfl
theorem stg1_2_eq (c : Dev nD) : stg1_2 V c = V c (Proc.devRef .tc main_v92) := by
  funext i; unfold stg1_2; blk_simp
  refine congrArg _ (funext fun a => Fin.ext ?_)
  simp
  exact Or.inl rfl
theorem stg1_3_eq (c : Dev nD) : stg1_3 V c = V c (Proc.devRef .tc main_v93) := by
  funext i; unfold stg1_3; blk_simp
  refine congrArg _ (funext fun a => Fin.ext ?_)
  simp
  exact Or.inl rfl
theorem stg1_4_eq (c : Dev nD) : stg1_4 V c = V c (Proc.devRef .tc main_v94) := by
  funext i; unfold stg1_4; blk_simp
  refine congrArg _ (funext fun a => Fin.ext ?_)
  simp
  exact Or.inl rfl
theorem stg1_5_eq (c : Dev nD) : stg1_5 V c = V c (Proc.devRef .tc main_v95) := by
  funext i; unfold stg1_5; blk_simp
  refine congrArg _ (funext fun a => Fin.ext ?_)
  simp
  exact Or.inl rfl
theorem stg1_6_eq (c : Dev nD) : stg1_6 V c = V c (Proc.devRef .tc main_v96) := by
  funext i; unfold stg1_6; blk_simp
  refine congrArg _ (funext fun a => Fin.ext ?_)
  simp
  exact Or.inl rfl
theorem stg1_7_eq (c : Dev nD) : stg1_7 V c = V c (Proc.devRef .tc main_v97) := by
  funext i; unfold stg1_7; blk_simp
  refine congrArg _ (funext fun a => Fin.ext ?_)
  simp
  exact Or.inl rfl
theorem out1_0 (c : Dev nD) : (dat1 V c).arrAt (8 : Fin 11) (cfg1 (F := Ideal)).N = det0 V c := by
  refine (dat1 V c).arrAt_eq_of_after_last (8 : Fin 11) t1_0 (by decide +kernel) _ fun j => ?_
  blk_simp
  try rfl
theorem out1_1 (c : Dev nD) : (dat1 V c).arrAt (9 : Fin 11) (cfg1 (F := Ideal)).N = det1 V c := by
  refine (dat1 V c).arrAt_eq_of_after_last (9 : Fin 11) t1_0 (by decide +kernel) _ fun j => ?_
  blk_simp
  try rfl
theorem out1_2 (c : Dev nD) : (dat1 V c).arrAt (10 : Fin 11) (cfg1 (F := Ideal)).N = det2 V c := by
  refine (dat1 V c).arrAt_eq_of_after_last (10 : Fin 11) t1_0 (by decide +kernel) _ fun j => ?_
  blk_simp
  try rfl

end Cert.Proof.Nms

end
-- ==== Proof.Nms.Run.lean ====
/-
  The run of the kernel program at the extended reals, part two: the two regions chained with the host stretches, the
  contents the regions leave, and the run's theorem — every execution ends, with the arguments as launched, every
  counter at zero and the three results at what the last host stretch computes.
-/
module

public import proofs.«01_k».proof.Proof.Nms.Dat1

@[expose] public section

set_option maxRecDepth 1860

noncomputable section

namespace Cert.Proof.Nms

open Cert.KernelIdeal Cert.KernelIdeal.Gen

open Idealize.ShloMosaic hiding ix1 ix2 ix3 ix4 eq_ix1 eq_ix2 eq_ix3 eq_ix4
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg HostSeg RegionSeg Dat Cfg Window BodyObligation cellOf)

local notation "𝕄" => MT nD τ sig Unit (Elt Ideal) ℕ UR ℕ
variable (m : (ℓ : Loc nD τ sig) → Buf (Elt Ideal) ℓ)

/-- What the first region leaves. -/
def outs0 : Outs (F := Ideal) := fun k r c =>
  if k = 2 then Pipeline.afterRegion (dat0 (V1 m) c) (V1 m c) (Proc.devRef .tc r) else m ((c : Thread nD τ).loc r)
/-- The buffers at the second region's entry. -/
@[irreducible] def ent1 : Vals := fun c => V31 m (outs0 m) c
/-- What the two regions leave. -/
def outs1 : Outs (F := Ideal) := fun k r c =>
  if k = 32 then Pipeline.afterRegion (dat1 (ent1 m) c) (ent1 m c) (Proc.devRef .tc r) else outs0 m k r c

theorem outs1_two (r : Ref sig .tc) (c : Dev nD) : outs1 m 2 r c = outs0 m 2 r c := if_neg (by decide)
theorem outs1_V2 (c : Dev nD) : V2 m (outs1 m) c = V2 m (outs0 m) c := by
  show Function.update (V1 m c) _ (outs1 m 2 main_v9 c) = Function.update (V1 m c) _ (outs0 m 2 main_v9 c)
  rw [outs1_two]
theorem V31_congr (o o' : Outs (F := Ideal)) (c : Dev nD) (h2 : V2 m o c = V2 m o' c) : V31 m o c = V31 m o' c := by
  have h3 : V3 m o c = V3 m o' c := congrArg (StableHlo.after hostOps1) h2
  have h4 : V4 m o c = V4 m o' c := congrArg (StableHlo.after hostOps1_1) h3
  have h5 : V5 m o c = V5 m o' c := congrArg (StableHlo.after hostOps1_2) h4
  have h6 : V6 m o c = V6 m o' c := congrArg (StableHlo.after hostOps1_3) h5
  have h7 : V7 m o c = V7 m o' c := congrArg (StableHlo.after hostOps1_4) h6
  have h8 : V8 m o c = V8 m o' c := congrArg (StableHlo.after hostOps1_5) h7
  have h9 : V9 m o c = V9 m o' c := congrArg (StableHlo.after hostOps1_6) h8
  have h10 : V10 m o c = V10 m o' c := congrArg (StableHlo.after hostOps1_7) h9
  have h11 : V11 m o c = V11 m o' c := congrArg (StableHlo.after hostOps1_8) h10
  have h12 : V12 m o c = V12 m o' c := congrArg (StableHlo.after hostOps1_9) h11
  have h13 : V13 m o c = V13 m o' c := congrArg (StableHlo.after hostOps1_10) h12
  have h14 : V14 m o c = V14 m o' c := congrArg (StableHlo.after hostOps1_11) h13
  have h15 : V15 m o c = V15 m o' c := congrArg (StableHlo.after hostOps1_12) h14
  have h16 : V16 m o c = V16 m o' c := congrArg (StableHlo.after hostOps1_13) h15
  have h17 : V17 m o c = V17 m o' c := congrArg (StableHlo.after hostOps1_14) h16
  have h18 : V18 m o c = V18 m o' c := congrArg (StableHlo.after hostOps1_15) h17
  have h19 : V19 m o c = V19 m o' c := congrArg (StableHlo.after hostOps1_16) h18
  have h20 : V20 m o c = V20 m o' c := congrArg (StableHlo.after hostOps1_17) h19
  have h21 : V21 m o c = V21 m o' c := congrArg (StableHlo.after hostOps1_18) h20
  have h22 : V22 m o c = V22 m o' c := congrArg (StableHlo.after hostOps1_19) h21
  have h23 : V23 m o c = V23 m o' c := congrArg (StableHlo.after hostOps1_20) h22
  have h24 : V24 m o c = V24 m o' c := congrArg (StableHlo.after hostOps1_21) h23
  have h25 : V25 m o c = V25 m o' c := congrArg (StableHlo.after hostOps1_22) h24
  have h26 : V26 m o c = V26 m o' c := congrArg (StableHlo.after hostOps1_23) h25
  have h27 : V27 m o c = V27 m o' c := congrArg (StableHlo.after hostOps1_24) h26
  have h28 : V28 m o c = V28 m o' c := congrArg (StableHlo.after hostOps1_25) h27
  have h29 : V29 m o c = V29 m o' c := congrArg (StableHlo.after hostOps1_26) h28
  have h30 : V30 m o c = V30 m o' c := congrArg (StableHlo.after hostOps1_27) h29
  exact congrArg (StableHlo.after hostOps1_28) h30
theorem outs1_V31 (c : Dev nD) : V31 m (outs1 m) c = ent1 m c := by
  rw [ent1]; exact V31_congr m _ _ c (outs1_V2 m c)

/-- Every buffer after the first region. -/
theorem after0 (c : Dev nD) (r : Ref sig .tc) :
    Pipeline.afterRegion (dat0 (V1 m) c) (V1 m c) (Proc.devRef .tc r) = V2 m (outs1 m) c (Proc.devRef .tc r) := by
  rw [outs1_V2]
  by_cases h : r = main_v9
  · subst h
    exact (Function.update_self (Proc.devRef .tc main_v9 : DevRef τ sig) _ (V1 m c)).symm
  · refine (Pipeline.afterRegion_keeps (dat0 (V1 m) c) (V1 m c) launch0.win.arr_inj (fun _ => rfl) r (fun w hw => ?_)).trans
      (Function.update_of_ne (fun e => h (Proc.devRef_injective _ e)) _ _).symm
    match w, hw with
    | ⟨0, _⟩, _ => rfl
    | ⟨1, _⟩, _ => rfl
    | ⟨2, _⟩, hw => exact absurd hw.symm h

/-- Every buffer after the second region. -/
theorem after1 (c : Dev nD) (r : Ref sig .tc) :
    Pipeline.afterRegion (dat1 (ent1 m) c) (ent1 m c) (Proc.devRef .tc r) = V32 m (outs1 m) c (Proc.devRef .tc r) := by
  by_cases h : r ∉ ([main_v98_0, main_v98_1, main_v98_2] : List (Ref sig .tc))
  · rw [V32_of m (outs1 m) c r h, outs1_V31]
    refine (Pipeline.afterRegion_keeps (dat1 (ent1 m) c) (ent1 m c) launch1.win.arr_inj (fun _ => rfl) r (fun w hw => ?_))
    match w, hw with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨6, _⟩, _ => rfl
    | ⟨7, _⟩, _ => rfl
    | ⟨8, _⟩, hw => exact absurd (by rw [← hw]; exact List.mem_cons_self) h
    | ⟨9, _⟩, hw => exact absurd (by rw [← hw]; exact List.mem_cons_of_mem _ List.mem_cons_self) h
    | ⟨10, _⟩, hw => exact absurd (by rw [← hw]; exact List.mem_cons_of_mem _ (List.mem_cons_of_mem _ List.mem_cons_self)) h
  · have h3 : r = main_v98_0 ∨ r = main_v98_1 ∨ r = main_v98_2 := by
      simpa [or_iff_not_imp_left] using h
    rcases h3 with rfl | rfl | rfl
    · show _ = V32 m (outs1 m) c (Proc.devRef .tc main_v98_0)
      rw [V32, Function.update_of_ne (StableHlo.devRef_ne_of_ne (by decide)), Function.update_of_ne (StableHlo.devRef_ne_of_ne (by decide)), Function.update_self]
      exact (if_pos rfl).symm
    · rw [V32, Function.update_of_ne (StableHlo.devRef_ne_of_ne (by decide)), Function.update_self]
      exact (if_pos rfl).symm
    · rw [V32, Function.update_self]
      exact (if_pos rfl).symm

/-- The proof data of both regions. -/
def pdats : (p : Fin 2) → (c : Dev nD) → Dat τ (Elt Ideal) Unit ℕ UR ℕ ((cfgs (F := Ideal)) p) c
  | ⟨0, _⟩, c => dat0 (V1 m) c
  | ⟨1, _⟩, c => dat1 (ent1 m) c

theorem pdats0 (c : Dev nD) : pdats m 0 c = dat0 (V1 m) c := rfl
theorem pdats1 (c : Dev nD) : pdats m 1 c = dat1 (ent1 m) c := rfl

/-- What rides along outside the buffers: nothing owed. -/
def rest (_ : Fin 3) (c : Dev nD) : sProp 𝕄 := iprop(∃ W, owes (c : Thread nD τ) (0 : CellTallies nD τ sig Unit) W)

/-- The two regions' records. -/
def reg0 : Pipeline.RegionSeg (pcfgs (F := Ideal)) adm (pdats m) () defs₀ 𝒱₀ L lv 0 :=
  regionOf 0 launch0 (pdats m) (V1 m) (body0 (V1 m)) rfl (fun _ _ => rfl) (fun _ _ => rfl) (fun _ _ => rfl) (fun _ => rfl) (fun _ => rfl) (fun _ => rfl)
def reg1 : Pipeline.RegionSeg (pcfgs (F := Ideal)) adm (pdats m) () defs₀ 𝒱₀ L lv 1 :=
  regionOf 1 launch1 (pdats m) (ent1 m) (body1 (ent1 m)) rfl (fun _ _ => rfl) (fun _ _ => rfl) (fun _ _ => rfl) (fun _ => rfl) (fun _ => rfl) (fun _ => rfl)

theorem reg0_pre (c : Dev nD) : (reg0 m).pre c = iprop(unscopedBufs c (fun b => (V1 m) c b) ∗ ∃ W, owes (c : Thread nD τ) (0 : CellTallies nD τ sig Unit) W) :=
  regionOf_pre 0 launch0 (pdats m) (V1 m) _ _ _ _ _ _ _ _ c
theorem reg0_post (c : Dev nD) : (reg0 m).post c = iprop(unscopedBufs c (fun b => Pipeline.afterRegion (dat0 (V1 m) c) ((V1 m) c) b) ∗ ∃ W, owes (c : Thread nD τ) (0 : CellTallies nD τ sig Unit) W) :=
  regionOf_post 0 launch0 (pdats m) (V1 m) _ _ _ _ _ _ _ _ c
theorem reg1_pre (c : Dev nD) : (reg1 m).pre c = iprop(unscopedBufs c (fun b => (ent1 m) c b) ∗ ∃ W, owes (c : Thread nD τ) (0 : CellTallies nD τ sig Unit) W) :=
  regionOf_pre 1 launch1 (pdats m) (ent1 m) _ _ _ _ _ _ _ _ c
theorem reg1_post (c : Dev nD) : (reg1 m).post c = iprop(unscopedBufs c (fun b => Pipeline.afterRegion (dat1 (ent1 m) c) ((ent1 m) c) b) ∗ ∃ W, owes (c : Thread nD τ) (0 : CellTallies nD τ sig Unit) W) :=
  regionOf_post 1 launch1 (pdats m) (ent1 m) _ _ _ _ _ _ _ _ c

theorem pre0 (c : Dev nD) : iprop(StableHlo.held (c : Thread nD τ) (Pipeline.ucRefs τ sig) (V1 m c) ∗ rest 0 c) ⊢ (reg0 m).pre c := by
  rw [reg0_pre, Pipeline.unscopedBufs_held, rest]
theorem post0 (c : Dev nD) : (reg0 m).post c ⊢ iprop(StableHlo.held (c : Thread nD τ) (Pipeline.ucRefs τ sig) (V2 m (outs1 m) c) ∗ rest 1 c) := by
  rw [reg0_post, rest, ← Pipeline.unscopedBufs_held, show (fun b : Ref sig .tc => Pipeline.afterRegion (dat0 (V1 m) c) (V1 m c) (Proc.devRef .tc b))
    = fun b : Ref sig .tc => V2 m (outs1 m) c (Proc.devRef .tc b) from funext (after0 m c)]
theorem pre1 (c : Dev nD) : iprop(StableHlo.held (c : Thread nD τ) (Pipeline.ucRefs τ sig) (V31 m (outs1 m) c) ∗ rest 1 c) ⊢ (reg1 m).pre c := by
  rw [reg1_pre, Pipeline.unscopedBufs_held, outs1_V31, rest]
theorem post1 (c : Dev nD) : (reg1 m).post c ⊢ iprop(StableHlo.held (c : Thread nD τ) (Pipeline.ucRefs τ sig) (V32 m (outs1 m) c) ∗ rest 2 c) := by
  rw [reg1_post, rest, ← Pipeline.unscopedBufs_held, show (fun b : Ref sig .tc => Pipeline.afterRegion (dat1 (ent1 m) c) (ent1 m c) (Proc.devRef .tc b))
    = fun b : Ref sig .tc => V32 m (outs1 m) c (Proc.devRef .tc b) from funext (after1 m c)]

/-- One device's start: its buffers as launched, nothing owed. -/
theorem start (ρ : Dev nD → PrngReg) (c : Dev nD) :
    (iprop(unscopedBufs c (fun b => m ((c.tc : Thread nD τ).loc b)) ∗ unscopedSems0 c
          ∗ owes (c.tc : Thread nD τ) (0 : CellTallies nD τ sig Unit) ∅ ∗ Pipeline.launchCred (fun _ => (0 : CellTallies nD τ sig Unit)) c ∗ prngReg c (ρ c) ∗ BI.emp) : sProp 𝕄)
      ⊢ iprop(StableHlo.held (c : Thread nD τ) (Pipeline.ucRefs τ sig) (V0 m c) ∗ rest 0 c) := by
  have e : (unscopedBufs c (fun b => m ((c.tc : Thread nD τ).loc b)) : sProp 𝕄) = StableHlo.held (c : Thread nD τ) (Pipeline.ucRefs τ sig) (V0 m c) :=
    Pipeline.unscopedBufs_held c (V0 m c)
  rw [e, rest]
  iintro ⟨Hb, -, Ho, -, -, -⟩
  isplitl [Hb]; · iexact Hb
  iexists _; iexact Ho

set_option maxHeartbeats 1000000 in
set_option backward.isDefEq.respectTransparency.types false in
/-- The kernel program's run. -/
theorem kernel_run (ρ : Dev nD → PrngReg) :
    θ_run defs (onTc (τ := τ) (main (F := Ideal))) ⟨m, fun _ => 0, ρ⟩ (fun r => (∀ c : Dev nD,
        r.2.mem ((c.tc : Thread nD τ).loc main_v99) = V33 m (outs1 m) c (Proc.devRef .tc main_v99)
        ∧ r.2.mem ((c.tc : Thread nD τ).loc main_v101) = V33 m (outs1 m) c (Proc.devRef .tc main_v101)
        ∧ r.2.mem ((c.tc : Thread nD τ).loc main_v104) = V33 m (outs1 m) c (Proc.devRef .tc main_v104)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ) ∧ r.2.sem = fun _ => 0) := by
  refine Pipeline.θ_run_regions_kit_dev_sems (pcfgs (F := Ideal)) adm (pdats m) () cellOf_inj EP defs₀ 𝒱₀ L lv m ρ main
    (segs m (outs1 m) 𝒱₀ L lv rest () (pdats m) (reg0 m) (reg1 m))
    (fun c Q => by
      rewrite [main_chain c, Seg.run_eq_chain,
        show (segs m (outs1 m) 𝒱₀ L lv rest () (pdats m) (reg0 m) (reg1 m) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          StableHlo.seq hostOps1_13,
          StableHlo.seq hostOps1_14,
          StableHlo.seq hostOps1_15,
          StableHlo.seq hostOps1_16,
          StableHlo.seq hostOps1_17,
          StableHlo.seq hostOps1_18,
          StableHlo.seq hostOps1_19,
          StableHlo.seq hostOps1_20,
          StableHlo.seq hostOps1_21,
          StableHlo.seq hostOps1_22,
          StableHlo.seq hostOps1_23,
          StableHlo.seq hostOps1_24,
          StableHlo.seq hostOps1_25,
          StableHlo.seq hostOps1_26,
          StableHlo.seq hostOps1_27,
          StableHlo.seq hostOps1_28,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) (fun _ _ => rfl)
    (fun _ => BI.emp) (initOf (Pipeline.cells (cfgs (F := Ideal)) cellOf_inj) (Pipeline.launchToks (cfgs (F := Ideal)) cellOf_inj))
    (by
      iintro Hu; imodintro
      isplitl [Hu]
      · iapply (show (ownU _ : sProp 𝕄) ⊢ BI.own (EP (initOf (Pipeline.cells (cfgs (F := Ideal)) cellOf_inj) (Pipeline.launchToks (cfgs (F := Ideal)) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest 0 c))
    (Tₙ := fun c => StableHlo.held (c : Thread nD τ) (Pipeline.ucRefs τ sig) (V33 m (outs1 m) c))
    (hch := fun c => ⟨.rfl, pre0 m c, post0 m c, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, pre1 m c, post1 m c, sep_mono .rfl .rfl⟩)
    (hinit := ?_) (QY := fun c s => s.mem ((c.tc : Thread nD τ).loc main_v99) = V33 m (outs1 m) c (Proc.devRef .tc main_v99) ∧ s.mem ((c.tc : Thread nD τ).loc main_v101) = V33 m (outs1 m) c (Proc.devRef .tc main_v101) ∧ s.mem ((c.tc : Thread nD τ).loc main_v104) = V33 m (outs1 m) c (Proc.devRef .tc main_v104) ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h hz => ⟨h, funext fun g => hz g (.inr (regions_no_unscoped g.2))⟩)
  · have hsplit : (bigSep Finset.univ fun c : Dev nD => (iprop(unscopedBufs c (fun b => m ((c.tc : Thread nD τ).loc b)) ∗ unscopedSems0 c
          ∗ owes (c.tc : Thread nD τ) (0 : CellTallies nD τ sig Unit) ∅ ∗ Pipeline.launchCred (fun _ => (0 : CellTallies nD τ sig Unit)) c ∗ prngReg c (ρ c) ∗ BI.emp) : sProp 𝕄))
        ⊢ (bigSep Finset.univ fun c : Dev nD => iprop(StableHlo.held (c : Thread nD τ) (Pipeline.ucRefs τ sig) (V0 m c) ∗ rest 0 c) : sProp 𝕄) := by
      exact bigSep_mono fun c _ => start m ρ c
    iintro ⟨H, -⟩
    imodintro
    iapply hsplit; iexact H
  · unfold StableHlo.held
    iintro ⟨Hh, HSI⟩
    ihave Hr := (pointsTo_read_all (Pipeline.ucRefs τ sig) (fun b => ((c : Thread nD τ).1, b)) (V33 m (outs1 m) c) s') $$ [Hh HSI]
    · isplitl [Hh] <;> iassumption
    icases Hr with ⟨%h, HSI⟩
    imodintro
    isplitr
    · ipureintro
      exact ⟨(h (Proc.devRef .tc main_v99) (Finset.mem_filter.mpr ⟨StableHlo.devRef_mem_tcRefs main_v99, by decide⟩)),
        (h (Proc.devRef .tc main_v101) (Finset.mem_filter.mpr ⟨StableHlo.devRef_mem_tcRefs main_v101, by decide⟩)),
        (h (Proc.devRef .tc main_v104) (Finset.mem_filter.mpr ⟨StableHlo.devRef_mem_tcRefs main_v104, by decide⟩)),
        (h (Proc.devRef .tc main_arg0) (Finset.mem_filter.mpr ⟨StableHlo.devRef_mem_tcRefs main_arg0, by decide⟩)).trans (V33_main_arg0 m (outs1 m) c),
        (h (Proc.devRef .tc main_arg1) (Finset.mem_filter.mpr ⟨StableHlo.devRef_mem_tcRefs main_arg1, by decide⟩)).trans (V33_main_arg1 m (outs1 m) c),
        (h (Proc.devRef .tc main_arg2) (Finset.mem_filter.mpr ⟨StableHlo.devRef_mem_tcRefs main_arg2, by decide⟩)).trans (V33_main_arg2 m (outs1 m) c),
        (h (Proc.devRef .tc main_arg3) (Finset.mem_filter.mpr ⟨StableHlo.devRef_mem_tcRefs main_arg3, by decide⟩)).trans (V33_main_arg3 m (outs1 m) c),
        (h (Proc.devRef .tc main_arg4) (Finset.mem_filter.mpr ⟨StableHlo.devRef_mem_tcRefs main_arg4, by decide⟩)).trans (V33_main_arg4 m (outs1 m) c)⟩
    · iexact HSI

end Cert.Proof.Nms

end
-- ==== Proof.Nms.RefRun.lean ====
/-
  The run of the reference program at the extended reals: the buffers named after each stretch of host operations, what
  each stretch leaves alone, and the run's theorem — every execution ends with the arguments as launched and every
  counter at zero.
-/
module

public import proofs.«01_k».proof.Proof.Gen.ReferenceIdeal.Run
public import Idealize.ShloMosaic.Lib.Quiescent
public import Idealize.ShloMosaic.PureOps.Ideal

@[expose] public section

set_option maxRecDepth 8192

noncomputable section

namespace Cert.Proof.Nms.Ref

open Cert.ReferenceIdeal Cert.ReferenceIdeal.Gen Cert.ReferenceIdeal.Value
open Idealize.ShloMosaic Idealize.ShloMosaic.TcCoe Idealize.SL.Sem

/-! ## What each stretch writes -/

abbrev hostOps0_W : List (Ref sig .tc) := [main_v0, main_v1, main_v2, main_v3, main_v4, main_v5, main_v6, main_v7, main_v8, main_v9, main_v10, main_cst, main_v11, main_v12, main_v13, main_v14, main_v15, main_v16, main_v17, main_v18, main_v19, main_v20, main_c, main_v21, main_c_0, main_v22, main_cst_1]
theorem hostOps0_writes : (hostOps0 : List (HloOp τ sig (Elt Ideal))).Forall fun op => op.writes ⊆ (hostOps0_W.map (Proc.devRef (τ := τ) .tc)).toFinset :=
  StableHlo.forall_writes_sub_of_map rfl
abbrev hostOps0_1_W : List (Ref sig .tc) := [main_call0_v0, main_call0_v1, main_v23]
theorem hostOps0_1_writes : (hostOps0_1 : List (HloOp τ sig (Elt Ideal))).Forall fun op => op.writes ⊆ (hostOps0_1_W.map (Proc.devRef (τ := τ) .tc)).toFinset :=
  StableHlo.forall_writes_sub_of_map rfl
abbrev hostOps0_2_W : List (Ref sig .tc) := [main_values, main_indices, main_v24, main_v25, main_v26, main_v27, main_cst_2, main_v28, main_v29, main_v30, main_c_3]
theorem hostOps0_2_writes : (hostOps0_2 : List (HloOp τ sig (Elt Ideal))).Forall fun op => op.writes ⊆ (hostOps0_2_W.map (Proc.devRef (τ := τ) .tc)).toFinset :=
  StableHlo.forall_writes_sub_of_map rfl
abbrev hostOps0_3_W : List (Ref sig .tc) := [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v31]
theorem hostOps0_3_writes : (hostOps0_3 : List (HloOp τ sig (Elt Ideal))).Forall fun op => op.writes ⊆ (hostOps0_3_W.map (Proc.devRef (τ := τ) .tc)).toFinset :=
  StableHlo.forall_writes_sub_of_map rfl
abbrev hostOps0_4_W : List (Ref sig .tc) := [main_c_4]
theorem hostOps0_4_writes : (hostOps0_4 : List (HloOp τ sig (Elt Ideal))).Forall fun op => op.writes ⊆ (hostOps0_4_W.map (Proc.devRef (τ := τ) .tc)).toFinset :=
  StableHlo.forall_writes_sub_of_map rfl
abbrev hostOps0_5_W : List (Ref sig .tc) := [main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v32]
theorem hostOps0_5_writes : (hostOps0_5 : List (HloOp τ sig (Elt Ideal))).Forall fun op => op.writes ⊆ (hostOps0_5_W.map (Proc.devRef (τ := τ) .tc)).toFinset :=
  StableHlo.forall_writes_sub_of_map rfl
abbrev hostOps0_6_W : List (Ref sig .tc) := [main_c_5, main_v33, main_v34]
theorem hostOps0_6_writes : (hostOps0_6 : List (HloOp τ sig (Elt Ideal))).Forall fun op => op.writes ⊆ (hostOps0_6_W.map (Proc.devRef (τ := τ) .tc)).toFinset :=
  StableHlo.forall_writes_sub_of_map rfl
abbrev hostOps0_7_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v35]
theorem hostOps0_7_writes : (hostOps0_7 : List (HloOp τ sig (Elt Ideal))).Forall fun op => op.writes ⊆ (hostOps0_7_W.map (Proc.devRef (τ := τ) .tc)).toFinset :=
  StableHlo.forall_writes_sub_of_map rfl
abbrev hostOps0_8_W : List (Ref sig .tc) := [main_v36]
theorem hostOps0_8_writes : (hostOps0_8 : List (HloOp τ sig (Elt Ideal))).Forall fun op => op.writes ⊆ (hostOps0_8_W.map (Proc.devRef (τ := τ) .tc)).toFinset :=
  StableHlo.forall_writes_sub_of_map rfl
abbrev hostOps0_9_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v37]
theorem hostOps0_9_writes : (hostOps0_9 : List (HloOp τ sig (Elt Ideal))).Forall fun op => op.writes ⊆ (hostOps0_9_W.map (Proc.devRef (τ := τ) .tc)).toFinset :=
  StableHlo.forall_writes_sub_of_map rfl
abbrev hostOps0_10_W : List (Ref sig .tc) := [main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_cst_6, main_v64, main_cst_7, main_v65, main_cst_8, main_v66, main_cst_9, main_v67, main_cst_10, main_v68, main_v69, main_v70, main_v71, main_cst_11, main_v72, main_v73, main_v74, main_v75, main_cst_12, main_v76, main_v77, main_v78, main_v79, main_cst_13, main_v80, main_v81, main_v82, main_v83, main_v84, main_v85, main_v86, main_v87, main_v88, main_cst_14, main_v89, main_v90, main_v91, main_cst_15]
theorem hostOps0_10_writes : (hostOps0_10 : List (HloOp τ sig (Elt Ideal))).Forall fun op => op.writes ⊆ (hostOps0_10_W.map (Proc.devRef (τ := τ) .tc)).toFinset :=
  StableHlo.forall_writes_sub_of_map rfl
abbrev hostOps0_11_W : List (Ref sig .tc) := [main_call5_v0, main_call5_v1, main_v92]
theorem hostOps0_11_writes : (hostOps0_11 : List (HloOp τ sig (Elt Ideal))).Forall fun op => op.writes ⊆ (hostOps0_11_W.map (Proc.devRef (τ := τ) .tc)).toFinset :=
  StableHlo.forall_writes_sub_of_map rfl
abbrev hostOps0_12_W : List (Ref sig .tc) := [main_v93, main_cst_16]
theorem hostOps0_12_writes : (hostOps0_12 : List (HloOp τ sig (Elt Ideal))).Forall fun op => op.writes ⊆ (hostOps0_12_W.map (Proc.devRef (τ := τ) .tc)).toFinset :=
  StableHlo.forall_writes_sub_of_map rfl
abbrev hostOps0_13_W : List (Ref sig .tc) := [main_call6_v0, main_call6_v1, main_v94]
theorem hostOps0_13_writes : (hostOps0_13 : List (HloOp τ sig (Elt Ideal))).Forall fun op => op.writes ⊆ (hostOps0_13_W.map (Proc.devRef (τ := τ) .tc)).toFinset :=
  StableHlo.forall_writes_sub_of_map rfl
abbrev hostOps0_14_W : List (Ref sig .tc) := [main_v95, main_cst_17, main_v96, main_v97, main_v98, main_v99, main_v100, main_cst_18]
theorem hostOps0_14_writes : (hostOps0_14 : List (HloOp τ sig (Elt Ideal))).Forall fun op => op.writes ⊆ (hostOps0_14_W.map (Proc.devRef (τ := τ) .tc)).toFinset :=
  StableHlo.forall_writes_sub_of_map rfl
abbrev hostOps0_15_W : List (Ref sig .tc) := [main_call7_v0, main_call7_v1, main_v101]
theorem hostOps0_15_writes : (hostOps0_15 : List (HloOp τ sig (Elt Ideal))).Forall fun op => op.writes ⊆ (hostOps0_15_W.map (Proc.devRef (τ := τ) .tc)).toFinset :=
  StableHlo.forall_writes_sub_of_map rfl
abbrev hostOps0_16_W : List (Ref sig .tc) := [main_v102]
theorem hostOps0_16_writes : (hostOps0_16 : List (HloOp τ sig (Elt Ideal))).Forall fun op => op.writes ⊆ (hostOps0_16_W.map (Proc.devRef (τ := τ) .tc)).toFinset :=
  StableHlo.forall_writes_sub_of_map rfl
abbrev hostOps0_17_W : List (Ref sig .tc) := [main_call8_v0, main_call8_v1_0, main_v103]
theorem hostOps0_17_writes : (hostOps0_17 : List (HloOp τ sig (Elt Ideal))).Forall fun op => op.writes ⊆ (hostOps0_17_W.map (Proc.devRef (τ := τ) .tc)).toFinset :=
  StableHlo.forall_writes_sub_of_map rfl
abbrev hostOps0_18_W : List (Ref sig .tc) := [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_v14, main_call9_cst, main_call9_v15, main_v104]
theorem hostOps0_18_writes : (hostOps0_18 : List (HloOp τ sig (Elt Ideal))).Forall fun op => op.writes ⊆ (hostOps0_18_W.map (Proc.devRef (τ := τ) .tc)).toFinset :=
  StableHlo.forall_writes_sub_of_map rfl
abbrev hostOps0_19_W : List (Ref sig .tc) := [main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_c_4, main_call10_v14, main_v105]
theorem hostOps0_19_writes : (hostOps0_19 : List (HloOp τ sig (Elt Ideal))).Forall fun op => op.writes ⊆ (hostOps0_19_W.map (Proc.devRef (τ := τ) .tc)).toFinset :=
  StableHlo.forall_writes_sub_of_map rfl
abbrev hostOps0_20_W : List (Ref sig .tc) := [main_call11_c, main_call11_v0, main_call11_v1, main_call11_c_0, main_call11_v2, main_call11_v3, main_call11_v4, main_call11_v5, main_call11_c_1, main_call11_c_2, main_call11_v6, main_call11_v7, main_call11_v8, main_call11_v9, main_call11_v10, main_call11_v11, main_call11_c_3, main_call11_v12, main_call11_v13, main_call11_cst, main_call11_v14, main_v106]
theorem hostOps0_20_writes : (hostOps0_20 : List (HloOp τ sig (Elt Ideal))).Forall fun op => op.writes ⊆ (hostOps0_20_W.map (Proc.devRef (τ := τ) .tc)).toFinset :=
  StableHlo.forall_writes_sub_of_map rfl
abbrev hostOps0_21_W : List (Ref sig .tc) := [main_v107, main_v108, main_v109, main_v110, main_v111, main_v112, main_v113, main_v114, main_v115, main_v116, main_v117, main_v118, main_c_19, main_c_20, main_v119_0, main_v119_1, main_v119_2, main_v119_3, main_v119_4, main_v119_5]
theorem hostOps0_21_writes : (hostOps0_21 : List (HloOp τ sig (Elt Ideal))).Forall fun op => op.writes ⊆ (hostOps0_21_W.map (Proc.devRef (τ := τ) .tc)).toFinset :=
  StableHlo.forall_writes_sub_of_map rfl
abbrev hostOps0_22_W : List (Ref sig .tc) := [main_cst_21]
theorem hostOps0_22_writes : (hostOps0_22 : List (HloOp τ sig (Elt Ideal))).Forall fun op => op.writes ⊆ (hostOps0_22_W.map (Proc.devRef (τ := τ) .tc)).toFinset :=
  StableHlo.forall_writes_sub_of_map rfl
abbrev hostOps0_23_W : List (Ref sig .tc) := [main_call12_v0, main_call12_v1, main_v120]
theorem hostOps0_23_writes : (hostOps0_23 : List (HloOp τ sig (Elt Ideal))).Forall fun op => op.writes ⊆ (hostOps0_23_W.map (Proc.devRef (τ := τ) .tc)).toFinset :=
  StableHlo.forall_writes_sub_of_map rfl
abbrev hostOps0_24_W : List (Ref sig .tc) := [main_values_22, main_indices_23]
theorem hostOps0_24_writes : (hostOps0_24 : List (HloOp τ sig (Elt Ideal))).Forall fun op => op.writes ⊆ (hostOps0_24_W.map (Proc.devRef (τ := τ) .tc)).toFinset :=
  StableHlo.forall_writes_sub_of_map rfl
abbrev hostOps0_25_W : List (Ref sig .tc) := [main_call13_c, main_call13_v0, main_call13_v1, main_call13_c_0, main_call13_v2, main_call13_v3, main_call13_v4, main_call13_v5, main_call13_c_1, main_call13_c_2, main_call13_v6, main_call13_v7, main_call13_v8, main_call13_v9, main_call13_v10, main_call13_v11, main_call13_c_3, main_call13_v12, main_call13_v13, main_call13_v14, main_call13_cst, main_call13_v15, main_v121]
theorem hostOps0_25_writes : (hostOps0_25 : List (HloOp τ sig (Elt Ideal))).Forall fun op => op.writes ⊆ (hostOps0_25_W.map (Proc.devRef (τ := τ) .tc)).toFinset :=
  StableHlo.forall_writes_sub_of_map rfl
abbrev hostOps0_26_W : List (Ref sig .tc) := [main_call14_c, main_call14_v0, main_call14_v1, main_call14_c_0, main_call14_v2, main_call14_v3, main_call14_v4, main_call14_v5, main_call14_c_1, main_call14_c_2, main_call14_v6, main_call14_v7, main_call14_v8, main_call14_v9, main_call14_v10, main_call14_v11, main_call14_c_3, main_call14_v12, main_call14_v13, main_call14_v14, main_call14_cst, main_call14_v15, main_v122]
theorem hostOps0_26_writes : (hostOps0_26 : List (HloOp τ sig (Elt Ideal))).Forall fun op => op.writes ⊆ (hostOps0_26_W.map (Proc.devRef (τ := τ) .tc)).toFinset :=
  StableHlo.forall_writes_sub_of_map rfl
abbrev hostOps0_27_W : List (Ref sig .tc) := [main_call15_c, main_call15_v0, main_call15_v1, main_call15_c_0, main_call15_v2, main_call15_v3, main_call15_v4, main_call15_v5, main_call15_c_1, main_call15_c_2, main_call15_v6, main_call15_v7, main_call15_v8, main_call15_v9, main_call15_v10, main_call15_v11, main_call15_c_3, main_call15_v12, main_call15_v13, main_call15_c_4, main_call15_v14, main_v123]
theorem hostOps0_27_writes : (hostOps0_27 : List (HloOp τ sig (Elt Ideal))).Forall fun op => op.writes ⊆ (hostOps0_27_W.map (Proc.devRef (τ := τ) .tc)).toFinset :=
  StableHlo.forall_writes_sub_of_map rfl
abbrev hostOps0_28_W : List (Ref sig .tc) := [main_call16_c, main_call16_v0, main_call16_v1, main_call16_c_0, main_call16_v2, main_call16_v3, main_call16_v4, main_call16_v5, main_call16_c_1, main_call16_c_2, main_call16_v6, main_call16_v7, main_call16_v8, main_call16_v9, main_call16_v10, main_call16_v11, main_call16_c_3, main_call16_v12, main_call16_v13, main_call16_c_4, main_call16_v14, main_v124]
theorem hostOps0_28_writes : (hostOps0_28 : List (HloOp τ sig (Elt Ideal))).Forall fun op => op.writes ⊆ (hostOps0_28_W.map (Proc.devRef (τ := τ) .tc)).toFinset :=
  StableHlo.forall_writes_sub_of_map rfl
abbrev hostOps0_29_W : List (Ref sig .tc) := [main_v125, main_cst_24, main_v126, main_v127, main_cst_25]
theorem hostOps0_29_writes : (hostOps0_29 : List (HloOp τ sig (Elt Ideal))).Forall fun op => op.writes ⊆ (hostOps0_29_W.map (Proc.devRef (τ := τ) .tc)).toFinset :=
  StableHlo.forall_writes_sub_of_map rfl
abbrev hostOps0_30_W : List (Ref sig .tc) := [main_call17_v0, main_call17_v1, main_v128]
theorem hostOps0_30_writes : (hostOps0_30 : List (HloOp τ sig (Elt Ideal))).Forall fun op => op.writes ⊆ (hostOps0_30_W.map (Proc.devRef (τ := τ) .tc)).toFinset :=
  StableHlo.forall_writes_sub_of_map rfl

variable (m : (ℓ : Loc nD τ sig) → Buf (Elt Ideal) ℓ)

/-! ## The buffers after each stretch -/

/-- The buffers at launch, then after each stretch before the loop. -/
def R0 (c : Dev nD) : Valuation τ sig (Elt Ideal) := fun b => m (c, b)
def R1 (c : Dev nD) : Valuation τ sig (Elt Ideal) := StableHlo.after hostOps0 (R0 m c)
theorem R1_of (c : Dev nD) (r : Ref sig .tc) (h : r ∉ hostOps0_W) : R1 m c (Proc.devRef .tc r) = R0 m c (Proc.devRef .tc r) :=
  StableHlo.after_of_writes_sub hostOps0 _ hostOps0_writes h
def R2 (c : Dev nD) : Valuation τ sig (Elt Ideal) := StableHlo.after hostOps0_1 (R1 m c)
theorem R2_of (c : Dev nD) (r : Ref sig .tc) (h : r ∉ hostOps0_1_W) : R2 m c (Proc.devRef .tc r) = R1 m c (Proc.devRef .tc r) :=
  StableHlo.after_of_writes_sub hostOps0_1 _ hostOps0_1_writes h
def R3 (c : Dev nD) : Valuation τ sig (Elt Ideal) := StableHlo.after hostOps0_2 (R2 m c)
theorem R3_of (c : Dev nD) (r : Ref sig .tc) (h : r ∉ hostOps0_2_W) : R3 m c (Proc.devRef .tc r) = R2 m c (Proc.devRef .tc r) :=
  StableHlo.after_of_writes_sub hostOps0_2 _ hostOps0_2_writes h
def R4 (c : Dev nD) : Valuation τ sig (Elt Ideal) := StableHlo.after hostOps0_3 (R3 m c)
theorem R4_of (c : Dev nD) (r : Ref sig .tc) (h : r ∉ hostOps0_3_W) : R4 m c (Proc.devRef .tc r) = R3 m c (Proc.devRef .tc r) :=
  StableHlo.after_of_writes_sub hostOps0_3 _ hostOps0_3_writes h
def R5 (c : Dev nD) : Valuation τ sig (Elt Ideal) := StableHlo.after hostOps0_4 (R4 m c)
theorem R5_of (c : Dev nD) (r : Ref sig .tc) (h : r ∉ hostOps0_4_W) : R5 m c (Proc.devRef .tc r) = R4 m c (Proc.devRef .tc r) :=
  StableHlo.after_of_writes_sub hostOps0_4 _ hostOps0_4_writes h
def R6 (c : Dev nD) : Valuation τ sig (Elt Ideal) := StableHlo.after hostOps0_5 (R5 m c)
theorem R6_of (c : Dev nD) (r : Ref sig .tc) (h : r ∉ hostOps0_5_W) : R6 m c (Proc.devRef .tc r) = R5 m c (Proc.devRef .tc r) :=
  StableHlo.after_of_writes_sub hostOps0_5 _ hostOps0_5_writes h
def R7 (c : Dev nD) : Valuation τ sig (Elt Ideal) := StableHlo.after hostOps0_6 (R6 m c)
theorem R7_of (c : Dev nD) (r : Ref sig .tc) (h : r ∉ hostOps0_6_W) : R7 m c (Proc.devRef .tc r) = R6 m c (Proc.devRef .tc r) :=
  StableHlo.after_of_writes_sub hostOps0_6 _ hostOps0_6_writes h
def R8 (c : Dev nD) : Valuation τ sig (Elt Ideal) := StableHlo.after hostOps0_7 (R7 m c)
theorem R8_of (c : Dev nD) (r : Ref sig .tc) (h : r ∉ hostOps0_7_W) : R8 m c (Proc.devRef .tc r) = R7 m c (Proc.devRef .tc r) :=
  StableHlo.after_of_writes_sub hostOps0_7 _ hostOps0_7_writes h
def R9 (c : Dev nD) : Valuation τ sig (Elt Ideal) := StableHlo.after hostOps0_8 (R8 m c)
theorem R9_of (c : Dev nD) (r : Ref sig .tc) (h : r ∉ hostOps0_8_W) : R9 m c (Proc.devRef .tc r) = R8 m c (Proc.devRef .tc r) :=
  StableHlo.after_of_writes_sub hostOps0_8 _ hostOps0_8_writes h
def R10 (c : Dev nD) : Valuation τ sig (Elt Ideal) := StableHlo.after hostOps0_9 (R9 m c)
theorem R10_of (c : Dev nD) (r : Ref sig .tc) (h : r ∉ hostOps0_9_W) : R10 m c (Proc.devRef .tc r) = R9 m c (Proc.devRef .tc r) :=
  StableHlo.after_of_writes_sub hostOps0_9 _ hostOps0_9_writes h
def R11 (c : Dev nD) : Valuation τ sig (Elt Ideal) := StableHlo.after hostOps0_10 (R10 m c)
theorem R11_of (c : Dev nD) (r : Ref sig .tc) (h : r ∉ hostOps0_10_W) : R11 m c (Proc.devRef .tc r) = R10 m c (Proc.devRef .tc r) :=
  StableHlo.after_of_writes_sub hostOps0_10 _ hostOps0_10_writes h
def R12 (c : Dev nD) : Valuation τ sig (Elt Ideal) := StableHlo.after hostOps0_11 (R11 m c)
theorem R12_of (c : Dev nD) (r : Ref sig .tc) (h : r ∉ hostOps0_11_W) : R12 m c (Proc.devRef .tc r) = R11 m c (Proc.devRef .tc r) :=
  StableHlo.after_of_writes_sub hostOps0_11 _ hostOps0_11_writes h
def R13 (c : Dev nD) : Valuation τ sig (Elt Ideal) := StableHlo.after hostOps0_12 (R12 m c)
theorem R13_of (c : Dev nD) (r : Ref sig .tc) (h : r ∉ hostOps0_12_W) : R13 m c (Proc.devRef .tc r) = R12 m c (Proc.devRef .tc r) :=
  StableHlo.after_of_writes_sub hostOps0_12 _ hostOps0_12_writes h
def R14 (c : Dev nD) : Valuation τ sig (Elt Ideal) := StableHlo.after hostOps0_13 (R13 m c)
theorem R14_of (c : Dev nD) (r : Ref sig .tc) (h : r ∉ hostOps0_13_W) : R14 m c (Proc.devRef .tc r) = R13 m c (Proc.devRef .tc r) :=
  StableHlo.after_of_writes_sub hostOps0_13 _ hostOps0_13_writes h
def R15 (c : Dev nD) : Valuation τ sig (Elt Ideal) := StableHlo.after hostOps0_14 (R14 m c)
theorem R15_of (c : Dev nD) (r : Ref sig .tc) (h : r ∉ hostOps0_14_W) : R15 m c (Proc.devRef .tc r) = R14 m c (Proc.devRef .tc r) :=
  StableHlo.after_of_writes_sub hostOps0_14 _ hostOps0_14_writes h
def R16 (c : Dev nD) : Valuation τ sig (Elt Ideal) := StableHlo.after hostOps0_15 (R15 m c)
theorem R16_of (c : Dev nD) (r : Ref sig .tc) (h : r ∉ hostOps0_15_W) : R16 m c (Proc.devRef .tc r) = R15 m c (Proc.devRef .tc r) :=
  StableHlo.after_of_writes_sub hostOps0_15 _ hostOps0_15_writes h
def R17 (c : Dev nD) : Valuation τ sig (Elt Ideal) := StableHlo.after hostOps0_16 (R16 m c)
theorem R17_of (c : Dev nD) (r : Ref sig .tc) (h : r ∉ hostOps0_16_W) : R17 m c (Proc.devRef .tc r) = R16 m c (Proc.devRef .tc r) :=
  StableHlo.after_of_writes_sub hostOps0_16 _ hostOps0_16_writes h
def R18 (c : Dev nD) : Valuation τ sig (Elt Ideal) := StableHlo.after hostOps0_17 (R17 m c)
theorem R18_of (c : Dev nD) (r : Ref sig .tc) (h : r ∉ hostOps0_17_W) : R18 m c (Proc.devRef .tc r) = R17 m c (Proc.devRef .tc r) :=
  StableHlo.after_of_writes_sub hostOps0_17 _ hostOps0_17_writes h
def R19 (c : Dev nD) : Valuation τ sig (Elt Ideal) := StableHlo.after hostOps0_18 (R18 m c)
theorem R19_of (c : Dev nD) (r : Ref sig .tc) (h : r ∉ hostOps0_18_W) : R19 m c (Proc.devRef .tc r) = R18 m c (Proc.devRef .tc r) :=
  StableHlo.after_of_writes_sub hostOps0_18 _ hostOps0_18_writes h
def R20 (c : Dev nD) : Valuation τ sig (Elt Ideal) := StableHlo.after hostOps0_19 (R19 m c)
theorem R20_of (c : Dev nD) (r : Ref sig .tc) (h : r ∉ hostOps0_19_W) : R20 m c (Proc.devRef .tc r) = R19 m c (Proc.devRef .tc r) :=
  StableHlo.after_of_writes_sub hostOps0_19 _ hostOps0_19_writes h
def R21 (c : Dev nD) : Valuation τ sig (Elt Ideal) := StableHlo.after hostOps0_20 (R20 m c)
theorem R21_of (c : Dev nD) (r : Ref sig .tc) (h : r ∉ hostOps0_20_W) : R21 m c (Proc.devRef .tc r) = R20 m c (Proc.devRef .tc r) :=
  StableHlo.after_of_writes_sub hostOps0_20 _ hostOps0_20_writes h
def R22 (c : Dev nD) : Valuation τ sig (Elt Ideal) := StableHlo.after hostOps0_21 (R21 m c)
theorem R22_of (c : Dev nD) (r : Ref sig .tc) (h : r ∉ hostOps0_21_W) : R22 m c (Proc.devRef .tc r) = R21 m c (Proc.devRef .tc r) :=
  StableHlo.after_of_writes_sub hostOps0_21 _ hostOps0_21_writes h
theorem entry_eq (c : Dev nD) : StableHlo.entryContents preI m c = R22 m c := rfl
/-- The buffers when the loop ends, then after each stretch after it. -/
def R23 (c : Dev nD) : Valuation τ sig (Elt Ideal) := StableHlo.after condOps (StableHlo.atTrip condOps bodyI (StableHlo.entryContents preI m) 1000 c)
def R24 (c : Dev nD) : Valuation τ sig (Elt Ideal) := StableHlo.after hostOps0_22 (R23 m c)
theorem R24_of (c : Dev nD) (r : Ref sig .tc) (h : r ∉ hostOps0_22_W) : R24 m c (Proc.devRef .tc r) = R23 m c (Proc.devRef .tc r) :=
  StableHlo.after_of_writes_sub hostOps0_22 _ hostOps0_22_writes h
def R25 (c : Dev nD) : Valuation τ sig (Elt Ideal) := StableHlo.after hostOps0_23 (R24 m c)
theorem R25_of (c : Dev nD) (r : Ref sig .tc) (h : r ∉ hostOps0_23_W) : R25 m c (Proc.devRef .tc r) = R24 m c (Proc.devRef .tc r) :=
  StableHlo.after_of_writes_sub hostOps0_23 _ hostOps0_23_writes h
def R26 (c : Dev nD) : Valuation τ sig (Elt Ideal) := StableHlo.after hostOps0_24 (R25 m c)
theorem R26_of (c : Dev nD) (r : Ref sig .tc) (h : r ∉ hostOps0_24_W) : R26 m c (Proc.devRef .tc r) = R25 m c (Proc.devRef .tc r) :=
  StableHlo.after_of_writes_sub hostOps0_24 _ hostOps0_24_writes h
def R27 (c : Dev nD) : Valuation τ sig (Elt Ideal) := StableHlo.after hostOps0_25 (R26 m c)
theorem R27_of (c : Dev nD) (r : Ref sig .tc) (h : r ∉ hostOps0_25_W) : R27 m c (Proc.devRef .tc r) = R26 m c (Proc.devRef .tc r) :=
  StableHlo.after_of_writes_sub hostOps0_25 _ hostOps0_25_writes h
def R28 (c : Dev nD) : Valuation τ sig (Elt Ideal) := StableHlo.after hostOps0_26 (R27 m c)
theorem R28_of (c : Dev nD) (r : Ref sig .tc) (h : r ∉ hostOps0_26_W) : R28 m c (Proc.devRef .tc r) = R27 m c (Proc.devRef .tc r) :=
  StableHlo.after_of_writes_sub hostOps0_26 _ hostOps0_26_writes h
def R29 (c : Dev nD) : Valuation τ sig (Elt Ideal) := StableHlo.after hostOps0_27 (R28 m c)
theorem R29_of (c : Dev nD) (r : Ref sig .tc) (h : r ∉ hostOps0_27_W) : R29 m c (Proc.devRef .tc r) = R28 m c (Proc.devRef .tc r) :=
  StableHlo.after_of_writes_sub hostOps0_27 _ hostOps0_27_writes h
def R30 (c : Dev nD) : Valuation τ sig (Elt Ideal) := StableHlo.after hostOps0_28 (R29 m c)
theorem R30_of (c : Dev nD) (r : Ref sig .tc) (h : r ∉ hostOps0_28_W) : R30 m c (Proc.devRef .tc r) = R29 m c (Proc.devRef .tc r) :=
  StableHlo.after_of_writes_sub hostOps0_28 _ hostOps0_28_writes h
def R31 (c : Dev nD) : Valuation τ sig (Elt Ideal) := StableHlo.after hostOps0_29 (R30 m c)
theorem R31_of (c : Dev nD) (r : Ref sig .tc) (h : r ∉ hostOps0_29_W) : R31 m c (Proc.devRef .tc r) = R30 m c (Proc.devRef .tc r) :=
  StableHlo.after_of_writes_sub hostOps0_29 _ hostOps0_29_writes h
def R32 (c : Dev nD) : Valuation τ sig (Elt Ideal) := StableHlo.after hostOps0_30 (R31 m c)
theorem R32_of (c : Dev nD) (r : Ref sig .tc) (h : r ∉ hostOps0_30_W) : R32 m c (Proc.devRef .tc r) = R31 m c (Proc.devRef .tc r) :=
  StableHlo.after_of_writes_sub hostOps0_30 _ hostOps0_30_writes h
theorem final_eq (c : Dev nD) : StableHlo.finalContents condOps preI bodyI postI 1000 m c = R32 m c := rfl

/-- The references the loop's body writes. -/
abbrev loop_W : List (Ref sig .tc) := [main_while0b_c_31, main_while0b_v129, main_while0b_v130, main_while0b_c_32, main_while0b_v131, main_while0b_c_33, main_while0b_v132, main_while0b_v133, main_while0b_c_34, main_while0b_c_35, main_while0b_v134, main_while0b_c_36, main_while0b_c_37, main_while0b_v135, main_while0b_c_38, main_while0b_v136, main_while0b_v137, main_while0b_v138, main_while0b_v139, main_while0b_v140, main_while0b_v141, main_while0b_v142, main_while0b_v143, main_while0b_c_39, main_while0b_v144, main_while0b_c_40, main_while0b_v145, main_while0b_v146, main_while0b_c_41, main_while0b_c_42, main_while0b_v147, main_while0b_c_43, main_while0b_c_44, main_while0b_v148, main_while0b_c_45, main_while0b_v149, main_while0b_v150, main_while0b_v151, main_while0b_v152, main_while0b_v153, main_while0b_v154, main_while0b_v155, main_while0b_v156, main_while0b_c_46, main_while0b_v157, main_while0b_c_47, main_while0b_v158, main_while0b_v159, main_while0b_c_48, main_while0b_c_49, main_while0b_v160, main_while0b_c_50, main_while0b_c_51, main_while0b_v161, main_while0b_c_52, main_while0b_v162, main_while0b_v163, main_while0b_v164, main_while0b_v165, main_while0b_v166, main_while0b_v167, main_while0b_v168, main_while0b_v169, main_while0b_c_53, main_while0b_v170, main_while0b_c_54, main_while0b_v171, main_while0b_v172, main_while0b_c_55, main_while0b_c_56, main_while0b_v173, main_while0b_c_57, main_while0b_c_58, main_while0b_v174, main_while0b_c_59, main_while0b_v175, main_while0b_v176, main_while0b_v177, main_while0b_v178, main_while0b_v179, main_while0b_v180, main_while0b_v181, main_while0b_v182, main_while0b_cst_60, main_while0b_v183, main_while0b_v184, main_while0b_v185, main_while0b_cst_61, main_while0b_v186, main_while0b_v187, main_while0b_v188, main_while0b_c_62, main_while0b_v189, main_while0b_v190, main_while0b_c_63, main_while0b_v191, main_while0b_v192, main_while0b_v193, main_while0b_v194, main_while0b_v195, main_while0b_v196, main_while0b_v197, main_while0b_cst_64, main_while0b_v198, main_while0b_v199, main_while0b_v200, main_while0b_cst_65, main_while0b_v201, main_while0b_v202, main_while0b_v203, main_while0b_v204, main_while0b_v205, main_while0b_v206, main_while0b_c_66, main_while0b_v207, main_while0b_v208, main_while0b_c_67, main_while0b_v209, main_while0b_v210, main_while0b_v211, main_while0b_v212, main_while0b_v213, main_while0b_v214, main_while0b_v215, main_while0b_v216, main_while0b_c_68, main_while0b_v217, main_v119_3, main_v119_4, main_v119_5]
theorem loop_writes : (while0Ops0 : List (HloOp τ sig (Elt Ideal))).Forall fun op => op.writes ⊆ (loop_W.map (Proc.devRef (τ := τ) .tc)).toFinset :=
  StableHlo.forall_writes_sub_of_map rfl

/-- The loop leaves alone what its body and condition do not write. -/
theorem R23_of (c : Dev nD) (r : Ref sig .tc) (h : r ∉ loop_W) (h' : r ∉ condOps_W) : R23 m c (Proc.devRef .tc r) = R22 m c (Proc.devRef .tc r) := by
  have key : ∀ k, StableHlo.atTrip condOps bodyI (StableHlo.entryContents preI m) k c (Proc.devRef .tc r) = R22 m c (Proc.devRef .tc r) := by
    intro k
    induction k with
    | zero => rfl
    | succ k ih =>
      refine Eq.trans ?_ ih
      show StableHlo.after while0Ops0 (StableHlo.after condOps _) (Proc.devRef .tc r) = _
      rw [StableHlo.after_of_writes_sub while0Ops0 _ loop_writes h, StableHlo.after_of_writes_sub condOps _ condOps_writes h']
  exact (StableHlo.after_of_writes_sub condOps _ condOps_writes h').trans (key 1000)

theorem R32_arg0 (c : Dev nD) : R32 m c (Proc.devRef .tc main_arg0) = m ((c.tc : Thread nD τ).loc main_arg0) := by
  rw [R32_of m c main_arg0 (by decide), R31_of m c main_arg0 (by decide), R30_of m c main_arg0 (by decide), R29_of m c main_arg0 (by decide), R28_of m c main_arg0 (by decide), R27_of m c main_arg0 (by decide), R26_of m c main_arg0 (by decide), R25_of m c main_arg0 (by decide), R24_of m c main_arg0 (by decide), R23_of m c main_arg0 (by decide) (by decide), R22_of m c main_arg0 (by decide), R21_of m c main_arg0 (by decide), R20_of m c main_arg0 (by decide), R19_of m c main_arg0 (by decide), R18_of m c main_arg0 (by decide), R17_of m c main_arg0 (by decide), R16_of m c main_arg0 (by decide), R15_of m c main_arg0 (by decide), R14_of m c main_arg0 (by decide), R13_of m c main_arg0 (by decide), R12_of m c main_arg0 (by decide), R11_of m c main_arg0 (by decide), R10_of m c main_arg0 (by decide), R9_of m c main_arg0 (by decide), R8_of m c main_arg0 (by decide), R7_of m c main_arg0 (by decide), R6_of m c main_arg0 (by decide), R5_of m c main_arg0 (by decide), R4_of m c main_arg0 (by decide), R3_of m c main_arg0 (by decide), R2_of m c main_arg0 (by decide), R1_of m c main_arg0 (by decide)]
  rfl
theorem R32_arg1 (c : Dev nD) : R32 m c (Proc.devRef .tc main_arg1) = m ((c.tc : Thread nD τ).loc main_arg1) := by
  rw [R32_of m c main_arg1 (by decide), R31_of m c main_arg1 (by decide), R30_of m c main_arg1 (by decide), R29_of m c main_arg1 (by decide), R28_of m c main_arg1 (by decide), R27_of m c main_arg1 (by decide), R26_of m c main_arg1 (by decide), R25_of m c main_arg1 (by decide), R24_of m c main_arg1 (by decide), R23_of m c main_arg1 (by decide) (by decide), R22_of m c main_arg1 (by decide), R21_of m c main_arg1 (by decide), R20_of m c main_arg1 (by decide), R19_of m c main_arg1 (by decide), R18_of m c main_arg1 (by decide), R17_of m c main_arg1 (by decide), R16_of m c main_arg1 (by decide), R15_of m c main_arg1 (by decide), R14_of m c main_arg1 (by decide), R13_of m c main_arg1 (by decide), R12_of m c main_arg1 (by decide), R11_of m c main_arg1 (by decide), R10_of m c main_arg1 (by decide), R9_of m c main_arg1 (by decide), R8_of m c main_arg1 (by decide), R7_of m c main_arg1 (by decide), R6_of m c main_arg1 (by decide), R5_of m c main_arg1 (by decide), R4_of m c main_arg1 (by decide), R3_of m c main_arg1 (by decide), R2_of m c main_arg1 (by decide), R1_of m c main_arg1 (by decide)]
  rfl
theorem R32_arg2 (c : Dev nD) : R32 m c (Proc.devRef .tc main_arg2) = m ((c.tc : Thread nD τ).loc main_arg2) := by
  rw [R32_of m c main_arg2 (by decide), R31_of m c main_arg2 (by decide), R30_of m c main_arg2 (by decide), R29_of m c main_arg2 (by decide), R28_of m c main_arg2 (by decide), R27_of m c main_arg2 (by decide), R26_of m c main_arg2 (by decide), R25_of m c main_arg2 (by decide), R24_of m c main_arg2 (by decide), R23_of m c main_arg2 (by decide) (by decide), R22_of m c main_arg2 (by decide), R21_of m c main_arg2 (by decide), R20_of m c main_arg2 (by decide), R19_of m c main_arg2 (by decide), R18_of m c main_arg2 (by decide), R17_of m c main_arg2 (by decide), R16_of m c main_arg2 (by decide), R15_of m c main_arg2 (by decide), R14_of m c main_arg2 (by decide), R13_of m c main_arg2 (by decide), R12_of m c main_arg2 (by decide), R11_of m c main_arg2 (by decide), R10_of m c main_arg2 (by decide), R9_of m c main_arg2 (by decide), R8_of m c main_arg2 (by decide), R7_of m c main_arg2 (by decide), R6_of m c main_arg2 (by decide), R5_of m c main_arg2 (by decide), R4_of m c main_arg2 (by decide), R3_of m c main_arg2 (by decide), R2_of m c main_arg2 (by decide), R1_of m c main_arg2 (by decide)]
  rfl
theorem R32_arg3 (c : Dev nD) : R32 m c (Proc.devRef .tc main_arg3) = m ((c.tc : Thread nD τ).loc main_arg3) := by
  rw [R32_of m c main_arg3 (by decide), R31_of m c main_arg3 (by decide), R30_of m c main_arg3 (by decide), R29_of m c main_arg3 (by decide), R28_of m c main_arg3 (by decide), R27_of m c main_arg3 (by decide), R26_of m c main_arg3 (by decide), R25_of m c main_arg3 (by decide), R24_of m c main_arg3 (by decide), R23_of m c main_arg3 (by decide) (by decide), R22_of m c main_arg3 (by decide), R21_of m c main_arg3 (by decide), R20_of m c main_arg3 (by decide), R19_of m c main_arg3 (by decide), R18_of m c main_arg3 (by decide), R17_of m c main_arg3 (by decide), R16_of m c main_arg3 (by decide), R15_of m c main_arg3 (by decide), R14_of m c main_arg3 (by decide), R13_of m c main_arg3 (by decide), R12_of m c main_arg3 (by decide), R11_of m c main_arg3 (by decide), R10_of m c main_arg3 (by decide), R9_of m c main_arg3 (by decide), R8_of m c main_arg3 (by decide), R7_of m c main_arg3 (by decide), R6_of m c main_arg3 (by decide), R5_of m c main_arg3 (by decide), R4_of m c main_arg3 (by decide), R3_of m c main_arg3 (by decide), R2_of m c main_arg3 (by decide), R1_of m c main_arg3 (by decide)]
  rfl
theorem R32_arg4 (c : Dev nD) : R32 m c (Proc.devRef .tc main_arg4) = m ((c.tc : Thread nD τ).loc main_arg4) := by
  rw [R32_of m c main_arg4 (by decide), R31_of m c main_arg4 (by decide), R30_of m c main_arg4 (by decide), R29_of m c main_arg4 (by decide), R28_of m c main_arg4 (by decide), R27_of m c main_arg4 (by decide), R26_of m c main_arg4 (by decide), R25_of m c main_arg4 (by decide), R24_of m c main_arg4 (by decide), R23_of m c main_arg4 (by decide) (by decide), R22_of m c main_arg4 (by decide), R21_of m c main_arg4 (by decide), R20_of m c main_arg4 (by decide), R19_of m c main_arg4 (by decide), R18_of m c main_arg4 (by decide), R17_of m c main_arg4 (by decide), R16_of m c main_arg4 (by decide), R15_of m c main_arg4 (by decide), R14_of m c main_arg4 (by decide), R13_of m c main_arg4 (by decide), R12_of m c main_arg4 (by decide), R11_of m c main_arg4 (by decide), R10_of m c main_arg4 (by decide), R9_of m c main_arg4 (by decide), R8_of m c main_arg4 (by decide), R7_of m c main_arg4 (by decide), R6_of m c main_arg4 (by decide), R5_of m c main_arg4 (by decide), R4_of m c main_arg4 (by decide), R3_of m c main_arg4 (by decide), R2_of m c main_arg4 (by decide), R1_of m c main_arg4 (by decide)]
  rfl

/-- The reference program's run. -/
theorem reference_run (ρ : Dev nD → PrngReg) :
    θ_run (defs (F := Ideal)) (onTc (τ := τ) (main (F := Ideal))) ⟨m, fun _ => 0, ρ⟩ (fun r => (∀ c : Dev nD,
      r.2.mem ((c.tc : Thread nD τ).loc main_v122) = R32 m c (Proc.devRef .tc main_v122)
      ∧ r.2.mem ((c.tc : Thread nD τ).loc main_v128) = R32 m c (Proc.devRef .tc main_v128)
      ∧ r.2.mem ((c.tc : Thread nD τ).loc main_v124) = R32 m c (Proc.devRef .tc main_v124)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run _ _ _).mono (fun r h => ⟨fun c => ?_, sem_eq_zero_of_no_sems (by rfl) _⟩) (run_fold m ρ)
  exact ⟨h c _ (by rfl), h c _ (by rfl), h c _ (by rfl), (h c _ (by rfl)).trans (R32_arg0 m c), (h c _ (by rfl)).trans (R32_arg1 m c), (h c _ (by rfl)).trans (R32_arg2 m c), (h c _ (by rfl)).trans (R32_arg3 m c), (h c _ (by rfl)).trans (R32_arg4 m c)⟩

end Cert.Proof.Nms.Ref

end
-- ==== Proof.Nms.Frames.lean ====
/-
  The two frame claims: each program, run from any memory, ends with its arguments as launched and every counter at zero.
-/
module

public import proofs.«01_k».proof.Defs
public import proofs.«01_k».proof.Proof.Nms.Run
public import proofs.«01_k».proof.Proof.Nms.RefRun

@[expose] public section

noncomputable section

namespace Cert.Proof.Nms

open Idealize.ShloMosaic Idealize.SL.Sem

/-- The kernel program's frame. -/
theorem frameK : Cert.quiescent_KernelIdeal (hKernelIdeal := Cert.KernelIdeal.Gen.facts) := fun m g _ =>
  (θ_run _ _ _).mono (fun r h => ⟨fun c => (h.1 c).2.2.2, h.2⟩) (kernel_run m g)

/-- The reference program's frame. -/
theorem frameR : Cert.quiescent_ReferenceIdeal (hReferenceIdeal := Cert.ReferenceIdeal.Gen.facts) := fun m g _ =>
  (θ_run _ _ _).mono (fun r h => ⟨fun c => (h.1 c).2.2.2, h.2⟩) (Ref.reference_run m g)

end Cert.Proof.Nms

end
-- ==== Proof.Nms.Order.lean ====
/-
  Two facts with no floats in them. First, the greedy selection — an element is kept when it is eligible and no kept
  earlier element suppresses it — has one solution, and a pass over the elements in order computes it. Second, in a
  stable descending sort the element at place `r` is the one that exactly `r` elements precede.
-/
module

public import Idealize.ShloMosaic.Lib.SortFacts
public import Mathlib.Data.EReal.Basic
public import Mathlib.Data.Fintype.Card

@[expose] public section

namespace Cert.Proof.Nms

open Idealize.ShloMosaic

/-! ## The greedy selection -/

/-- `K` keeps exactly the eligible elements that no kept earlier element suppresses. -/
def Greedy {n : ℕ} (V : Fin n → Prop) (M : Fin n → Fin n → Prop) (K : Fin n → Prop) : Prop :=
  ∀ j, K j ↔ V j ∧ ¬∃ i, i < j ∧ M i j ∧ K i

/-- Two greedy selections agree on the first `a` elements when their data do. -/
theorem Greedy.agree {n n' : ℕ} {V : Fin n → Prop} {M : Fin n → Fin n → Prop} {K : Fin n → Prop}
    {V' : Fin n' → Prop} {M' : Fin n' → Fin n' → Prop} {K' : Fin n' → Prop} (h : Greedy V M K) (h' : Greedy V' M' K')
    (hn : n ≤ n') (hV : ∀ j : Fin n, V j ↔ V' (j.castLE hn)) (hM : ∀ i j : Fin n, M i j ↔ M' (i.castLE hn) (j.castLE hn))
    (j : Fin n) : K j ↔ K' (j.castLE hn) := by
  obtain ⟨j, hj⟩ := j
  induction j using Nat.strong_induction_on with
  | _ j ih =>
    rw [h, h', hV]
    refine and_congr Iff.rfl (not_congr ⟨?_, ?_⟩)
    · rintro ⟨i, hi, hm, hk⟩
      exact ⟨i.castLE hn, hi, (hM _ _).1 hm, (ih i.1 hi i.2).1 hk⟩
    · rintro ⟨i, hi, hm, hk⟩
      have hi' : i.1 < j := hi
      exact ⟨⟨i.1, hi'.trans hj⟩, hi, (hM ⟨i.1, hi'.trans hj⟩ ⟨j, hj⟩).2 hm, (ih i.1 hi' (hi'.trans hj)).2 hk⟩

/-- One pass in order — step `t` drops what element `t`, if still kept, suppresses — computes the greedy selection. -/
theorem pass_greedy {n : ℕ} {V : Fin n → Prop} {M : Fin n → Fin n → Prop} (S : ℕ → Fin n → Prop)
    (h0 : ∀ j, S 0 j ↔ V j)
    (hs : ∀ (t : ℕ) (ht : t < n) (j : Fin n), S (t + 1) j ↔ S t j ∧ ¬(t < j.1 ∧ M ⟨t, ht⟩ j ∧ S t ⟨t, ht⟩)) :
    Greedy V M (S n) := by
  have key : ∀ t ≤ n, ∀ j : Fin n, S t j ↔ V j ∧ ¬∃ i : Fin n, i < j ∧ i.1 < t ∧ M i j ∧ S i.1 i := by
    intro t
    induction t with
    | zero => intro _ j; rw [h0]; simp
    | succ t ih =>
      intro ht j
      rw [hs t ht, ih (Nat.le_of_succ_le ht), and_assoc]
      refine and_congr Iff.rfl ⟨?_, ?_⟩
      · rintro ⟨h1, h2⟩ ⟨i, hi, hit, hm, hk⟩
        rcases Nat.lt_succ_iff_lt_or_eq.1 hit with h | h
        · exact h1 ⟨i, hi, h, hm, hk⟩
        · obtain ⟨i, hi0⟩ := i
          simp only at h; subst h
          exact h2 ⟨hi, hm, hk⟩
      · intro h
        exact ⟨fun ⟨i, hi, hit, hm, hk⟩ => h ⟨i, hi, Nat.lt_succ_of_lt hit, hm, hk⟩,
          fun ⟨h1, h2, h3⟩ => h ⟨⟨t, ht⟩, h1, Nat.lt_succ_self t, h2, h3⟩⟩
  have diag : ∀ i : Fin n, S n i ↔ S i.1 i := by
    intro i
    rw [key n le_rfl, key i.1 i.2.le]
    refine and_congr Iff.rfl (not_congr ⟨?_, ?_⟩)
    · rintro ⟨a, ha, _, hm, hk⟩; exact ⟨a, ha, ha, hm, hk⟩
    · rintro ⟨a, ha, _, hm, hk⟩; exact ⟨a, ha, a.2, hm, hk⟩
  intro j
  rw [key n le_rfl]
  refine and_congr Iff.rfl (not_congr ⟨?_, ?_⟩)
  · rintro ⟨i, hi, _, hm, hk⟩; exact ⟨i, hi, hm, (diag i).2 hk⟩
  · rintro ⟨i, hi, hm, hk⟩; exact ⟨i, hi, i.2, hm, (diag i).1 hk⟩

/-! ## Places in a stable descending sort -/

/-- `i` comes before `j` in the stable descending order of the values `f`. -/
def Above {n : ℕ} (f : Fin n → EReal) (i j : Fin n) : Prop := f j < f i ∨ (f i = f j ∧ i < j)

theorem Above.trans {n : ℕ} {f : Fin n → EReal} {a b c : Fin n} (h : Above f a b) (h' : Above f b c) : Above f a c := by
  rcases h with h | ⟨h, h1⟩ <;> rcases h' with h' | ⟨h', h1'⟩
  · exact Or.inl (h'.trans h)
  · exact Or.inl (h' ▸ h)
  · exact Or.inl (h ▸ h')
  · exact Or.inr ⟨h.trans h', h1.trans h1'⟩

theorem Above.irrefl {n : ℕ} {f : Fin n → EReal} {a : Fin n} (h : Above f a a) : False := by
  rcases h with h | ⟨_, h⟩ <;> exact lt_irrefl _ h

theorem pairwise_insert {n : ℕ} (f : Fin n → EReal) (R : Fin n → Fin n → Bool) (hR : ∀ i j, R i j = true ↔ f j < f i)
    (a : Fin n) (l : List (Fin n)) (ha : ∀ b ∈ l, a < b) (hl : l.Pairwise (Above f)) : (insertBefore R a l).Pairwise (Above f) := by
  induction l with
  | nil => exact List.pairwise_singleton _ _
  | cons b l ih =>
    rw [List.pairwise_cons] at hl
    unfold insertBefore
    split
    · rename_i h
      refine List.pairwise_cons.2 ⟨fun x hx => ?_, ih (fun c hc => ha c (List.mem_cons_of_mem _ hc)) hl.2⟩
      rcases List.mem_cons.1 ((perm_insertBefore R a l).mem_iff.1 hx) with rfl | hx
      · exact Or.inl ((hR _ _).1 h)
      · exact hl.1 x hx
    · rename_i h
      have hab : Above f a b := by
        have h1 : ¬ f a < f b := fun e => h ((hR _ _).2 e)
        rcases lt_or_eq_of_le (not_lt.1 h1) with h2 | h2
        · exact Or.inl h2
        · exact Or.inr ⟨h2.symm, ha b List.mem_cons_self⟩
      refine List.pairwise_cons.2 ⟨fun x hx => ?_, List.pairwise_cons.2 hl⟩
      rcases List.mem_cons.1 hx with rfl | hx
      · exact hab
      · exact hab.trans (hl.1 x hx)

theorem pairwise_sort {n : ℕ} (f : Fin n → EReal) (R : Fin n → Fin n → Bool) (hR : ∀ i j, R i j = true ↔ f j < f i)
    (l : List (Fin n)) (hl : l.Pairwise (· < ·)) : (stableSort R l).Pairwise (Above f) := by
  induction l with
  | nil => exact List.Pairwise.nil
  | cons a l ih =>
    rw [List.pairwise_cons] at hl
    unfold stableSort
    exact pairwise_insert f R hR a _ (fun b hb => hl.1 b ((perm_stableSort R l).mem_iff.1 hb)) (ih hl.2)

/-- Sorted places are in order. -/
theorem sorted_above {n : ℕ} (f : Fin n → EReal) (R : Fin n → Fin n → Bool) (hR : ∀ i j, R i j = true ↔ f j < f i)
    (k r : Fin n) (h : k < r) : Above f (sortedFrom R k) (sortedFrom R r) :=
  List.pairwise_iff_get.1 (pairwise_sort f R hR (List.finRange n) (List.pairwise_lt_finRange n)) _ _ h

/-- Exactly `r` elements come before the one sorted to place `r`. -/
theorem card_above {n : ℕ} (f : Fin n → EReal) (R : Fin n → Fin n → Bool) (hR : ∀ i j, R i j = true ↔ f j < f i)
    (r : Fin n) [DecidablePred fun i => Above f i (sortedFrom R r)] :
    (Finset.univ.filter fun i => Above f i (sortedFrom R r)).card = r.1 := by
  have e : (Finset.univ.filter fun i => Above f i (sortedFrom R r)) = (Finset.Iio r).map ⟨sortedFrom R, sortedFrom_injective R⟩ := by
    ext i
    simp only [Finset.mem_filter, Finset.mem_univ, true_and, Finset.mem_map, Finset.mem_Iio, Function.Embedding.coeFn_mk]
    constructor
    · intro h
      obtain ⟨k, rfl⟩ := sortedFrom_surjective R i
      refine ⟨k, ?_, rfl⟩
      by_contra hk
      rcases lt_or_eq_of_le (not_lt.1 hk) with h2 | h2
      · exact (h.trans (sorted_above f R hR r k h2)).irrefl
      · subst h2; exact h.irrefl
    · rintro ⟨k, hk, rfl⟩
      exact sorted_above f R hR k r hk
  rw [e, Finset.card_map, Fin.card_Iio]

/-- An element that exactly `r` elements precede is the one sorted to place `r`. -/
theorem eq_sorted_of_card {n : ℕ} (f : Fin n → EReal) (R : Fin n → Fin n → Bool) (hR : ∀ i j, R i j = true ↔ f j < f i)
    (r j : Fin n) [DecidablePred fun i => Above f i j] (h : (Finset.univ.filter fun i => Above f i j).card = r.1) :
    j = sortedFrom R r := by
  obtain ⟨k, rfl⟩ := sortedFrom_surjective R j
  rw [card_above f R hR k] at h
  rw [Fin.ext h]

end Cert.Proof.Nms

end
-- ==== Proof.Nms.Mask.lean ====
/-
  What the second kernel's suppression computes at the extended reals: the overlap test of two boxes, the two triangular
  matrices entry by entry, and the survivors as the greedy selection over the 1024 padded candidates.
-/
module

public import proofs.«01_k».proof.Proof.Nms.Dat1
public import proofs.«01_k».proof.Proof.Nms.Order
public import Idealize.ShloMosaic.Lib.Pipeline.Value

@[expose] public section

set_option maxRecDepth 1860

noncomputable section

namespace Cert.Proof.Nms

open Cert.KernelIdeal Cert.KernelIdeal.Gen

open Idealize.ShloMosaic hiding ix1 ix2 ix3 ix4 eq_ix1 eq_ix2 eq_ix3 eq_ix4
open Idealize.ShloMosaic.ValueIdx
open Idealize.ShloMosaic.TcCoe

/-- Two boxes, given by their corners, overlap by more than the threshold: the bit of the comparison. -/
def over (a0 a1 a2 a3 b0 b1 b2 b3 : Ideal .f32) : BitVec 1 :=
  FloatOps.cmpf (F := Ideal) .ogt
    (FloatOps.divf
      (FloatOps.mulf (FloatOps.maximumf (FloatOps.subf (FloatOps.minimumf a2 b2) (FloatOps.maximumf a0 b0)) (Ideal.ofBits .f32 0x00000000#32))
        (FloatOps.maximumf (FloatOps.subf (FloatOps.minimumf a3 b3) (FloatOps.maximumf a1 b1)) (Ideal.ofBits .f32 0x00000000#32)))
      (FloatOps.addf (FloatOps.subf (FloatOps.addf (FloatOps.mulf (FloatOps.subf a2 a0) (FloatOps.subf a3 a1)) (FloatOps.mulf (FloatOps.subf b2 b0) (FloatOps.subf b3 b1)))
        (FloatOps.mulf (FloatOps.maximumf (FloatOps.subf (FloatOps.minimumf a2 b2) (FloatOps.maximumf a0 b0)) (Ideal.ofBits .f32 0x00000000#32))
          (FloatOps.maximumf (FloatOps.subf (FloatOps.minimumf a3 b3) (FloatOps.maximumf a1 b1)) (Ideal.ofBits .f32 0x00000000#32))))
        (Ideal.ofBits .f32 0x3089705F#32)))
    (Ideal.ofBits .f32 0x3F19999A#32)

/-- The overlap test does not depend on the boxes' order. -/
theorem over_comm (a0 a1 a2 a3 b0 b1 b2 b3 : Ideal .f32) : over a0 a1 a2 a3 b0 b1 b2 b3 = over b0 b1 b2 b3 a0 a1 a2 a3 := by
  have hmin : ∀ x y : Ideal .f32, (FloatOps.minimumf x y : Ideal .f32) = FloatOps.minimumf y x := fun x y => min_comm (α := EReal) x y
  have hmax : ∀ x y : Ideal .f32, (FloatOps.maximumf x y : Ideal .f32) = FloatOps.maximumf y x := fun x y => max_comm (α := EReal) x y
  have hadd : ∀ x y : Ideal .f32, (FloatOps.addf x y : Ideal .f32) = FloatOps.addf y x := fun x y => add_comm (G := EReal) x y
  unfold over
  rw [hmin a2 b2, hmax a0 b0, hmin a3 b3, hmax a1 b1, hadd (FloatOps.mulf (FloatOps.subf a2 a0) (FloatOps.subf a3 a1))]

/-- A box corner moved by the label's offset. -/
def moved (b l : Ideal .f32) : Ideal .f32 := FloatOps.addf b (FloatOps.mulf l (Ideal.ofBits .f32 0x461C4000#32))

theorem bcast_col {α : Type} (x : S1024x1.Idx → α) (i j : Fin 1024) :
    broadcastTo S1024x1024 x broadcasts_S1024x1_S1024x1024 (ix2 i j) = x (ix2 i (0 : Fin 1)) :=
  broadcastTo_apply x _ _ _ fun a => by match a with | ⟨0, _⟩ => rfl | ⟨1, _⟩ => rfl
theorem bcast_row {α : Type} (x : S1x1024.Idx → α) (i j : Fin 1024) :
    broadcastTo S1024x1024 x broadcasts_S1x1024_S1024x1024 (ix2 i j) = x (ix2 (0 : Fin 1) j) :=
  broadcastTo_apply x _ _ _ fun a => by match a with | ⟨0, _⟩ => rfl | ⟨1, _⟩ => rfl

theorem cast_col {α : Type} (x : S1024x1.Idx → α) : shapeCast S1024x1 x shapeCasts_S1024x1_S1024x1 = x := shapeCast_self x _
theorem cast_row {α : Type} (x : S1x1024.Idx → α) : shapeCast S1x1024 x shapeCasts_S1x1024_S1x1024 = x := shapeCast_self x _

/-- The overlap matrix at an entry. -/
theorem pay17_apply (c0 c1 c2 c3 : FVec Ideal S1024x1 .f32) (r0 r1 r2 r3 : FVec Ideal S1x1024 .f32) (p q : FVec Ideal S1024x1024 .f32) (i j : Fin 1024)
    (hp : p (ix2 i j) = FloatOps.minimumf (c2 (ix2 i (0 : Fin 1))) (r2 (ix2 (0 : Fin 1) j)))
    (hq : q (ix2 i j) = FloatOps.maximumf (c0 (ix2 i (0 : Fin 1))) (r0 (ix2 (0 : Fin 1) j))) :
    k1_pay17 c0 c1 c2 c3 r0 r1 r2 r3 p q (ix2 i j)
      = over (c0 (ix2 i (0 : Fin 1))) (c1 (ix2 i (0 : Fin 1))) (c2 (ix2 i (0 : Fin 1))) (c3 (ix2 i (0 : Fin 1)))
          (r0 (ix2 (0 : Fin 1) j)) (r1 (ix2 (0 : Fin 1) j)) (r2 (ix2 (0 : Fin 1) j)) (r3 (ix2 (0 : Fin 1) j)) := by
  unfold k1_pay17 over
  simp only [ValueIdx.cmpf_apply, divf_apply, mulf_apply, addf_apply, subf_apply, maximumf_apply, minimumf_apply, bcast_col, bcast_row, hp, hq]
  rfl

/-- Candidate `i` overlaps candidate `j`: their boxes `b`, each moved by its label `l`'s offset, overlap. -/
def Overlaps {n : ℕ} (b : Fin n → Fin 4 → Ideal .f32) (l : Fin n → Ideal .f32) (i j : Fin n) : Prop :=
  over (moved (b i 0) (l i)) (moved (b i 1) (l i)) (moved (b i 2) (l i)) (moved (b i 3) (l i))
    (moved (b j 0) (l j)) (moved (b j 1) (l j)) (moved (b j 2) (l j)) (moved (b j 3) (l j)) = 1#1

theorem Overlaps.symm {n : ℕ} {b : Fin n → Fin 4 → Ideal .f32} {l : Fin n → Ideal .f32} {i j : Fin n} : Overlaps b l i j ↔ Overlaps b l j i := by
  unfold Overlaps; rw [over_comm]

/-- A conjunction of bits. -/
theorem andi_iff (x y : BitVec 1) : IntOp.andi x y = 1#1 ↔ x = 1#1 ∧ y = 1#1 := by
  rcases BitVec.eq_zero_or_eq_one x with rfl | rfl <;> rcases BitVec.eq_zero_or_eq_one y with rfl | rfl <;> decide
/-- A disjunction of bits. -/
theorem ori_iff (x y : BitVec 1) : IntOp.ori x y = 1#1 ↔ x = 1#1 ∨ y = 1#1 := by
  rcases BitVec.eq_zero_or_eq_one x with rfl | rfl <;> rcases BitVec.eq_zero_or_eq_one y with rfl | rfl <;> decide

/-- The comparison of the two coordinates' iotas, `<`. -/
theorem slt_iotas (i j : Fin 1024) :
    cmpi .slt (iota .tc S1024x1024 32 [0] iota_S1024x1024_d0_w32) (iota .tc S1024x1024 32 [1] iota_S1024x1024_d1_w32) (ix2 i j) = 1#1 ↔ i < j := by
  rw [show cmpi .slt (iota .tc S1024x1024 32 [0] iota_S1024x1024_d0_w32) (iota .tc S1024x1024 32 [1] iota_S1024x1024_d1_w32) (ix2 i j)
      = IntOp.cmpi .slt (iota .tc S1024x1024 32 [0] iota_S1024x1024_d0_w32 (ix2 i j)) (iota .tc S1024x1024 32 [1] iota_S1024x1024_d1_w32 (ix2 i j)) from rfl,
      iota_single_apply, iota_single_apply]
  exact (cmpi_slt_ofNat i.val j.val (by have := i.isLt; omega) (by have := j.isLt; omega)).trans Fin.lt_def.symm
/-- The comparison of the two coordinates' iotas, `>`. -/
theorem sgt_iotas (i j : Fin 1024) :
    cmpi .sgt (iota .tc S1024x1024 32 [0] iota_S1024x1024_d0_w32) (iota .tc S1024x1024 32 [1] iota_S1024x1024_d1_w32) (ix2 i j) = 1#1 ↔ j < i := by
  rw [show cmpi .sgt (iota .tc S1024x1024 32 [0] iota_S1024x1024_d0_w32) (iota .tc S1024x1024 32 [1] iota_S1024x1024_d1_w32) (ix2 i j)
      = IntOp.cmpi .sgt (iota .tc S1024x1024 32 [0] iota_S1024x1024_d0_w32 (ix2 i j)) (iota .tc S1024x1024 32 [1] iota_S1024x1024_d1_w32 (ix2 i j)) from rfl,
      iota_single_apply, iota_single_apply]
  exact (cmpi_sgt_ofNat i.val j.val (by have := i.isLt; omega) (by have := j.isLt; omega)).trans Fin.lt_def.symm

section Matrices

variable (b : Fin 1024 → Fin 4 → Ideal .f32) (l : Fin 1024 → Ideal .f32)
  (c0 c1 c2 c3 lc : Vec Ideal S1024x1 .f32) (r0 r1 r2 r3 lr : Vec Ideal S1x1024 .f32)

/-- The columns and rows hold the boxes and labels. -/
structure Holds : Prop where
  c0 : ∀ i, c0 (ix2 i (0 : Fin 1)) = b i 0
  c1 : ∀ i, c1 (ix2 i (0 : Fin 1)) = b i 1
  c2 : ∀ i, c2 (ix2 i (0 : Fin 1)) = b i 2
  c3 : ∀ i, c3 (ix2 i (0 : Fin 1)) = b i 3
  lc : ∀ i, lc (ix2 i (0 : Fin 1)) = l i
  r0 : ∀ i, r0 (ix2 (0 : Fin 1) i) = b i 0
  r1 : ∀ i, r1 (ix2 (0 : Fin 1) i) = b i 1
  r2 : ∀ i, r2 (ix2 (0 : Fin 1) i) = b i 2
  r3 : ∀ i, r3 (ix2 (0 : Fin 1) i) = b i 3
  lr : ∀ i, lr (ix2 (0 : Fin 1) i) = l i

variable {b l c0 c1 c2 c3 lc r0 r1 r2 r3 lr}

theorem Holds.pay17 (H : Holds b l c0 c1 c2 c3 lc r0 r1 r2 r3 lr) (i j : Fin 1024) :
    k1_pay17 (k1_pay7 lc c0) (k1_pay8 lc c1) (k1_pay9 lc c2) (k1_pay10 lc c3) (k1_pay11 lr r0) (k1_pay12 lr r1) (k1_pay13 lr r2) (k1_pay14 lr r3)
      (k1_pay15 lc lr c2 r2) (k1_pay16 lc lr c0 r0) (ix2 i j) = 1#1 ↔ Overlaps b l i j := by
  have col (l c : Vec Ideal S1024x1 .f32) : addf (shapeCast S1024x1 c shapeCasts_S1024x1_S1024x1) (k1_pay5 l) (ix2 i (0 : Fin 1)) = moved (c (ix2 i (0 : Fin 1))) (l (ix2 i (0 : Fin 1))) := by
    unfold k1_pay5; rw [cast_col, cast_col]; rfl
  have row (l c : Vec Ideal S1x1024 .f32) : addf (shapeCast S1x1024 c shapeCasts_S1x1024_S1x1024) (k1_pay6 l) (ix2 (0 : Fin 1) j) = moved (c (ix2 (0 : Fin 1) j)) (l (ix2 (0 : Fin 1) j)) := by
    unfold k1_pay6; rw [cast_row, cast_row]; rfl
  rw [pay17_apply (i := i) (j := j) (hp := by
      show FloatOps.minimumf (broadcastTo S1024x1024 (k1_pay9 lc c2) broadcasts_S1024x1_S1024x1024 (ix2 i j)) (broadcastTo S1024x1024 (k1_pay13 lr r2) broadcasts_S1x1024_S1024x1024 (ix2 i j)) = _
      rw [bcast_col, bcast_row])
    (hq := by
      show FloatOps.maximumf (broadcastTo S1024x1024 (k1_pay7 lc c0) broadcasts_S1024x1_S1024x1024 (ix2 i j)) (broadcastTo S1024x1024 (k1_pay11 lr r0) broadcasts_S1x1024_S1024x1024 (ix2 i j)) = _
      rw [bcast_col, bcast_row])]
  unfold k1_pay7 k1_pay8 k1_pay9 k1_pay10 k1_pay11 k1_pay12 k1_pay13 k1_pay14
  rw [col, col, col, col, row, row, row, row, H.c0, H.c1, H.c2, H.c3, H.lc, H.r0, H.r1, H.r2, H.r3, H.lr]
  rfl

open Classical in
/-- The strictly upper matrix: 1 where an earlier candidate overlaps a later one. -/
theorem Holds.upper (H : Holds b l c0 c1 c2 c3 lc r0 r1 r2 r3 lr) (i j : Fin 1024) :
    upper c0 c1 c2 c3 lc r0 r1 r2 r3 lr (ix2 i j) = if i < j ∧ Overlaps b l i j then (1 : EReal) else 0 := by
  unfold Nms.upper k1_pay18
  have h := H.pay17 i j
  revert h
  generalize k1_pay17 (k1_pay7 lc c0) (k1_pay8 lc c1) (k1_pay9 lc c2) (k1_pay10 lc c3) (k1_pay11 lr r0) (k1_pay12 lr r1) (k1_pay13 lr r2) (k1_pay14 lr r3)
      (k1_pay15 lc lr c2 r2) (k1_pay16 lc lr c0 r0) = m
  intro h
  show Scalar.select (IntOp.andi (m (ix2 i j)) (cmpi .slt (iota .tc S1024x1024 32 [0] iota_S1024x1024_d0_w32) (iota .tc S1024x1024 32 [1] iota_S1024x1024_d1_w32) (ix2 i j)))
    (Ideal.ofBits .f32 0x3F800000#32) (Ideal.ofBits .f32 0x00000000#32) = _
  rw [select_of_iff ((andi_iff _ _).trans ((and_congr h (slt_iotas i j)).trans and_comm)), Ideal.ofBits_one_f32, Ideal.ofBits_zero_f32]

open Classical in
/-- The strictly lower matrix is its transpose. -/
theorem Holds.lower (H : Holds b l c0 c1 c2 c3 lc r0 r1 r2 r3 lr) (i j : Fin 1024) :
    lower c0 c1 c2 c3 lc r0 r1 r2 r3 lr (ix2 j i) = if i < j ∧ Overlaps b l i j then (1 : EReal) else 0 := by
  unfold Nms.lower k1_pay19
  have h := (H.pay17 j i).trans Overlaps.symm
  revert h
  generalize k1_pay17 (k1_pay7 lc c0) (k1_pay8 lc c1) (k1_pay9 lc c2) (k1_pay10 lc c3) (k1_pay11 lr r0) (k1_pay12 lr r1) (k1_pay13 lr r2) (k1_pay14 lr r3)
      (k1_pay15 lc lr c2 r2) (k1_pay16 lc lr c0 r0) = m
  intro h
  show Scalar.select (IntOp.andi (m (ix2 j i)) (cmpi .sgt (iota .tc S1024x1024 32 [0] iota_S1024x1024_d0_w32) (iota .tc S1024x1024 32 [1] iota_S1024x1024_d1_w32) (ix2 j i)))
    (Ideal.ofBits .f32 0x3F800000#32) (Ideal.ofBits .f32 0x00000000#32) = _
  rw [select_of_iff ((andi_iff _ _).trans ((and_congr h (sgt_iotas j i)).trans and_comm)), Ideal.ofBits_one_f32, Ideal.ofBits_zero_f32]

end Matrices

/-! ## The survivors -/

section Survivors

variable (S U : FVec Ideal S1024x1024 .bf16) (v : FVec Ideal S1024x1 .f32) (w : FVec Ideal S1x1024 .f32)
  (M : Fin 1024 → Fin 1024 → Prop) (V : Fin 1024 → Prop)

open Classical in
/-- Each entry of the column is 0 or its flag. -/
theorem colIt_01 (hv : ∀ i, v (ix2 i (0 : Fin 1)) = if V i then (1 : EReal) else 0) (t : ℕ) (i : Fin 1024) :
    colIt S v t (ix2 i (0 : Fin 1)) = (0 : EReal) ∨ colIt S v t (ix2 i (0 : Fin 1)) = (1 : EReal) := by
  have h : v (ix2 i (0 : Fin 1)) = (0 : EReal) ∨ v (ix2 i (0 : Fin 1)) = (1 : EReal) := by
    rw [hv]; split
    · exact Or.inr rfl
    · exact Or.inl rfl
  cases t with
  | zero => rw [colIt_zero]; exact h
  | succ t =>
    rw [colIt_succ, pay3_apply]
    split
    · exact Or.inl rfl
    · exact h

/-- A sum of zeros and ones is positive exactly when it has a one. -/
theorem sum01_pos {ι : Type} (s : Finset ι) (f : ι → EReal) (h : ∀ i, f i = 0 ∨ f i = 1) : 0 < ∑ i ∈ s, f i ↔ ∃ i ∈ s, 0 < f i := by
  have h0 : ∀ i, 0 ≤ f i := fun i => by rcases h i with e | e <;> rw [e]; exact zero_le_one
  constructor
  · intro hp
    by_contra hn
    refine absurd hp (not_lt.2 ?_)
    exact Finset.sum_nonpos fun i hi => not_lt.1 fun e => hn ⟨i, hi, e⟩
  · rintro ⟨i, hi, hp⟩
    exact lt_of_lt_of_le hp (Finset.single_le_sum (fun j _ => h0 j) hi)

open Classical in
/-- One round keeps a candidate exactly when it is flagged and no survivor suppresses it. -/
theorem colIt_step (hS : ∀ i j, S (ix2 j i) = if i < j ∧ M i j then (1 : EReal) else 0)
    (hv : ∀ i, v (ix2 i (0 : Fin 1)) = if V i then (1 : EReal) else 0) (t : ℕ) (j : Fin 1024) :
    (0 : EReal) < colIt S v (t + 1) (ix2 j (0 : Fin 1)) ↔ V j ∧ ¬∃ i, i < j ∧ M i j ∧ (0 : EReal) < colIt S v t (ix2 i (0 : Fin 1)) := by
  have key : (0 : EReal) < ∑ i : Fin 1024, (S (ix2 j i) : EReal) * colIt S v t (ix2 i (0 : Fin 1))
      ↔ ∃ i, i < j ∧ M i j ∧ (0 : EReal) < colIt S v t (ix2 i (0 : Fin 1)) := by
    rw [sum01_pos]
    · constructor
      · rintro ⟨i, -, hi⟩
        rw [hS] at hi
        split at hi
        · rename_i h; rw [one_mul] at hi; exact ⟨i, h.1, h.2, hi⟩
        · rw [zero_mul] at hi; exact absurd hi (lt_irrefl _)
      · rintro ⟨i, h1, h2, h3⟩
        refine ⟨i, Finset.mem_univ _, ?_⟩
        rw [hS, if_pos ⟨h1, h2⟩, one_mul]; exact h3
    · intro i
      rw [hS]
      split
      · rw [one_mul]; exact colIt_01 S v V hv t i
      · rw [zero_mul]; exact Or.inl rfl
  rw [colIt_succ, pay3_apply]
  by_cases h : (0 : EReal) < ∑ i : Fin 1024, (S (ix2 j i) : EReal) * colIt S v t (ix2 i (0 : Fin 1))
  · rw [if_pos h]
    exact ⟨fun e => absurd e (lt_irrefl _), fun e => absurd (key.1 h) e.2⟩
  · rw [if_neg h, hv]
    constructor
    · intro e
      refine ⟨?_, fun e' => h (key.2 e')⟩
      by_contra hV
      rw [if_neg hV] at e; exact lt_irrefl _ e
    · rintro ⟨hV, _⟩
      rw [if_pos hV]; exact zero_lt_one

open Classical in
/-- When the loop ends the survivors are the greedy selection. -/
theorem keepCol_greedy (hS : ∀ i j, S (ix2 j i) = if i < j ∧ M i j then (1 : EReal) else 0)
    (hv : ∀ i, v (ix2 i (0 : Fin 1)) = if V i then (1 : EReal) else 0) :
    Greedy V M fun j => (0 : EReal) < keepCol S v (ix2 j (0 : Fin 1)) := by
  unfold keepCol
  rw [show k1_pay20 v = v from cast_col v]
  have hz : ∀ i j : Fin 1024, i ≤ j → S (ix2 i j) = (0 : EReal) := fun i j h => by
    rw [hS, if_neg fun e => absurd e.1 (not_lt.2 h)]
  have hm := rounds_mem S v 1025 (flagIt_last S v hz)
  generalize rounds S v = T at hm
  cases T with
  | zero => exact absurd (flagIt_zero S v) hm
  | succ t =>
    rw [flagIt_succ] at hm
    have hfix : colIt S v (t + 1) = colIt S v t := by
      rw [colIt_succ]
      by_contra hne
      exact hm ((flag_iff S v (colIt S v t)).2 hne)
    intro j
    show (0 : EReal) < colIt S v (t + 1) (ix2 j (0 : Fin 1)) ↔ _
    rw [colIt_step S v M V hS hv t j, ← hfix]

/-- The row of survivors is the column's transpose. -/
theorem rowIt_col (hU : ∀ i j, U (ix2 i j) = S (ix2 j i)) (hw : ∀ i, w (ix2 (0 : Fin 1) i) = v (ix2 i (0 : Fin 1))) (t : ℕ) :
    ∀ i, rowIt U w t (ix2 (0 : Fin 1) i) = colIt S v t (ix2 i (0 : Fin 1)) := by
  induction t with
  | zero => intro i; rw [rowIt_zero, colIt_zero]; exact hw i
  | succ t ih =>
    intro i
    rw [rowIt_succ, colIt_succ, pay2_apply, pay3_apply, hw]
    have : ∑ j : Fin 1024, (rowIt U w t (ix2 (0 : Fin 1) j) : EReal) * U (ix2 j i) = ∑ j : Fin 1024, (S (ix2 i j) : EReal) * colIt S v t (ix2 j (0 : Fin 1)) :=
      Finset.sum_congr rfl fun j _ => by rw [ih, hU]; exact mul_comm (G := EReal) _ _
    rw [this]

theorem keepRow_col (hU : ∀ i j, U (ix2 i j) = S (ix2 j i)) (hw : ∀ i, w (ix2 (0 : Fin 1) i) = v (ix2 i (0 : Fin 1))) (i : Fin 1024) :
    keepRow U S v w (ix2 (0 : Fin 1) i) = keepCol S v (ix2 i (0 : Fin 1)) := by
  unfold keepRow keepCol
  rw [show k1_pay20 v = v from cast_col v, show k1_pay21 w = w from cast_row w]
  exact rowIt_col S U v w hU hw _ i

end Survivors

end Cert.Proof.Nms

end
-- ==== Proof.Nms.Take.lean ====
module

public import proofs.«01_k».proof.Proof.Nms.Mask

/-! Reading one array at the places another array names.

Both programs pick entries with an index vector in the same way: a negative index counts from the end,
an index outside the array gives a filler, and every other index gives the entry it names. Here the
index is known to lie inside, so the result is the entry. -/

@[expose] public section

set_option maxRecDepth 1860

noncomputable section

namespace Cert.Proof.Nms

open Cert.KernelIdeal Cert.KernelIdeal.Gen

open Idealize.ShloMosaic hiding ix1 ix2 ix3 ix4 eq_ix1 eq_ix2 eq_ix3 eq_ix4
open Idealize.ShloMosaic.ValueIdx
open Idealize.ShloMosaic.TcCoe

section
variable {B : Nat}

/-- The index vector as one column, negative indices counted from the end. -/
def column (h : S_.BroadcastsInDim ⟨1, ![B]⟩ ![]) (h1 : (⟨1, ![B]⟩ : Shape).BroadcastsInDim ⟨2, ![B, 1]⟩ ![0])
    (idx : IVec ⟨1, ![B]⟩ 32) : IVec ⟨2, ![B, 1]⟩ 32 :=
  broadcastInDim ⟨2, ![B, 1]⟩ ![0] h1
    (select (cmpi .slt idx (broadcastInDim ⟨1, ![B]⟩ ![] h (constantI S_ 32 0#32)))
      (addi idx (broadcastInDim ⟨1, ![B]⟩ ![] h (constantI S_ 32 1000#32))) idx)

/-- Whether each index lies inside an array of 1000 rows. -/
def inside (h : S_.BroadcastsInDim ⟨2, ![B, 1]⟩ ![]) (ha : S1.BroadcastsInDim S1x1 ![1])
    (hb : S1x1.BroadcastsInDim ⟨2, ![B, 1]⟩ ![0, 1]) (hr : (⟨2, ![B, 1]⟩ : Shape).ReducesTo [1] ⟨1, ![B]⟩)
    (hu : 0 < S_.numel) (I : IVec ⟨2, ![B, 1]⟩ 32) : IVec ⟨1, ![B]⟩ 1 :=
  Host.reduce IntOp.andi
    (andi (cmpi .sge I (broadcastInDim ⟨2, ![B, 1]⟩ ![] h (constantI S_ 32 0#32)))
      (cmpi .sle I (broadcastInDim ⟨2, ![B, 1]⟩ ![0, 1] hb (broadcastInDim S1x1 ![1] ha (constantI S1 32 999#32)))))
    (constantI S_ 1 1#1) hr hu

theorem toInt_small (k : Nat) (hk : k < 1000) : (BitVec.ofNat 32 k).toInt = k := by
  have h : (BitVec.ofNat 32 k).toNat = k := by rw [BitVec.toNat_ofNat]; exact Nat.mod_eq_of_lt (by omega)
  rw [BitVec.toInt_eq_toNat_of_lt (by omega), h]

theorem not_slt_zero (k : Nat) (hk : k < 1000) : (BitVec.ofNat 32 k).slt 0#32 = false := by
  rw [BitVec.slt_eq_decide, toInt_small k hk]
  simp

theorem one_axis (j : Fin B) (a : Fin 1) :
    ((ix1 j : (⟨1, ![B]⟩ : Shape).Idx) a).val = if (⟨1, ![B]⟩ : Shape).size a = 1 then 0 else j.val := by
  obtain rfl : a = 0 := Subsingleton.elim _ _
  show j.val = if B = 1 then 0 else j.val
  split
  · have := j.isLt; omega
  · rfl

theorem spread {C : Nat} {α : Type} (h : (⟨1, ![B]⟩ : Shape).BroadcastsInDim ⟨2, ![B, C]⟩ ![0])
    (x : (⟨1, ![B]⟩ : Shape).Idx → α) (j : Fin B) (q : Fin C) :
    broadcastInDim ⟨2, ![B, C]⟩ ![0] h x (ix2 j q) = x (ix1 j) := by
  apply broadcastInDim_apply
  intro a
  match a with
  | ⟨0, _⟩ => exact one_axis j 0

theorem column_apply (h : S_.BroadcastsInDim ⟨1, ![B]⟩ ![]) (h1 : (⟨1, ![B]⟩ : Shape).BroadcastsInDim ⟨2, ![B, 1]⟩ ![0])
    (idx : IVec ⟨1, ![B]⟩ 32) (j : Fin B) (k : Nat) (hk : k < 1000)
    (e : idx (ix1 j) = BitVec.ofNat 32 k) : column h h1 idx (ix2 j 0) = BitVec.ofNat 32 k := by
  unfold column
  refine (spread h1 _ j 0).trans ?_
  rw [select_apply]
  have : cmpi .slt idx (broadcastInDim ⟨1, ![B]⟩ ![] h (constantI S_ 32 0#32)) (ix1 j) = 0#1 := by
    rw [cmpi_apply, e, broadcastInDim_scalar_apply]
    show BitVec.ofBool ((BitVec.ofNat 32 k).slt 0#32) = 0#1
    rw [not_slt_zero k hk]; rfl
  rw [this, select_zero, e]

theorem fold_one {α : Type} (op : α → α → α) [Std.Commutative op] [Std.Associative op] (b : α) (f : Fin 1 → α) :
    (Finset.univ : Finset (Fin 1)).fold op b f = op (f 0) b := by
  rw [Finset.univ_unique, Finset.fold_singleton]; rfl

theorem inside_apply (h : S_.BroadcastsInDim ⟨2, ![B, 1]⟩ ![]) (ha : S1.BroadcastsInDim S1x1 ![1])
    (hb : S1x1.BroadcastsInDim ⟨2, ![B, 1]⟩ ![0, 1]) (hr : (⟨2, ![B, 1]⟩ : Shape).ReducesTo [1] ⟨1, ![B]⟩)
    (hu : 0 < S_.numel) (I : IVec ⟨2, ![B, 1]⟩ 32) (j : Fin B) (k : Nat) (hk : k < 1000)
    (e : I (ix2 j 0) = BitVec.ofNat 32 k) : inside h ha hb hr hu I (ix1 j) = 1#1 := by
  have hr' : (⟨2, ![B, 1]⟩ : Shape).Reduces [1] ⟨1, ![B]⟩ := ⟨hr.1, Nat.one_pos, hr.2⟩
  unfold inside
  rw [Host.reduce_eq_fold_single IntOp.andi _ _ hr hr' hu]
  have hl : hr'.lift (ix1 j) (0 : Fin 1) = ix2 j 0 := by
    funext c
    match c with
    | ⟨0, _⟩ => rfl
    | ⟨1, _⟩ => rfl
  refine (fold_one IntOp.andi _ _).trans ?_
  show IntOp.andi (IntOp.andi (IntOp.cmpi .sge (I (hr'.lift (ix1 j) (0 : Fin 1))) 0#32)
    (IntOp.cmpi .sle (I (hr'.lift (ix1 j) (0 : Fin 1))) 999#32)) 1#1 = 1#1
  rw [hl, e]
  have h0 : IntOp.cmpi .sge (BitVec.ofNat 32 k) 0#32 = 1#1 := by
    show BitVec.ofBool ((0#32).sle (BitVec.ofNat 32 k)) = 1#1
    rw [BitVec.sle_eq_decide, toInt_small k hk]; simp
  have h9 : IntOp.cmpi .sle (BitVec.ofNat 32 k) 999#32 = 1#1 := by
    show BitVec.ofBool ((BitVec.ofNat 32 k).sle 999#32) = 1#1
    rw [BitVec.sle_eq_decide, toInt_small k hk]
    have : (999#32 : BitVec 32).toInt = 999 := by decide
    rw [this, decide_eq_true (by omega)]; rfl
  rw [h0, h9]
  rfl

def rowsDims (B : Nat) (wf : GatherDims.WF ⟨2, ![1000, 4]⟩ ⟨2, ![B, 1]⟩ ⟨2, ![B, 4]⟩ [1] [0] [] [0] [] 1 ![1, 4]) :
    GatherDims ⟨2, ![1000, 4]⟩ ⟨2, ![B, 1]⟩ ⟨2, ![B, 4]⟩ where
  offsetDims := [1]
  collapsedSliceDims := [0]
  operandBatchingDims := []
  startIndicesBatchingDims := []
  startIndexMap := [0]
  indexVectorDim := 1
  sliceSizes := ![1, 4]
  wf := wf

def onesDims (B : Nat) (wf : GatherDims.WF ⟨1, ![1000]⟩ ⟨2, ![B, 1]⟩ ⟨1, ![B]⟩ [] [0] [] [0] [] 1 ![1]) :
    GatherDims ⟨1, ![1000]⟩ ⟨2, ![B, 1]⟩ ⟨1, ![B]⟩ where
  offsetDims := []
  collapsedSliceDims := [0]
  operandBatchingDims := []
  startIndicesBatchingDims := []
  startIndexMap := [0]
  indexVectorDim := 1
  sliceSizes := ![1]
  wf := wf

theorem ones_apply {α : Type} (wf : GatherDims.WF ⟨1, ![1000]⟩ ⟨2, ![B, 1]⟩ ⟨1, ![B]⟩ [] [0] [] [0] [] 1 ![1]) (x : (⟨1, ![1000]⟩ : Shape).Idx → α) (I : IVec ⟨2, ![B, 1]⟩ 32) (j : Fin B) (k : Nat)
    (hk : k < 1000) (e : I (ix2 j 0) = BitVec.ofNat 32 k) :
    Host.gather (onesDims B wf) x I (ix1 j) = x (ix1 ⟨k, hk⟩) := by
  unfold Host.gather
  congr 1
  funext a
  obtain rfl : a = 0 := Subsingleton.elim _ _
  refine Fin.ext ?_
  show (onesDims B wf).start (ix1 j) I 0 + (onesDims B wf).batchCoord (ix1 j) 0 + (onesDims B wf).offCoord (ix1 j) 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ (onesDims B wf).startIndexMap from List.mem_singleton.mpr rfl)]
  have hsi : (onesDims B wf).siIdx (ix1 j) ⟨List.idxOf (0 : Fin 1) (onesDims B wf).startIndexMap,
      List.idxOf_lt_length_iff.2 (List.mem_singleton.mpr rfl)⟩ = ix2 j 0 := by
    funext b; refine Fin.ext ?_
    match b with
    | ⟨0, _⟩ => rfl
    | ⟨1, _⟩ => rfl
  rw [hsi, e, toInt_small k hk]
  show min k (1000 - 1) + 0 + 0 = k
  omega

theorem rows_apply {α : Type} (wf : GatherDims.WF ⟨2, ![1000, 4]⟩ ⟨2, ![B, 1]⟩ ⟨2, ![B, 4]⟩ [1] [0] [] [0] [] 1 ![1, 4]) (x : (⟨2, ![1000, 4]⟩ : Shape).Idx → α) (I : IVec ⟨2, ![B, 1]⟩ 32) (j : Fin B) (q : Fin 4)
    (k : Nat) (hk : k < 1000) (e : I (ix2 j 0) = BitVec.ofNat 32 k) :
    Host.gather (rowsDims B wf) x I (ix2 j q) = x (ix2 ⟨k, hk⟩ q) := by
  unfold Host.gather
  congr 1
  funext a
  refine Fin.ext ?_
  show (rowsDims B wf).start (ix2 j q) I a + (rowsDims B wf).batchCoord (ix2 j q) a + (rowsDims B wf).offCoord (ix2 j q) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    have hsi : (rowsDims B wf).siIdx (ix2 j q) ⟨List.idxOf (0 : Fin 2) (rowsDims B wf).startIndexMap,
        List.idxOf_lt_length_iff.2 (List.mem_singleton.mpr rfl)⟩ = ix2 j 0 := by
      funext b; refine Fin.ext ?_
      match b with
      | ⟨0, _⟩ => rfl
      | ⟨1, _⟩ => rfl
    have hs : (rowsDims B wf).start (ix2 j q) I (0 : Fin 2) = min (I (ix2 j 0)).toInt.toNat (1000 - 1) := by
      unfold GatherDims.start
      refine (dif_pos (List.mem_singleton.mpr rfl)).trans ?_
      rw [hsi]
      rfl
    refine (congrArg (· + 0 + 0) hs).trans ?_
    rw [e, toInt_small k hk]
    show min k (1000 - 1) + 0 + 0 = k
    omega
  | ⟨1, h1⟩ =>
    have hn : (⟨1, h1⟩ : Fin 2) ∉ ([0] : List (Fin 2)) := by
      intro h; exact absurd (congrArg Fin.val (List.mem_singleton.mp h)) Nat.one_ne_zero
    have hs : (rowsDims B wf).start (ix2 j q) I ⟨1, h1⟩ = 0 := by
      unfold GatherDims.start
      exact dif_neg hn
    have ho : (rowsDims B wf).offCoord (ix2 j q) ⟨1, h1⟩ = q.val := by
      unfold GatherDims.offCoord
      rw [dif_pos ((GatherDims.mem_sKept (rowsDims B wf) ⟨1, h1⟩).mpr ⟨hn, List.not_mem_nil⟩)]
      rfl
    rw [hs, ho]
    show 0 + 0 + q.val = q.val
    omega

/-- Rows of four picked by an index vector, `z` the filler. -/
def takeRows {α : Type} (h : S_.BroadcastsInDim ⟨1, ![B]⟩ ![]) (h1 : (⟨1, ![B]⟩ : Shape).BroadcastsInDim ⟨2, ![B, 1]⟩ ![0])
    (h' : S_.BroadcastsInDim ⟨2, ![B, 1]⟩ ![]) (ha : S1.BroadcastsInDim S1x1 ![1])
    (hb : S1x1.BroadcastsInDim ⟨2, ![B, 1]⟩ ![0, 1]) (hr : (⟨2, ![B, 1]⟩ : Shape).ReducesTo [1] ⟨1, ![B]⟩)
    (hu : 0 < S_.numel)
    (h2 : (⟨1, ![B]⟩ : Shape).BroadcastsInDim ⟨2, ![B, 4]⟩ ![0])
    (h3 : S_.BroadcastsInDim ⟨2, ![B, 4]⟩ ![])
    (wf : GatherDims.WF ⟨2, ![1000, 4]⟩ ⟨2, ![B, 1]⟩ ⟨2, ![B, 4]⟩ [1] [0] [] [0] [] 1 ![1, 4])
    (z : α) (x : (⟨2, ![1000, 4]⟩ : Shape).Idx → α) (idx : IVec ⟨1, ![B]⟩ 32) : (⟨2, ![B, 4]⟩ : Shape).Idx → α :=
  select (broadcastInDim ⟨2, ![B, 4]⟩ ![0] h2 (inside h' ha hb hr hu (column h h1 idx)))
    (Host.gather (rowsDims B wf) x (column h h1 idx))
    (broadcastInDim ⟨2, ![B, 4]⟩ ![] h3 (fun _ : S_.Idx => z))

/-- Single entries picked by an index vector, `z` the filler. -/
def takeOnes {α : Type} (h : S_.BroadcastsInDim ⟨1, ![B]⟩ ![]) (h1 : (⟨1, ![B]⟩ : Shape).BroadcastsInDim ⟨2, ![B, 1]⟩ ![0])
    (h' : S_.BroadcastsInDim ⟨2, ![B, 1]⟩ ![]) (ha : S1.BroadcastsInDim S1x1 ![1])
    (hb : S1x1.BroadcastsInDim ⟨2, ![B, 1]⟩ ![0, 1]) (hr : (⟨2, ![B, 1]⟩ : Shape).ReducesTo [1] ⟨1, ![B]⟩)
    (hu : 0 < S_.numel)
    (wf : GatherDims.WF ⟨1, ![1000]⟩ ⟨2, ![B, 1]⟩ ⟨1, ![B]⟩ [] [0] [] [0] [] 1 ![1])
    (z : α) (x : (⟨1, ![1000]⟩ : Shape).Idx → α) (idx : IVec ⟨1, ![B]⟩ 32) : (⟨1, ![B]⟩ : Shape).Idx → α :=
  select (inside h' ha hb hr hu (column h h1 idx)) (Host.gather (onesDims B wf) x (column h h1 idx))
    (broadcastInDim ⟨1, ![B]⟩ ![] h (fun _ : S_.Idx => z))

theorem takeRows_apply {α : Type} (h : S_.BroadcastsInDim ⟨1, ![B]⟩ ![]) (h1 : (⟨1, ![B]⟩ : Shape).BroadcastsInDim ⟨2, ![B, 1]⟩ ![0])
    (h' : S_.BroadcastsInDim ⟨2, ![B, 1]⟩ ![]) (ha : S1.BroadcastsInDim S1x1 ![1])
    (hb : S1x1.BroadcastsInDim ⟨2, ![B, 1]⟩ ![0, 1]) (hr : (⟨2, ![B, 1]⟩ : Shape).ReducesTo [1] ⟨1, ![B]⟩)
    (hu : 0 < S_.numel)
    (h2 : (⟨1, ![B]⟩ : Shape).BroadcastsInDim ⟨2, ![B, 4]⟩ ![0])
    (h3 : S_.BroadcastsInDim ⟨2, ![B, 4]⟩ ![])
    (wf : GatherDims.WF ⟨2, ![1000, 4]⟩ ⟨2, ![B, 1]⟩ ⟨2, ![B, 4]⟩ [1] [0] [] [0] [] 1 ![1, 4])
    (z : α) (x : (⟨2, ![1000, 4]⟩ : Shape).Idx → α) (idx : IVec ⟨1, ![B]⟩ 32) (j : Fin B) (q : Fin 4) (k : Fin 1000)
    (e : idx (ix1 j) = BitVec.ofNat 32 k.val) :
    takeRows h h1 h' ha hb hr hu h2 h3 wf z x idx (ix2 j q) = x (ix2 k q) := by
  have ec := column_apply h h1 idx j k.val k.isLt e
  unfold takeRows
  rw [select_apply, spread h2,
    inside_apply h' ha hb hr hu _ j k.val k.isLt ec, select_one, rows_apply wf x _ j q k.val k.isLt ec]

theorem takeOnes_apply {α : Type} (h : S_.BroadcastsInDim ⟨1, ![B]⟩ ![]) (h1 : (⟨1, ![B]⟩ : Shape).BroadcastsInDim ⟨2, ![B, 1]⟩ ![0])
    (h' : S_.BroadcastsInDim ⟨2, ![B, 1]⟩ ![]) (ha : S1.BroadcastsInDim S1x1 ![1])
    (hb : S1x1.BroadcastsInDim ⟨2, ![B, 1]⟩ ![0, 1]) (hr : (⟨2, ![B, 1]⟩ : Shape).ReducesTo [1] ⟨1, ![B]⟩)
    (hu : 0 < S_.numel)
    (wf : GatherDims.WF ⟨1, ![1000]⟩ ⟨2, ![B, 1]⟩ ⟨1, ![B]⟩ [] [0] [] [0] [] 1 ![1])
    (z : α) (x : (⟨1, ![1000]⟩ : Shape).Idx → α)
    (idx : IVec ⟨1, ![B]⟩ 32) (j : Fin B) (k : Fin 1000) (e : idx (ix1 j) = BitVec.ofNat 32 k.val) :
    takeOnes h h1 h' ha hb hr hu wf z x idx (ix1 j) = x (ix1 k) := by
  have ec := column_apply h h1 idx j k.val k.isLt e
  unfold takeOnes
  rw [select_apply, inside_apply h' ha hb hr hu _ j k.val k.isLt ec, select_one, ones_apply wf x _ j k.val k.isLt ec]

end

end Cert.Proof.Nms

end
-- ==== Proof.Nms.Layout.lean ====
/-
  Where the flattened arrays keep the entries of the network's outputs, in both programs: the class scores, the box
  distances and the centerness, one row per pixel.
-/
module

public import proofs.«01_k».proof.Proof.Nms.Take

@[expose] public section

set_option maxRecDepth 1860

noncomputable section

namespace Cert.Proof.Nms

open Cert.KernelIdeal Cert.KernelIdeal.Gen

open Idealize.ShloMosaic hiding ix1 ix2 ix3 ix4 ix5 eq_ix1 eq_ix2 eq_ix3 eq_ix4
open Idealize.ShloMosaic.ValueIdx
open Idealize.ShloMosaic.TcCoe

/-- The row and the column of a pixel. -/
def pixRow (t : Fin 20000) : Fin 100 := ⟨t.val / 200, by have := t.isLt; omega⟩
def pixCol (t : Fin 20000) : Fin 200 := ⟨t.val % 200, by omega⟩

section
variable {C : Nat} {α : Type} (x : (⟨5, ![1, 1, C, 100, 200]⟩ : Shape).Idx → α)

theorem kernel_layout (h1 : (⟨5, ![1, 1, C, 100, 200]⟩ : Shape).ShapeCasts ⟨3, ![C, 100, 200]⟩)
    (h2 : (⟨3, ![C, 100, 200]⟩ : Shape).ShapeCasts ⟨2, ![C, 20000]⟩)
    (h3 : (⟨2, ![C, 20000]⟩ : Shape).Transposes [1, 0] ⟨2, ![20000, C]⟩) (t : Fin 20000) (q : Fin C) :
    transpose ⟨2, ![20000, C]⟩ [1, 0] (shapeCast ⟨2, ![C, 20000]⟩ (shapeCast ⟨3, ![C, 100, 200]⟩ x h1) h2) h3 (ix2 t q)
      = x (ix5 (0 : Fin 1) (0 : Fin 1) q (pixRow t) (pixCol t)) := by
  refine (transpose_apply _ _ h3 (ix2 t q) (ix2 q t) (fun b => by
    match b with
    | ⟨0, _⟩ => rfl
    | ⟨1, _⟩ => rfl)).trans ?_
  refine (shapeCast_apply _ h2 (ix2 q t) (ix3 q (pixRow t) (pixCol t)) (by
    rw [Shape.rowMajor_val_three, Shape.rowMajor_val_two]
    show (q.val * 100 + t.val / 200) * 200 + t.val % 200 = q.val * 20000 + t.val
    omega)).trans ?_
  refine shapeCast_apply _ h1 _ _ (by
    rw [Shape.rowMajor_val_five, Shape.rowMajor_val_three]
    show (((0 * 1 + 0) * C + q.val) * 100 + t.val / 200) * 200 + t.val % 200 = (q.val * 100 + t.val / 200) * 200 + t.val % 200
    omega)

theorem reference_layout (h1 : (⟨5, ![1, 1, C, 100, 200]⟩ : Shape).ShapeCasts ⟨4, ![1, C, 100, 200]⟩)
    (h2 : (⟨4, ![1, C, 100, 200]⟩ : Shape).Transposes [0, 2, 3, 1] ⟨4, ![1, 100, 200, C]⟩)
    (h3 : (⟨4, ![1, 100, 200, C]⟩ : Shape).ShapeCasts ⟨3, ![1, 20000, C]⟩) (t : Fin 20000) (q : Fin C) :
    shapeCast ⟨3, ![1, 20000, C]⟩ (transpose ⟨4, ![1, 100, 200, C]⟩ [0, 2, 3, 1] (shapeCast ⟨4, ![1, C, 100, 200]⟩ x h1) h2) h3 (ix3 (0 : Fin 1) t q)
      = x (ix5 (0 : Fin 1) (0 : Fin 1) q (pixRow t) (pixCol t)) := by
  refine (shapeCast_apply _ h3 (ix3 (0 : Fin 1) t q) (ix4 (0 : Fin 1) (pixRow t) (pixCol t) q) (by
    rw [Shape.rowMajor_val_four, Shape.rowMajor_val_three]
    show ((0 * 100 + t.val / 200) * 200 + t.val % 200) * C + q.val = (0 * 20000 + t.val) * C + q.val
    rw [show (0 * 100 + t.val / 200) * 200 + t.val % 200 = 0 * 20000 + t.val by omega])).trans ?_
  refine (transpose_apply _ _ h2 _ (ix4 (0 : Fin 1) q (pixRow t) (pixCol t)) (fun b => by
    match b with
    | ⟨0, _⟩ => rfl
    | ⟨1, _⟩ => rfl
    | ⟨2, _⟩ => rfl
    | ⟨3, _⟩ => rfl)).trans ?_
  refine shapeCast_apply _ h1 _ _ (by
    rw [Shape.rowMajor_val_five, Shape.rowMajor_val_four]
    show (((0 * 1 + 0) * C + q.val) * 100 + t.val / 200) * 200 + t.val % 200 = ((0 * C + q.val) * 100 + t.val / 200) * 200 + t.val % 200
    rfl)

end

section
variable {α : Type} (x : (⟨5, ![1, 1, 1, 100, 200]⟩ : Shape).Idx → α)

theorem kernel_column (h1 : (⟨5, ![1, 1, 1, 100, 200]⟩ : Shape).ShapeCasts ⟨2, ![100, 200]⟩)
    (h2 : (⟨2, ![100, 200]⟩ : Shape).ShapeCasts ⟨2, ![20000, 1]⟩) (t : Fin 20000) :
    shapeCast ⟨2, ![20000, 1]⟩ (shapeCast ⟨2, ![100, 200]⟩ x h1) h2 (ix2 t (0 : Fin 1))
      = x (ix5 (0 : Fin 1) (0 : Fin 1) (0 : Fin 1) (pixRow t) (pixCol t)) := by
  refine (shapeCast_apply _ h2 (ix2 t (0 : Fin 1)) (ix2 (pixRow t) (pixCol t)) (by
    rw [Shape.rowMajor_val_two, Shape.rowMajor_val_two]
    show (t.val / 200) * 200 + t.val % 200 = t.val * 1 + 0
    omega)).trans ?_
  refine shapeCast_apply _ h1 _ _ (by
    rw [Shape.rowMajor_val_five, Shape.rowMajor_val_two]
    show (((0 * 1 + 0) * 1 + 0) * 100 + t.val / 200) * 200 + t.val % 200 = (t.val / 200) * 200 + t.val % 200
    omega)

theorem reference_column (h1 : (⟨5, ![1, 1, 1, 100, 200]⟩ : Shape).ShapeCasts ⟨4, ![1, 1, 100, 200]⟩)
    (h2 : (⟨4, ![1, 1, 100, 200]⟩ : Shape).Transposes [0, 2, 3, 1] ⟨4, ![1, 100, 200, 1]⟩)
    (h3 : (⟨4, ![1, 100, 200, 1]⟩ : Shape).ShapeCasts ⟨2, ![1, 20000]⟩) (t : Fin 20000) :
    shapeCast ⟨2, ![1, 20000]⟩ (transpose ⟨4, ![1, 100, 200, 1]⟩ [0, 2, 3, 1] (shapeCast ⟨4, ![1, 1, 100, 200]⟩ x h1) h2) h3 (ix2 (0 : Fin 1) t)
      = x (ix5 (0 : Fin 1) (0 : Fin 1) (0 : Fin 1) (pixRow t) (pixCol t)) := by
  refine (shapeCast_apply _ h3 (ix2 (0 : Fin 1) t) (ix4 (0 : Fin 1) (pixRow t) (pixCol t) (0 : Fin 1)) (by
    rw [Shape.rowMajor_val_four, Shape.rowMajor_val_two]
    show ((0 * 100 + t.val / 200) * 200 + t.val % 200) * 1 + 0 = 0 * 20000 + t.val
    omega)).trans ?_
  refine (transpose_apply _ _ h2 _ (ix4 (0 : Fin 1) (0 : Fin 1) (pixRow t) (pixCol t)) (fun b => by
    match b with
    | ⟨0, _⟩ => rfl
    | ⟨1, _⟩ => rfl
    | ⟨2, _⟩ => rfl
    | ⟨3, _⟩ => rfl)).trans ?_
  refine shapeCast_apply _ h1 _ _ (by
    rw [Shape.rowMajor_val_five, Shape.rowMajor_val_four]
    show (((0 * 1 + 0) * 1 + 0) * 100 + t.val / 200) * 200 + t.val % 200 = ((0 * 1 + 0) * 100 + t.val / 200) * 200 + t.val % 200
    rfl)

end

/-- Dropping a leading axis of extent one. -/
theorem dropLead {n C : Nat} {α : Type} (x : (⟨3, ![1, n, C]⟩ : Shape).Idx → α) (h : (⟨3, ![1, n, C]⟩ : Shape).ShapeCasts ⟨2, ![n, C]⟩)
    (t : Fin n) (q : Fin C) : shapeCast ⟨2, ![n, C]⟩ x h (ix2 t q) = x (ix3 (0 : Fin 1) t q) :=
  shapeCast_apply _ h _ _ (by
    rw [Shape.rowMajor_val_three, Shape.rowMajor_val_two]
    show (0 * n + t.val) * C + q.val = t.val * C + q.val
    rw [Nat.zero_mul, Nat.zero_add])

theorem foldl_cast {n n' : Nat} (e : n' = n) {α : Type} (f : α → α → α) (g : Fin n → α) (z : α) :
    (List.finRange n').foldl (fun r k => f r (g (k.cast e))) z = (List.finRange n).foldl (fun r k => f r (g k)) z := by
  subst e; rfl

/-- A fold over every entry does not see a change of shape. -/
theorem reduce_all_cast {s s' t u : Shape} {axes axes'} {α : Type} (f : α → α → α) (x : s.Idx → α) (hc : s.ShapeCasts s')
    (init : u.Idx → α) (h : s.ReducesTo axes t) (h' : s'.ReducesTo axes' t) (hu : 0 < u.numel) (j : t.Idx) (hone : ∀ i : t.Idx, i = j) :
    Host.reduce f (shapeCast s' x hc) init h' hu j = Host.reduce f x init h hu j := by
  rw [Host.reduce_eq_foldl, Host.reduce_eq_foldl]
  rw [List.filter_eq_self.mpr (fun i _ => decide_eq_true (hone _)), List.filter_eq_self.mpr (fun i _ => decide_eq_true (hone _))]
  rw [List.foldl_map, List.foldl_map]
  refine Eq.trans ?_ (foldl_cast hc f (fun k => x (s.rowMajor.symm k)) _)
  congr 1
  funext r k
  show f r (x (s.rowMajor.symm (finCongr hc (s'.rowMajor (s'.rowMajor.symm k))))) = _
  rw [Equiv.apply_symm_apply]
  rfl

/-! ## The scores and the count of candidates -/

/-- The class scores, one row per pixel. -/
def classes (a1 : FVec Ideal S1x1x80x100x200 .f32) : FVec Ideal S20000x80 .f32 :=
  transpose S20000x80 [1, 0] (shapeCast S80x20000 (shapeCast S80x100x200 a1 shapeCasts_S1x1x80x100x200_S80x100x200) shapeCasts_S80x100x200_S80x20000)
    transposes_S80x20000_S20000x80_1_0

/-- The centerness, one row per pixel. -/
def centers (a3 : FVec Ideal S1x1x1x100x200 .f32) : FVec Ideal S20000x1 .f32 :=
  shapeCast S20000x1 (shapeCast S100x200 a3 shapeCasts_S1x1x1x100x200_S100x200) shapeCasts_S100x200_S20000x1

end Cert.Proof.Nms

end
-- ==== Proof.Nms.Up.lean ====
/-
  The contents of the kernel program's buffers when the second region is entered: a buffer that no later stretch writes
  holds then what it held after any earlier stretch.
-/
module

public import proofs.«01_k».proof.Proof.Nms.Run

@[expose] public section

set_option maxRecDepth 1860

noncomputable section

namespace Cert.Proof.Nms

open Cert.KernelIdeal Cert.KernelIdeal.Gen

open Idealize.ShloMosaic hiding ix1 ix2 ix3 ix4 eq_ix1 eq_ix2 eq_ix3 eq_ix4
open Idealize.ShloMosaic.ValueIdx
open Idealize.ShloMosaic.TcCoe

variable (m : (ℓ : Loc nD τ sig) → Buf (Elt Ideal) ℓ) (c : Dev nD)

/-- The buffers at the second region's entry. -/
abbrev kv (r : Ref sig .tc) := V31 m (outs1 m) c (Proc.devRef .tc r)

/-! `laterk`: the references written after the `k`-th stretch. -/
abbrev later30 : List (Ref sig .tc) := hostOps1_28_W
abbrev later29 : List (Ref sig .tc) := hostOps1_27_W ++ later30
abbrev later28 : List (Ref sig .tc) := hostOps1_26_W ++ later29
abbrev later27 : List (Ref sig .tc) := hostOps1_25_W ++ later28
abbrev later26 : List (Ref sig .tc) := hostOps1_24_W ++ later27
abbrev later25 : List (Ref sig .tc) := hostOps1_23_W ++ later26
abbrev later24 : List (Ref sig .tc) := hostOps1_22_W ++ later25
abbrev later23 : List (Ref sig .tc) := hostOps1_21_W ++ later24
abbrev later22 : List (Ref sig .tc) := hostOps1_20_W ++ later23
abbrev later21 : List (Ref sig .tc) := hostOps1_19_W ++ later22
abbrev later20 : List (Ref sig .tc) := hostOps1_18_W ++ later21
abbrev later19 : List (Ref sig .tc) := hostOps1_17_W ++ later20
abbrev later18 : List (Ref sig .tc) := hostOps1_16_W ++ later19
abbrev later17 : List (Ref sig .tc) := hostOps1_15_W ++ later18
abbrev later16 : List (Ref sig .tc) := hostOps1_14_W ++ later17
abbrev later15 : List (Ref sig .tc) := hostOps1_13_W ++ later16
abbrev later14 : List (Ref sig .tc) := hostOps1_12_W ++ later15
abbrev later13 : List (Ref sig .tc) := hostOps1_11_W ++ later14
abbrev later12 : List (Ref sig .tc) := hostOps1_10_W ++ later13
abbrev later11 : List (Ref sig .tc) := hostOps1_9_W ++ later12
abbrev later10 : List (Ref sig .tc) := hostOps1_8_W ++ later11
abbrev later9 : List (Ref sig .tc) := hostOps1_7_W ++ later10
abbrev later8 : List (Ref sig .tc) := hostOps1_6_W ++ later9
abbrev later7 : List (Ref sig .tc) := hostOps1_5_W ++ later8
abbrev later6 : List (Ref sig .tc) := hostOps1_4_W ++ later7
abbrev later5 : List (Ref sig .tc) := hostOps1_3_W ++ later6
abbrev later4 : List (Ref sig .tc) := hostOps1_2_W ++ later5
abbrev later3 : List (Ref sig .tc) := hostOps1_1_W ++ later4
abbrev later2 : List (Ref sig .tc) := hostOps1_W ++ later3
abbrev later1 : List (Ref sig .tc) := ([main_v9] : List (Ref sig .tc)) ++ later2
abbrev later0 : List (Ref sig .tc) := hostOps0_W ++ later1

theorem up30 (r : Ref sig .tc) (h : r ∉ later30) : V30 m (outs1 m) c (Proc.devRef .tc r) = kv m c r := (V31_of m (outs1 m) c r h).symm
theorem up29 (r : Ref sig .tc) (h : r ∉ later29) : V29 m (outs1 m) c (Proc.devRef .tc r) = kv m c r := (V30_of m (outs1 m) c r (fun e => h (List.mem_append_left _ e))).symm.trans (up30 m c r (fun e => h (List.mem_append_right _ e)))
theorem up28 (r : Ref sig .tc) (h : r ∉ later28) : V28 m (outs1 m) c (Proc.devRef .tc r) = kv m c r := (V29_of m (outs1 m) c r (fun e => h (List.mem_append_left _ e))).symm.trans (up29 m c r (fun e => h (List.mem_append_right _ e)))
theorem up27 (r : Ref sig .tc) (h : r ∉ later27) : V27 m (outs1 m) c (Proc.devRef .tc r) = kv m c r := (V28_of m (outs1 m) c r (fun e => h (List.mem_append_left _ e))).symm.trans (up28 m c r (fun e => h (List.mem_append_right _ e)))
theorem up26 (r : Ref sig .tc) (h : r ∉ later26) : V26 m (outs1 m) c (Proc.devRef .tc r) = kv m c r := (V27_of m (outs1 m) c r (fun e => h (List.mem_append_left _ e))).symm.trans (up27 m c r (fun e => h (List.mem_append_right _ e)))
theorem up25 (r : Ref sig .tc) (h : r ∉ later25) : V25 m (outs1 m) c (Proc.devRef .tc r) = kv m c r := (V26_of m (outs1 m) c r (fun e => h (List.mem_append_left _ e))).symm.trans (up26 m c r (fun e => h (List.mem_append_right _ e)))
theorem up24 (r : Ref sig .tc) (h : r ∉ later24) : V24 m (outs1 m) c (Proc.devRef .tc r) = kv m c r := (V25_of m (outs1 m) c r (fun e => h (List.mem_append_left _ e))).symm.trans (up25 m c r (fun e => h (List.mem_append_right _ e)))
theorem up23 (r : Ref sig .tc) (h : r ∉ later23) : V23 m (outs1 m) c (Proc.devRef .tc r) = kv m c r := (V24_of m (outs1 m) c r (fun e => h (List.mem_append_left _ e))).symm.trans (up24 m c r (fun e => h (List.mem_append_right _ e)))
theorem up22 (r : Ref sig .tc) (h : r ∉ later22) : V22 m (outs1 m) c (Proc.devRef .tc r) = kv m c r := (V23_of m (outs1 m) c r (fun e => h (List.mem_append_left _ e))).symm.trans (up23 m c r (fun e => h (List.mem_append_right _ e)))
theorem up21 (r : Ref sig .tc) (h : r ∉ later21) : V21 m (outs1 m) c (Proc.devRef .tc r) = kv m c r := (V22_of m (outs1 m) c r (fun e => h (List.mem_append_left _ e))).symm.trans (up22 m c r (fun e => h (List.mem_append_right _ e)))
theorem up20 (r : Ref sig .tc) (h : r ∉ later20) : V20 m (outs1 m) c (Proc.devRef .tc r) = kv m c r := (V21_of m (outs1 m) c r (fun e => h (List.mem_append_left _ e))).symm.trans (up21 m c r (fun e => h (List.mem_append_right _ e)))
theorem up19 (r : Ref sig .tc) (h : r ∉ later19) : V19 m (outs1 m) c (Proc.devRef .tc r) = kv m c r := (V20_of m (outs1 m) c r (fun e => h (List.mem_append_left _ e))).symm.trans (up20 m c r (fun e => h (List.mem_append_right _ e)))
theorem up18 (r : Ref sig .tc) (h : r ∉ later18) : V18 m (outs1 m) c (Proc.devRef .tc r) = kv m c r := (V19_of m (outs1 m) c r (fun e => h (List.mem_append_left _ e))).symm.trans (up19 m c r (fun e => h (List.mem_append_right _ e)))
theorem up17 (r : Ref sig .tc) (h : r ∉ later17) : V17 m (outs1 m) c (Proc.devRef .tc r) = kv m c r := (V18_of m (outs1 m) c r (fun e => h (List.mem_append_left _ e))).symm.trans (up18 m c r (fun e => h (List.mem_append_right _ e)))
theorem up16 (r : Ref sig .tc) (h : r ∉ later16) : V16 m (outs1 m) c (Proc.devRef .tc r) = kv m c r := (V17_of m (outs1 m) c r (fun e => h (List.mem_append_left _ e))).symm.trans (up17 m c r (fun e => h (List.mem_append_right _ e)))
theorem up15 (r : Ref sig .tc) (h : r ∉ later15) : V15 m (outs1 m) c (Proc.devRef .tc r) = kv m c r := (V16_of m (outs1 m) c r (fun e => h (List.mem_append_left _ e))).symm.trans (up16 m c r (fun e => h (List.mem_append_right _ e)))
theorem up14 (r : Ref sig .tc) (h : r ∉ later14) : V14 m (outs1 m) c (Proc.devRef .tc r) = kv m c r := (V15_of m (outs1 m) c r (fun e => h (List.mem_append_left _ e))).symm.trans (up15 m c r (fun e => h (List.mem_append_right _ e)))
theorem up13 (r : Ref sig .tc) (h : r ∉ later13) : V13 m (outs1 m) c (Proc.devRef .tc r) = kv m c r := (V14_of m (outs1 m) c r (fun e => h (List.mem_append_left _ e))).symm.trans (up14 m c r (fun e => h (List.mem_append_right _ e)))
theorem up12 (r : Ref sig .tc) (h : r ∉ later12) : V12 m (outs1 m) c (Proc.devRef .tc r) = kv m c r := (V13_of m (outs1 m) c r (fun e => h (List.mem_append_left _ e))).symm.trans (up13 m c r (fun e => h (List.mem_append_right _ e)))
theorem up11 (r : Ref sig .tc) (h : r ∉ later11) : V11 m (outs1 m) c (Proc.devRef .tc r) = kv m c r := (V12_of m (outs1 m) c r (fun e => h (List.mem_append_left _ e))).symm.trans (up12 m c r (fun e => h (List.mem_append_right _ e)))
theorem up10 (r : Ref sig .tc) (h : r ∉ later10) : V10 m (outs1 m) c (Proc.devRef .tc r) = kv m c r := (V11_of m (outs1 m) c r (fun e => h (List.mem_append_left _ e))).symm.trans (up11 m c r (fun e => h (List.mem_append_right _ e)))
theorem up9 (r : Ref sig .tc) (h : r ∉ later9) : V9 m (outs1 m) c (Proc.devRef .tc r) = kv m c r := (V10_of m (outs1 m) c r (fun e => h (List.mem_append_left _ e))).symm.trans (up10 m c r (fun e => h (List.mem_append_right _ e)))
theorem up8 (r : Ref sig .tc) (h : r ∉ later8) : V8 m (outs1 m) c (Proc.devRef .tc r) = kv m c r := (V9_of m (outs1 m) c r (fun e => h (List.mem_append_left _ e))).symm.trans (up9 m c r (fun e => h (List.mem_append_right _ e)))
theorem up7 (r : Ref sig .tc) (h : r ∉ later7) : V7 m (outs1 m) c (Proc.devRef .tc r) = kv m c r := (V8_of m (outs1 m) c r (fun e => h (List.mem_append_left _ e))).symm.trans (up8 m c r (fun e => h (List.mem_append_right _ e)))
theorem up6 (r : Ref sig .tc) (h : r ∉ later6) : V6 m (outs1 m) c (Proc.devRef .tc r) = kv m c r := (V7_of m (outs1 m) c r (fun e => h (List.mem_append_left _ e))).symm.trans (up7 m c r (fun e => h (List.mem_append_right _ e)))
theorem up5 (r : Ref sig .tc) (h : r ∉ later5) : V5 m (outs1 m) c (Proc.devRef .tc r) = kv m c r := (V6_of m (outs1 m) c r (fun e => h (List.mem_append_left _ e))).symm.trans (up6 m c r (fun e => h (List.mem_append_right _ e)))
theorem up4 (r : Ref sig .tc) (h : r ∉ later4) : V4 m (outs1 m) c (Proc.devRef .tc r) = kv m c r := (V5_of m (outs1 m) c r (fun e => h (List.mem_append_left _ e))).symm.trans (up5 m c r (fun e => h (List.mem_append_right _ e)))
theorem up3 (r : Ref sig .tc) (h : r ∉ later3) : V3 m (outs1 m) c (Proc.devRef .tc r) = kv m c r := (V4_of m (outs1 m) c r (fun e => h (List.mem_append_left _ e))).symm.trans (up4 m c r (fun e => h (List.mem_append_right _ e)))
theorem up2 (r : Ref sig .tc) (h : r ∉ later2) : V2 m (outs1 m) c (Proc.devRef .tc r) = kv m c r := (V3_of m (outs1 m) c r (fun e => h (List.mem_append_left _ e))).symm.trans (up3 m c r (fun e => h (List.mem_append_right _ e)))
theorem up1 (r : Ref sig .tc) (h : r ∉ later1) : V1 m c (Proc.devRef .tc r) = kv m c r := (V2_of m (outs1 m) c r (fun e => h (List.mem_append_left _ e))).symm.trans (up2 m c r (fun e => h (List.mem_append_right _ e)))
theorem up0 (r : Ref sig .tc) (h : r ∉ later0) : V0 m c (Proc.devRef .tc r) = kv m c r := (V1_of m c r (fun e => h (List.mem_append_left _ e))).symm.trans (up1 m c r (fun e => h (List.mem_append_right _ e)))

end Cert.Proof.Nms

end
-- ==== Proof.Nms.RefUp.lean ====
/-
  The contents of the reference program's buffers at its end: a buffer that nothing later writes holds then what it held
  after any earlier stretch.
-/
module

public import proofs.«01_k».proof.Proof.Nms.RefRun

@[expose] public section

set_option maxRecDepth 8192

noncomputable section

namespace Cert.Proof.Nms.Ref

open Cert.ReferenceIdeal Cert.ReferenceIdeal.Gen Cert.ReferenceIdeal.Value
open Idealize.ShloMosaic Idealize.ShloMosaic.TcCoe Idealize.SL.Sem

variable (m : (ℓ : Loc nD τ sig) → Buf (Elt Ideal) ℓ) (c : Dev nD)

/-- The buffers at the end. -/
abbrev rv (r : Ref sig .tc) := R32 m c (Proc.devRef .tc r)

/-! `laterk`: the references written after the `k`-th stretch. -/
abbrev later31 : List (Ref sig .tc) := hostOps0_30_W
abbrev later30 : List (Ref sig .tc) := hostOps0_29_W ++ later31
abbrev later29 : List (Ref sig .tc) := hostOps0_28_W ++ later30
abbrev later28 : List (Ref sig .tc) := hostOps0_27_W ++ later29
abbrev later27 : List (Ref sig .tc) := hostOps0_26_W ++ later28
abbrev later26 : List (Ref sig .tc) := hostOps0_25_W ++ later27
abbrev later25 : List (Ref sig .tc) := hostOps0_24_W ++ later26
abbrev later24 : List (Ref sig .tc) := hostOps0_23_W ++ later25
abbrev later23 : List (Ref sig .tc) := hostOps0_22_W ++ later24
abbrev later22 : List (Ref sig .tc) := loop_W ++ (condOps_W ++ later23)
abbrev later21 : List (Ref sig .tc) := hostOps0_21_W ++ later22
abbrev later20 : List (Ref sig .tc) := hostOps0_20_W ++ later21
abbrev later19 : List (Ref sig .tc) := hostOps0_19_W ++ later20
abbrev later18 : List (Ref sig .tc) := hostOps0_18_W ++ later19
abbrev later17 : List (Ref sig .tc) := hostOps0_17_W ++ later18
abbrev later16 : List (Ref sig .tc) := hostOps0_16_W ++ later17
abbrev later15 : List (Ref sig .tc) := hostOps0_15_W ++ later16
abbrev later14 : List (Ref sig .tc) := hostOps0_14_W ++ later15
abbrev later13 : List (Ref sig .tc) := hostOps0_13_W ++ later14
abbrev later12 : List (Ref sig .tc) := hostOps0_12_W ++ later13
abbrev later11 : List (Ref sig .tc) := hostOps0_11_W ++ later12
abbrev later10 : List (Ref sig .tc) := hostOps0_10_W ++ later11
abbrev later9 : List (Ref sig .tc) := hostOps0_9_W ++ later10
abbrev later8 : List (Ref sig .tc) := hostOps0_8_W ++ later9
abbrev later7 : List (Ref sig .tc) := hostOps0_7_W ++ later8
abbrev later6 : List (Ref sig .tc) := hostOps0_6_W ++ later7
abbrev later5 : List (Ref sig .tc) := hostOps0_5_W ++ later6
abbrev later4 : List (Ref sig .tc) := hostOps0_4_W ++ later5
abbrev later3 : List (Ref sig .tc) := hostOps0_3_W ++ later4
abbrev later2 : List (Ref sig .tc) := hostOps0_2_W ++ later3
abbrev later1 : List (Ref sig .tc) := hostOps0_1_W ++ later2
abbrev later0 : List (Ref sig .tc) := hostOps0_W ++ later1

theorem up31 (r : Ref sig .tc) (h : r ∉ later31) : R31 m c (Proc.devRef .tc r) = rv m c r := (R32_of m c r h).symm
theorem up30 (r : Ref sig .tc) (h : r ∉ later30) : R30 m c (Proc.devRef .tc r) = rv m c r := (R31_of m c r (fun e => h (List.mem_append_left _ e))).symm.trans (up31 m c r (fun e => h (List.mem_append_right _ e)))
theorem up29 (r : Ref sig .tc) (h : r ∉ later29) : R29 m c (Proc.devRef .tc r) = rv m c r := (R30_of m c r (fun e => h (List.mem_append_left _ e))).symm.trans (up30 m c r (fun e => h (List.mem_append_right _ e)))
theorem up28 (r : Ref sig .tc) (h : r ∉ later28) : R28 m c (Proc.devRef .tc r) = rv m c r := (R29_of m c r (fun e => h (List.mem_append_left _ e))).symm.trans (up29 m c r (fun e => h (List.mem_append_right _ e)))
theorem up27 (r : Ref sig .tc) (h : r ∉ later27) : R27 m c (Proc.devRef .tc r) = rv m c r := (R28_of m c r (fun e => h (List.mem_append_left _ e))).symm.trans (up28 m c r (fun e => h (List.mem_append_right _ e)))
theorem up26 (r : Ref sig .tc) (h : r ∉ later26) : R26 m c (Proc.devRef .tc r) = rv m c r := (R27_of m c r (fun e => h (List.mem_append_left _ e))).symm.trans (up27 m c r (fun e => h (List.mem_append_right _ e)))
theorem up25 (r : Ref sig .tc) (h : r ∉ later25) : R25 m c (Proc.devRef .tc r) = rv m c r := (R26_of m c r (fun e => h (List.mem_append_left _ e))).symm.trans (up26 m c r (fun e => h (List.mem_append_right _ e)))
theorem up24 (r : Ref sig .tc) (h : r ∉ later24) : R24 m c (Proc.devRef .tc r) = rv m c r := (R25_of m c r (fun e => h (List.mem_append_left _ e))).symm.trans (up25 m c r (fun e => h (List.mem_append_right _ e)))
theorem up23 (r : Ref sig .tc) (h : r ∉ later23) : R23 m c (Proc.devRef .tc r) = rv m c r := (R24_of m c r (fun e => h (List.mem_append_left _ e))).symm.trans (up24 m c r (fun e => h (List.mem_append_right _ e)))
theorem up22 (r : Ref sig .tc) (h : r ∉ later22) : R22 m c (Proc.devRef .tc r) = rv m c r := (R23_of m c r (fun e => h (List.mem_append_left _ e)) (fun e => h (List.mem_append_right _ (List.mem_append_left _ e)))).symm.trans (up23 m c r (fun e => h (List.mem_append_right _ (List.mem_append_right _ e))))
theorem up21 (r : Ref sig .tc) (h : r ∉ later21) : R21 m c (Proc.devRef .tc r) = rv m c r := (R22_of m c r (fun e => h (List.mem_append_left _ e))).symm.trans (up22 m c r (fun e => h (List.mem_append_right _ e)))
theorem up20 (r : Ref sig .tc) (h : r ∉ later20) : R20 m c (Proc.devRef .tc r) = rv m c r := (R21_of m c r (fun e => h (List.mem_append_left _ e))).symm.trans (up21 m c r (fun e => h (List.mem_append_right _ e)))
theorem up19 (r : Ref sig .tc) (h : r ∉ later19) : R19 m c (Proc.devRef .tc r) = rv m c r := (R20_of m c r (fun e => h (List.mem_append_left _ e))).symm.trans (up20 m c r (fun e => h (List.mem_append_right _ e)))
theorem up18 (r : Ref sig .tc) (h : r ∉ later18) : R18 m c (Proc.devRef .tc r) = rv m c r := (R19_of m c r (fun e => h (List.mem_append_left _ e))).symm.trans (up19 m c r (fun e => h (List.mem_append_right _ e)))
theorem up17 (r : Ref sig .tc) (h : r ∉ later17) : R17 m c (Proc.devRef .tc r) = rv m c r := (R18_of m c r (fun e => h (List.mem_append_left _ e))).symm.trans (up18 m c r (fun e => h (List.mem_append_right _ e)))
theorem up16 (r : Ref sig .tc) (h : r ∉ later16) : R16 m c (Proc.devRef .tc r) = rv m c r := (R17_of m c r (fun e => h (List.mem_append_left _ e))).symm.trans (up17 m c r (fun e => h (List.mem_append_right _ e)))
theorem up15 (r : Ref sig .tc) (h : r ∉ later15) : R15 m c (Proc.devRef .tc r) = rv m c r := (R16_of m c r (fun e => h (List.mem_append_left _ e))).symm.trans (up16 m c r (fun e => h (List.mem_append_right _ e)))
theorem up14 (r : Ref sig .tc) (h : r ∉ later14) : R14 m c (Proc.devRef .tc r) = rv m c r := (R15_of m c r (fun e => h (List.mem_append_left _ e))).symm.trans (up15 m c r (fun e => h (List.mem_append_right _ e)))
theorem up13 (r : Ref sig .tc) (h : r ∉ later13) : R13 m c (Proc.devRef .tc r) = rv m c r := (R14_of m c r (fun e => h (List.mem_append_left _ e))).symm.trans (up14 m c r (fun e => h (List.mem_append_right _ e)))
theorem up12 (r : Ref sig .tc) (h : r ∉ later12) : R12 m c (Proc.devRef .tc r) = rv m c r := (R13_of m c r (fun e => h (List.mem_append_left _ e))).symm.trans (up13 m c r (fun e => h (List.mem_append_right _ e)))
theorem up11 (r : Ref sig .tc) (h : r ∉ later11) : R11 m c (Proc.devRef .tc r) = rv m c r := (R12_of m c r (fun e => h (List.mem_append_left _ e))).symm.trans (up12 m c r (fun e => h (List.mem_append_right _ e)))
theorem up10 (r : Ref sig .tc) (h : r ∉ later10) : R10 m c (Proc.devRef .tc r) = rv m c r := (R11_of m c r (fun e => h (List.mem_append_left _ e))).symm.trans (up11 m c r (fun e => h (List.mem_append_right _ e)))
theorem up9 (r : Ref sig .tc) (h : r ∉ later9) : R9 m c (Proc.devRef .tc r) = rv m c r := (R10_of m c r (fun e => h (List.mem_append_left _ e))).symm.trans (up10 m c r (fun e => h (List.mem_append_right _ e)))
theorem up8 (r : Ref sig .tc) (h : r ∉ later8) : R8 m c (Proc.devRef .tc r) = rv m c r := (R9_of m c r (fun e => h (List.mem_append_left _ e))).symm.trans (up9 m c r (fun e => h (List.mem_append_right _ e)))
theorem up7 (r : Ref sig .tc) (h : r ∉ later7) : R7 m c (Proc.devRef .tc r) = rv m c r := (R8_of m c r (fun e => h (List.mem_append_left _ e))).symm.trans (up8 m c r (fun e => h (List.mem_append_right _ e)))
theorem up6 (r : Ref sig .tc) (h : r ∉ later6) : R6 m c (Proc.devRef .tc r) = rv m c r := (R7_of m c r (fun e => h (List.mem_append_left _ e))).symm.trans (up7 m c r (fun e => h (List.mem_append_right _ e)))
theorem up5 (r : Ref sig .tc) (h : r ∉ later5) : R5 m c (Proc.devRef .tc r) = rv m c r := (R6_of m c r (fun e => h (List.mem_append_left _ e))).symm.trans (up6 m c r (fun e => h (List.mem_append_right _ e)))
theorem up4 (r : Ref sig .tc) (h : r ∉ later4) : R4 m c (Proc.devRef .tc r) = rv m c r := (R5_of m c r (fun e => h (List.mem_append_left _ e))).symm.trans (up5 m c r (fun e => h (List.mem_append_right _ e)))
theorem up3 (r : Ref sig .tc) (h : r ∉ later3) : R3 m c (Proc.devRef .tc r) = rv m c r := (R4_of m c r (fun e => h (List.mem_append_left _ e))).symm.trans (up4 m c r (fun e => h (List.mem_append_right _ e)))
theorem up2 (r : Ref sig .tc) (h : r ∉ later2) : R2 m c (Proc.devRef .tc r) = rv m c r := (R3_of m c r (fun e => h (List.mem_append_left _ e))).symm.trans (up3 m c r (fun e => h (List.mem_append_right _ e)))
theorem up1 (r : Ref sig .tc) (h : r ∉ later1) : R1 m c (Proc.devRef .tc r) = rv m c r := (R2_of m c r (fun e => h (List.mem_append_left _ e))).symm.trans (up2 m c r (fun e => h (List.mem_append_right _ e)))
theorem up0 (r : Ref sig .tc) (h : r ∉ later0) : R0 m c (Proc.devRef .tc r) = rv m c r := (R1_of m c r (fun e => h (List.mem_append_left _ e))).symm.trans (up1 m c r (fun e => h (List.mem_append_right _ e)))

end Cert.Proof.Nms.Ref

end
-- ==== Proof.Nms.Stages.lean ====
/-
  The two programs' host stretches side by side, up to the order of the candidates: equal buffers before a stretch give
  equal buffers after it. The operations are the same ones in both programs, applied to buffers of other names.
-/
module

public import proofs.«01_k».proof.Proof.Nms.Up
public import proofs.«01_k».proof.Proof.Nms.RefUp
public import Idealize.ShloMosaic.Lib.StableHlo.RunRead
public import Idealize.ShloMosaic.Lib.StableHlo.RunClose

@[expose] public section

set_option maxRecDepth 8192

noncomputable section

namespace Cert.Proof.Nms

open Cert.KernelIdeal Cert.KernelIdeal.Gen

open Idealize.ShloMosaic hiding ix1 ix2 ix3 ix4 eq_ix1 eq_ix2 eq_ix3 eq_ix4
open Idealize.ShloMosaic.ValueIdx
open Idealize.ShloMosaic.TcCoe

open Idealize.ShloMosaic.StableHlo (after)

variable (V : Valuation Cert.KernelIdeal.τ Cert.KernelIdeal.sig (Elt Ideal))
  (R : Valuation Cert.ReferenceIdeal.τ Cert.ReferenceIdeal.sig (Elt Ideal))

theorem c80a :
    (after hostOps1 V (Proc.devRef .tc main_c_2) : IVec S_ 32) = after Cert.ReferenceIdeal.Gen.hostOps0_2 R (Proc.devRef .tc Cert.ReferenceIdeal.main_c_3) := by
  after_reads_simp

theorem div_eq
    (h0 : (V (Proc.devRef .tc main_indices) : IVec S1000 32) = R (Proc.devRef .tc Cert.ReferenceIdeal.main_indices))
    (h1 : (V (Proc.devRef .tc main_c_2) : IVec S_ 32) = R (Proc.devRef .tc Cert.ReferenceIdeal.main_c_3)) :
    (after hostOps1_1 V (Proc.devRef .tc main_v23) : IVec S1000 32) = after Cert.ReferenceIdeal.Gen.hostOps0_3 R (Proc.devRef .tc Cert.ReferenceIdeal.main_v31) := by
  after_reads_simp
  rw [h0, h1]

theorem c80b :
    (after hostOps1_2 V (Proc.devRef .tc main_c_3) : IVec S_ 32) = after Cert.ReferenceIdeal.Gen.hostOps0_4 R (Proc.devRef .tc Cert.ReferenceIdeal.main_c_4) := by
  after_reads_simp

theorem rem_eq
    (h0 : (V (Proc.devRef .tc main_indices) : IVec S1000 32) = R (Proc.devRef .tc Cert.ReferenceIdeal.main_indices))
    (h1 : (V (Proc.devRef .tc main_c_3) : IVec S_ 32) = R (Proc.devRef .tc Cert.ReferenceIdeal.main_c_4)) :
    (after hostOps1_3 V (Proc.devRef .tc main_v24) : IVec S1000 32) = after Cert.ReferenceIdeal.Gen.hostOps0_5 R (Proc.devRef .tc Cert.ReferenceIdeal.main_v32) := by
  after_reads_simp
  rw [h0, h1]

theorem lab_eq
    (h0 : (V (Proc.devRef .tc main_v24) : IVec S1000 32) = R (Proc.devRef .tc Cert.ReferenceIdeal.main_v32)) :
    (after hostOps1_4 V (Proc.devRef .tc main_v26) : IVec S1000 32) = after Cert.ReferenceIdeal.Gen.hostOps0_6 R (Proc.devRef .tc Cert.ReferenceIdeal.main_v34) := by
  after_reads_simp
  rw [h0]

theorem loc_eq
    (h0 : (V (Proc.devRef .tc main_v0) : FVec Ideal S20000x2 .f32) = R (Proc.devRef .tc Cert.ReferenceIdeal.main_v0))
    (h1 : (V (Proc.devRef .tc main_v23) : IVec S1000 32) = R (Proc.devRef .tc Cert.ReferenceIdeal.main_v31)) :
    (after hostOps1_5 V (Proc.devRef .tc main_v27) : FVec Ideal S1000x2 .f32) = after Cert.ReferenceIdeal.Gen.hostOps0_7 R (Proc.devRef .tc Cert.ReferenceIdeal.main_v35) := by
  after_reads_simp
  rw [h0, h1]
  rfl

theorem reg_eq
    (h0 : (V (Proc.devRef .tc main_v7) : FVec Ideal S20000x4 .f32) = R (Proc.devRef .tc Cert.ReferenceIdeal.main_v36))
    (h1 : (V (Proc.devRef .tc main_v23) : IVec S1000 32) = R (Proc.devRef .tc Cert.ReferenceIdeal.main_v31)) :
    (after hostOps1_6 V (Proc.devRef .tc main_v28) : FVec Ideal S1000x4 .f32) = after Cert.ReferenceIdeal.Gen.hostOps0_9 R (Proc.devRef .tc Cert.ReferenceIdeal.main_v37) := by
  after_reads_simp
  rw [h0, h1]
  rfl

theorem x1_eq
    (h0 : (V (Proc.devRef .tc main_v27) : FVec Ideal S1000x2 .f32) = R (Proc.devRef .tc Cert.ReferenceIdeal.main_v35))
    (h1 : (V (Proc.devRef .tc main_v28) : FVec Ideal S1000x4 .f32) = R (Proc.devRef .tc Cert.ReferenceIdeal.main_v37)) :
    (after hostOps1_7 V (Proc.devRef .tc main_v33) : FVec Ideal S1000 .f32) = after Cert.ReferenceIdeal.Gen.hostOps0_10 R (Proc.devRef .tc Cert.ReferenceIdeal.main_v42) := by
  after_reads_simp
  rw [h0, h1]
  rfl

theorem y1_eq
    (h0 : (V (Proc.devRef .tc main_v27) : FVec Ideal S1000x2 .f32) = R (Proc.devRef .tc Cert.ReferenceIdeal.main_v35))
    (h1 : (V (Proc.devRef .tc main_v28) : FVec Ideal S1000x4 .f32) = R (Proc.devRef .tc Cert.ReferenceIdeal.main_v37)) :
    (after hostOps1_7 V (Proc.devRef .tc main_v38) : FVec Ideal S1000 .f32) = after Cert.ReferenceIdeal.Gen.hostOps0_10 R (Proc.devRef .tc Cert.ReferenceIdeal.main_v47) := by
  after_reads_simp
  rw [h0, h1]
  rfl

theorem x2_eq
    (h0 : (V (Proc.devRef .tc main_v27) : FVec Ideal S1000x2 .f32) = R (Proc.devRef .tc Cert.ReferenceIdeal.main_v35))
    (h1 : (V (Proc.devRef .tc main_v28) : FVec Ideal S1000x4 .f32) = R (Proc.devRef .tc Cert.ReferenceIdeal.main_v37)) :
    (after hostOps1_7 V (Proc.devRef .tc main_v43) : FVec Ideal S1000 .f32) = after Cert.ReferenceIdeal.Gen.hostOps0_10 R (Proc.devRef .tc Cert.ReferenceIdeal.main_v52) := by
  after_reads_simp
  rw [h0, h1]
  rfl

theorem y2_eq
    (h0 : (V (Proc.devRef .tc main_v27) : FVec Ideal S1000x2 .f32) = R (Proc.devRef .tc Cert.ReferenceIdeal.main_v35))
    (h1 : (V (Proc.devRef .tc main_v28) : FVec Ideal S1000x4 .f32) = R (Proc.devRef .tc Cert.ReferenceIdeal.main_v37)) :
    (after hostOps1_7 V (Proc.devRef .tc main_v48) : FVec Ideal S1000 .f32) = after Cert.ReferenceIdeal.Gen.hostOps0_10 R (Proc.devRef .tc Cert.ReferenceIdeal.main_v57) := by
  after_reads_simp
  rw [h0, h1]
  rfl

theorem pos_eq
    (h0 : (V (Proc.devRef .tc main_v22) : IVec S1000 1) = R (Proc.devRef .tc Cert.ReferenceIdeal.main_v30))
    (h1 : (V (Proc.devRef .tc main_values) : FVec Ideal S1000 .f32) = R (Proc.devRef .tc Cert.ReferenceIdeal.main_values)) :
    (after hostOps1_15 V (Proc.devRef .tc main_v70) : IVec S1000 1) = after Cert.ReferenceIdeal.Gen.hostOps0_10 R (Proc.devRef .tc Cert.ReferenceIdeal.main_v91) := by
  after_reads_simp
  rw [h0, h1]

theorem one_eq :
    (after hostOps1_15 V (Proc.devRef .tc main_cst_14) : FVec Ideal S_ .f32) = after Cert.ReferenceIdeal.Gen.hostOps0_10 R (Proc.devRef .tc Cert.ReferenceIdeal.main_cst_15) := by
  after_reads_simp

theorem safe_eq
    (h0 : (V (Proc.devRef .tc main_cst_14) : FVec Ideal S_ .f32) = R (Proc.devRef .tc Cert.ReferenceIdeal.main_cst_15))
    (h1 : (V (Proc.devRef .tc main_v70) : IVec S1000 1) = R (Proc.devRef .tc Cert.ReferenceIdeal.main_v91))
    (h2 : (V (Proc.devRef .tc main_values) : FVec Ideal S1000 .f32) = R (Proc.devRef .tc Cert.ReferenceIdeal.main_values)) :
    (after hostOps1_16 V (Proc.devRef .tc main_v71) : FVec Ideal S1000 .f32) = after Cert.ReferenceIdeal.Gen.hostOps0_11 R (Proc.devRef .tc Cert.ReferenceIdeal.main_v92) := by
  after_reads_simp
  rw [h0, h1, h2]

theorem sqrt_eq
    (h0 : (V (Proc.devRef .tc main_v71) : FVec Ideal S1000 .f32) = R (Proc.devRef .tc Cert.ReferenceIdeal.main_v92)) :
    (after hostOps1_17 V (Proc.devRef .tc main_v72) : FVec Ideal S1000 .f32) = after Cert.ReferenceIdeal.Gen.hostOps0_12 R (Proc.devRef .tc Cert.ReferenceIdeal.main_v93) := by
  after_reads_simp
  rw [h0]

theorem zero_eq :
    (after hostOps1_17 V (Proc.devRef .tc main_cst_15) : FVec Ideal S_ .f32) = after Cert.ReferenceIdeal.Gen.hostOps0_12 R (Proc.devRef .tc Cert.ReferenceIdeal.main_cst_16) := by
  after_reads_simp

theorem det_eq
    (h0 : (V (Proc.devRef .tc main_cst_15) : FVec Ideal S_ .f32) = R (Proc.devRef .tc Cert.ReferenceIdeal.main_cst_16))
    (h1 : (V (Proc.devRef .tc main_v22) : IVec S1000 1) = R (Proc.devRef .tc Cert.ReferenceIdeal.main_v30))
    (h2 : (V (Proc.devRef .tc main_v72) : FVec Ideal S1000 .f32) = R (Proc.devRef .tc Cert.ReferenceIdeal.main_v93)) :
    (after hostOps1_18 V (Proc.devRef .tc main_v73) : FVec Ideal S1000 .f32) = after Cert.ReferenceIdeal.Gen.hostOps0_13 R (Proc.devRef .tc Cert.ReferenceIdeal.main_v94) := by
  after_reads_simp
  rw [h0, h1, h2]

theorem bot_eq :
    (after hostOps1_19 V (Proc.devRef .tc main_cst_16) : FVec Ideal S_ .f32) = after Cert.ReferenceIdeal.Gen.hostOps0_14 R (Proc.devRef .tc Cert.ReferenceIdeal.main_cst_18) := by
  after_reads_simp

theorem s_eq
    (h0 : (V (Proc.devRef .tc main_cst_16) : FVec Ideal S_ .f32) = R (Proc.devRef .tc Cert.ReferenceIdeal.main_cst_18))
    (h1 : (V (Proc.devRef .tc main_v22) : IVec S1000 1) = R (Proc.devRef .tc Cert.ReferenceIdeal.main_v30))
    (h2 : (V (Proc.devRef .tc main_v73) : FVec Ideal S1000 .f32) = R (Proc.devRef .tc Cert.ReferenceIdeal.main_v94)) :
    (after hostOps1_20 V (Proc.devRef .tc main_v74) : FVec Ideal S1000 .f32) = after Cert.ReferenceIdeal.Gen.hostOps0_15 R (Proc.devRef .tc Cert.ReferenceIdeal.main_v101) := by
  after_reads_simp
  rw [h0, h1, h2]

theorem neg_eq
    (h0 : (V (Proc.devRef .tc main_v74) : FVec Ideal S1000 .f32) = R (Proc.devRef .tc Cert.ReferenceIdeal.main_v101)) :
    (after hostOps1_21 V (Proc.devRef .tc main_v75) : FVec Ideal S1000 .f32) = after Cert.ReferenceIdeal.Gen.hostOps0_16 R (Proc.devRef .tc Cert.ReferenceIdeal.main_v102) := by
  after_reads_simp
  rw [h0]

theorem order_eq
    (h0 : (V (Proc.devRef .tc main_v75) : FVec Ideal S1000 .f32) = R (Proc.devRef .tc Cert.ReferenceIdeal.main_v102)) :
    (after hostOps1_22 V (Proc.devRef .tc main_v76) : IVec S1000 32) = after Cert.ReferenceIdeal.Gen.hostOps0_17 R (Proc.devRef .tc Cert.ReferenceIdeal.main_v103) := by
  after_reads_simp
  rw [h0]
  rfl

/-! ## The boxes -/

theorem max_swap (x y : FVec Ideal S1000 .f32) : maximumf x y = maximumf y x := funext fun _ => max_comm _ _
theorem min_swap (x y : FVec Ideal S1000 .f32) : minimumf x y = minimumf y x := funext fun _ => min_comm _ _

/-- A coordinate kept between 0 and `hi`. -/
def clip (x : FVec Ideal S1000 .f32) (hi : FVec Ideal S_ .f32) : FVec Ideal S1000 .f32 :=
  minimumf (maximumf x (broadcastInDim S1000 ![] bcast_S_S1000 (constant (F := Ideal) S_ .f32 0x00000000#32))) (broadcastInDim S1000 ![] bcast_S_S1000 hi)

/-- Four columns side by side. -/
def fourCols (a b c d : FVec Ideal S1000 .f32) : FVec Ideal S1000x4 .f32 :=
  concatenate S1000x4 1 [⟨S1000x1, broadcastInDim S1000x1 ![0] bcast_S1000_S1000x1_0 a⟩, ⟨S1000x1, broadcastInDim S1000x1 ![0] bcast_S1000_S1000x1_0 b⟩,
    ⟨S1000x1, broadcastInDim S1000x1 ![0] bcast_S1000_S1000x1_0 c⟩, ⟨S1000x1, broadcastInDim S1000x1 ![0] bcast_S1000_S1000x1_0 d⟩]
    concatenates_S1000x1_S1000x1_S1000x1_S1000x1_S1000x4_d1

theorem clip_a (h : (V (Proc.devRef .tc main_cst_9) : FVec Ideal S_ .f32) = constant (F := Ideal) S_ .f32 0x00000000#32) :
    (after hostOps1_8 V (Proc.devRef .tc main_v59) : FVec Ideal S1000 .f32) = clip (V (Proc.devRef .tc main_v33)) (V (Proc.devRef .tc main_v56)) := by
  after_reads_simp
  rw [h, clip, max_swap, min_swap]
  rfl

theorem clip_b (h : (V (Proc.devRef .tc main_cst_10) : FVec Ideal S_ .f32) = constant (F := Ideal) S_ .f32 0x00000000#32) :
    (after hostOps1_10 V (Proc.devRef .tc main_v60) : FVec Ideal S1000 .f32) = clip (V (Proc.devRef .tc main_v43)) (V (Proc.devRef .tc main_v56)) := by
  after_reads_simp
  rw [h, clip, max_swap, min_swap]
  rfl

theorem clip_c (h : (V (Proc.devRef .tc main_cst_11) : FVec Ideal S_ .f32) = constant (F := Ideal) S_ .f32 0x00000000#32) :
    (after hostOps1_12 V (Proc.devRef .tc main_v61) : FVec Ideal S1000 .f32) = clip (V (Proc.devRef .tc main_v38)) (V (Proc.devRef .tc main_v58)) := by
  after_reads_simp
  rw [h, clip, max_swap, min_swap]
  rfl

theorem clip_d (h : (V (Proc.devRef .tc main_cst_12) : FVec Ideal S_ .f32) = constant (F := Ideal) S_ .f32 0x00000000#32) :
    (after hostOps1_14 V (Proc.devRef .tc main_v62) : FVec Ideal S1000 .f32) = clip (V (Proc.devRef .tc main_v48)) (V (Proc.devRef .tc main_v58)) := by
  after_reads_simp
  rw [h, clip, max_swap, min_swap]
  rfl

theorem clip0_a : (after hostOps1_7 V (Proc.devRef .tc main_cst_9) : FVec Ideal S_ .f32) = constant (F := Ideal) S_ .f32 0x00000000#32 := by
  after_reads_simp

theorem clip0_b : (after hostOps1_9 V (Proc.devRef .tc main_cst_10) : FVec Ideal S_ .f32) = constant (F := Ideal) S_ .f32 0x00000000#32 := by
  after_reads_simp

theorem clip0_c : (after hostOps1_11 V (Proc.devRef .tc main_cst_11) : FVec Ideal S_ .f32) = constant (F := Ideal) S_ .f32 0x00000000#32 := by
  after_reads_simp

theorem clip0_d : (after hostOps1_13 V (Proc.devRef .tc main_cst_12) : FVec Ideal S_ .f32) = constant (F := Ideal) S_ .f32 0x00000000#32 := by
  after_reads_simp

theorem rclip_a : (after Cert.ReferenceIdeal.Gen.hostOps0_10 R (Proc.devRef .tc Cert.ReferenceIdeal.main_v71) : FVec Ideal S1000 .f32)
    = clip (after Cert.ReferenceIdeal.Gen.hostOps0_10 R (Proc.devRef .tc Cert.ReferenceIdeal.main_v42)) (after Cert.ReferenceIdeal.Gen.hostOps0_10 R (Proc.devRef .tc Cert.ReferenceIdeal.main_v65)) := by
  after_reads_simp
  rfl

theorem rclip_b : (after Cert.ReferenceIdeal.Gen.hostOps0_10 R (Proc.devRef .tc Cert.ReferenceIdeal.main_v75) : FVec Ideal S1000 .f32)
    = clip (after Cert.ReferenceIdeal.Gen.hostOps0_10 R (Proc.devRef .tc Cert.ReferenceIdeal.main_v52)) (after Cert.ReferenceIdeal.Gen.hostOps0_10 R (Proc.devRef .tc Cert.ReferenceIdeal.main_v65)) := by
  after_reads_simp
  rfl

theorem rclip_c : (after Cert.ReferenceIdeal.Gen.hostOps0_10 R (Proc.devRef .tc Cert.ReferenceIdeal.main_v79) : FVec Ideal S1000 .f32)
    = clip (after Cert.ReferenceIdeal.Gen.hostOps0_10 R (Proc.devRef .tc Cert.ReferenceIdeal.main_v47)) (after Cert.ReferenceIdeal.Gen.hostOps0_10 R (Proc.devRef .tc Cert.ReferenceIdeal.main_v67)) := by
  after_reads_simp
  rfl

theorem rclip_d : (after Cert.ReferenceIdeal.Gen.hostOps0_10 R (Proc.devRef .tc Cert.ReferenceIdeal.main_v83) : FVec Ideal S1000 .f32)
    = clip (after Cert.ReferenceIdeal.Gen.hostOps0_10 R (Proc.devRef .tc Cert.ReferenceIdeal.main_v57)) (after Cert.ReferenceIdeal.Gen.hostOps0_10 R (Proc.devRef .tc Cert.ReferenceIdeal.main_v67)) := by
  after_reads_simp
  rfl

theorem cols_k : (after hostOps1_15 V (Proc.devRef .tc main_v67) : FVec Ideal S1000x4 .f32)
    = fourCols (V (Proc.devRef .tc main_v59)) (V (Proc.devRef .tc main_v61)) (V (Proc.devRef .tc main_v60)) (V (Proc.devRef .tc main_v62)) := by
  after_reads_simp
  rfl

theorem cols_r : (after Cert.ReferenceIdeal.Gen.hostOps0_10 R (Proc.devRef .tc Cert.ReferenceIdeal.main_v88) : FVec Ideal S1000x4 .f32)
    = fourCols (after Cert.ReferenceIdeal.Gen.hostOps0_10 R (Proc.devRef .tc Cert.ReferenceIdeal.main_v71)) (after Cert.ReferenceIdeal.Gen.hostOps0_10 R (Proc.devRef .tc Cert.ReferenceIdeal.main_v79))
      (after Cert.ReferenceIdeal.Gen.hostOps0_10 R (Proc.devRef .tc Cert.ReferenceIdeal.main_v75)) (after Cert.ReferenceIdeal.Gen.hostOps0_10 R (Proc.devRef .tc Cert.ReferenceIdeal.main_v83)) := by
  after_reads_simp
  rfl

end Cert.Proof.Nms

end
-- ==== Proof.Nms.Prefix.lean ====
/-
  The start of the two programs: equal arguments give the same masked scores, the same number of candidates and the same
  box distances, though the two programs lay them out in another way.
-/
module

public import proofs.«01_k».proof.Proof.Nms.Layout
public import proofs.«01_k».proof.Proof.Nms.Stages

@[expose] public section

set_option maxRecDepth 8192

noncomputable section

namespace Cert.Proof.Nms

open Cert.KernelIdeal Cert.KernelIdeal.Gen

open Idealize.ShloMosaic hiding ix1 ix2 ix3 ix4 ix5 eq_ix1 eq_ix2 eq_ix3 eq_ix4
open Idealize.ShloMosaic.ValueIdx
open Idealize.ShloMosaic.TcCoe

open Idealize.ShloMosaic.StableHlo (after)

variable (V : Valuation Cert.KernelIdeal.τ Cert.KernelIdeal.sig (Elt Ideal))
  (R : Valuation Cert.ReferenceIdeal.τ Cert.ReferenceIdeal.sig (Elt Ideal))

section
variable (a1 : FVec Ideal S1x1x80x100x200 .f32) (a3 : FVec Ideal S1x1x1x100x200 .f32)

/-- The class scores as the reference lays them out. -/
def rClasses : FVec Ideal Cert.ReferenceIdeal.S1x20000x80 .f32 :=
  shapeCast Cert.ReferenceIdeal.S1x20000x80 (transpose Cert.ReferenceIdeal.S1x100x200x80 [0, 2, 3, 1]
    (shapeCast Cert.ReferenceIdeal.S1x80x100x200 a1 Cert.ReferenceIdeal.Facts₀.shapeCasts_S1x1x80x100x200_S1x80x100x200)
    Cert.ReferenceIdeal.Facts₀.transposes_S1x80x100x200_S1x100x200x80_0_2_3_1) Cert.ReferenceIdeal.Facts₀.shapeCasts_S1x100x200x80_S1x20000x80

/-- The centerness as the reference lays it out. -/
def rCenters : FVec Ideal Cert.ReferenceIdeal.S1x20000 .f32 :=
  shapeCast Cert.ReferenceIdeal.S1x20000 (transpose Cert.ReferenceIdeal.S1x100x200x1 [0, 2, 3, 1]
    (shapeCast Cert.ReferenceIdeal.S1x1x100x200 a3 Cert.ReferenceIdeal.Facts₀.shapeCasts_S1x1x1x100x200_S1x1x100x200)
    Cert.ReferenceIdeal.Facts₀.transposes_S1x1x100x200_S1x100x200x1_0_2_3_1) Cert.ReferenceIdeal.Facts₀.shapeCasts_S1x100x200x1_S1x20000

/-- Which class scores pass the threshold, as the reference lays them out. -/
def rPass : IVec Cert.ReferenceIdeal.S1x20000x80 1 :=
  cmpf .ogt (rClasses a1) (broadcastInDim Cert.ReferenceIdeal.S1x20000x80 ![] Cert.ReferenceIdeal.Facts₀.bcast_S_S1x20000x80 (constant (F := Ideal) Cert.ReferenceIdeal.S_ .f32 0x3D4CCCCD#32))

/-- Class score times centerness, as the reference lays it out. -/
def rProduct : FVec Ideal Cert.ReferenceIdeal.S1x20000x80 .f32 :=
  mulf (rClasses a1) (broadcastInDim Cert.ReferenceIdeal.S1x20000x80 ![0, 1, 2] Cert.ReferenceIdeal.Facts₀.bcast_S1x20000x1_S1x20000x80_0_1_2
    (broadcastInDim Cert.ReferenceIdeal.S1x20000x1 ![0, 1] Cert.ReferenceIdeal.Facts₀.bcast_S1x20000_S1x20000x1_0_1 (rCenters a3)))

/-- The reference's masked scores in one row. -/
def rScores : FVec Ideal S1600000 .f32 :=
  select (shapeCast S1600000 (shapeCast S20000x80 (rPass a1) Cert.ReferenceIdeal.Facts₀.shapeCasts_S1x20000x80_S20000x80) Cert.ReferenceIdeal.Facts₀.shapeCasts_S20000x80_S1600000)
    (shapeCast S1600000 (shapeCast S20000x80 (rProduct a1 a3) Cert.ReferenceIdeal.Facts₀.shapeCasts_S1x20000x80_S20000x80) Cert.ReferenceIdeal.Facts₀.shapeCasts_S20000x80_S1600000)
    (broadcastInDim S1600000 ![] Cert.ReferenceIdeal.Facts₀.bcast_S_S1600000 (constant (F := Ideal) S_ .f32 0xFF800000#32))

theorem rClasses_apply (t : Fin 20000) (q : Fin 80) : rClasses a1 (ix3 (0 : Fin 1) t q) = classes a1 (ix2 t q) :=
  (reference_layout a1 _ _ _ t q).trans (kernel_layout a1 _ _ _ t q).symm

theorem rCenters_apply (t : Fin 20000) : rCenters a3 (ix2 (0 : Fin 1) t) = centers a3 (ix2 t (0 : Fin 1)) :=
  (reference_column a3 _ _ _ t).trans (kernel_column a3 _ _ t).symm

theorem rPass_cast : shapeCast S20000x80 (rPass a1) Cert.ReferenceIdeal.Facts₀.shapeCasts_S1x20000x80_S20000x80
    = cmpf .ogt (classes a1) (broadcastInDim S20000x80 ![] bcast_S_S20000x80 (constant (F := Ideal) S_ .f32 0x3D4CCCCD#32)) := by
  funext i
  obtain ⟨t, q, rfl⟩ : ∃ (t : Fin 20000) (q : Fin 80), i = ix2 t q := ⟨_, _, eq_ix2 i⟩
  refine (dropLead (rPass a1) _ t q).trans ?_
  unfold rPass
  rw [cmpf_apply, cmpf_apply, rClasses_apply, broadcastInDim_scalar_apply, broadcastInDim_scalar_apply]

theorem rProduct_cast (t : Fin 20000) (q : Fin 80) : shapeCast S20000x80 (rProduct a1 a3) Cert.ReferenceIdeal.Facts₀.shapeCasts_S1x20000x80_S20000x80 (ix2 t q)
    = FloatOps.mulf (classes a1 (ix2 t q)) (centers a3 (ix2 t (0 : Fin 1))) := by
  refine (dropLead (rProduct a1 a3) _ t q).trans ?_
  unfold rProduct
  rw [Idealize.ShloMosaic.mulf_apply, rClasses_apply, ← rCenters_apply]
  congr 1

theorem score_apply (x : FVec Ideal S20000x80 .f32) (y : FVec Ideal S20000x1 .f32) (t : Fin 20000) (q : Fin 80) : score x y (ix2 t q)
    = Scalar.select (cmpf .ogt x (broadcastInDim S20000x80 ![] bcast_S_S20000x80 (constant (F := Ideal) S_ .f32 0x3D4CCCCD#32)) (ix2 t q))
      (FloatOps.mulf (x (ix2 t q)) (y (ix2 t (0 : Fin 1)))) (Ideal.ofBits .f32 0xFF800000#32) := by
  have e : broadcastTo S20000x80 y broadcasts_S20000x1_S20000x80 (ix2 t q) = y (ix2 t (0 : Fin 1)) :=
    broadcastTo_apply y _ (ix2 t q) (ix2 t (0 : Fin 1)) (fun a => by
      match a with
      | ⟨0, _⟩ => rfl
      | ⟨1, _⟩ => rfl)
  unfold score k0_pay1
  simp only [shapeCast_self]
  rw [select_apply, Idealize.ShloMosaic.mulf_apply, e]
  rfl

/-- The kernel's masked scores in one row are the reference's. -/
theorem scores_eq : shapeCast S1600000 (score (classes a1) (centers a3)) shapeCasts_S20000x80_S1600000 = rScores a1 a3 := by
  funext i
  obtain ⟨n, rfl⟩ : ∃ n : Fin 1600000, i = ix1 n := ⟨_, eq_ix1 i⟩
  have hn := n.isLt
  have hf : ∀ {α : Type} (x : S20000x80.Idx → α) (h), shapeCast S1600000 x h (ix1 n)
      = x (ix2 (⟨n.val / 80, by omega⟩ : Fin 20000) (⟨n.val % 80, by omega⟩ : Fin 80)) := fun x h =>
    shapeCast_apply x h _ _ (by
      rw [Shape.rowMajor_val_two, Shape.rowMajor_val_one]
      show n.val / 80 * 80 + n.val % 80 = n.val
      omega)
  rw [hf, score_apply]
  unfold rScores
  rw [select_apply, hf, hf, rPass_cast, rProduct_cast, broadcastInDim_scalar_apply]
  rfl

/-- The two programs count the same candidates. -/
theorem count_eq : Host.reduce IntOp.addi (extui 32 (cmpf .ogt (classes a1) (broadcastInDim S20000x80 ![] bcast_S_S20000x80 (constant (F := Ideal) S_ .f32 0x3D4CCCCD#32))) natLt_1_32)
      (constantI S_ 32 0#32) reducesTo_S20000x80_S_d0_1 h_S_
    = Host.reduce IntOp.addi (extui 32 (shapeCast S1600000 (shapeCast S20000x80 (rPass a1) Cert.ReferenceIdeal.Facts₀.shapeCasts_S1x20000x80_S20000x80) Cert.ReferenceIdeal.Facts₀.shapeCasts_S20000x80_S1600000) natLt_1_32)
      (constantI S_ 32 0#32) Cert.ReferenceIdeal.Facts₀.reducesTo_S1600000_S_d0 h_S_ := by
  rw [rPass_cast]
  funext j
  exact (reduce_all_cast IntOp.addi (extui 32 (cmpf .ogt (classes a1) (broadcastInDim S20000x80 ![] bcast_S_S20000x80 (constant (F := Ideal) S_ .f32 0x3D4CCCCD#32))) natLt_1_32)
    shapeCasts_S20000x80_S1600000 (constantI S_ 32 0#32) reducesTo_S20000x80_S_d0_1 Cert.ReferenceIdeal.Facts₀.reducesTo_S1600000_S_d0 h_S_ j
    (fun i => funext fun a => Fin.elim0 a)).symm

end

/-! ## What the first stretches leave -/

theorem k_classes : (after hostOps0 V (Proc.devRef .tc main_v5) : FVec Ideal S20000x80 .f32) = classes (V (Proc.devRef .tc main_arg1)) := by
  after_reads_simp
  rfl

theorem k_centers : (after hostOps0 V (Proc.devRef .tc main_v8) : FVec Ideal S20000x1 .f32) = centers (V (Proc.devRef .tc main_arg3)) := by
  after_reads_simp
  rfl

/-- The 1000 largest entries with their places. -/
def best (x : FVec Ideal S1600000 .f32) : FVec Ideal S1000 .f32 × IVec S1000 32 :=
  Host.topK S1000 0 (fun a b : Ideal .f32 => FloatOps.cmpfTotal .gt a b) x sliceFits_S1600000_S1000

theorem k_flat : (after hostOps1 V (Proc.devRef .tc main_values) : FVec Ideal S1000 .f32)
    = (best (shapeCast S1600000 (V (Proc.devRef .tc main_v9) : FVec Ideal S20000x80 .f32) shapeCasts_S20000x80_S1600000)).1 := by
  after_reads_simp
  rfl

theorem k_flat_i : (after hostOps1 V (Proc.devRef .tc main_indices) : IVec S1000 32)
    = (best (shapeCast S1600000 (V (Proc.devRef .tc main_v9) : FVec Ideal S20000x80 .f32) shapeCasts_S20000x80_S1600000)).2 := by
  after_reads_simp
  rfl

/-- Whether a candidate counts: among the first `n` and of finite score. -/
def validOf (n : IVec S_ 32) (v : FVec Ideal S1000 .f32) : IVec S1000 1 :=
  andi (cmpi .slt (iotaInDim S1000 32 0) (broadcastInDim S1000 ![] bcast_S_S1000 n))
    (cmpf .olt (Host.absf v) (broadcastInDim S1000 ![] bcast_S_S1000 (constant (F := Ideal) S_ .f32 0x7F800000#32)))

theorem k_valid : (after hostOps1 V (Proc.devRef .tc main_v22) : IVec S1000 1)
    = validOf (minsi (Host.reduce IntOp.addi (extui 32 (cmpf .ogt (V (Proc.devRef .tc main_v5) : FVec Ideal S20000x80 .f32) (broadcastInDim S20000x80 ![] bcast_S_S20000x80 (constant (F := Ideal) S_ .f32 0x3D4CCCCD#32))) natLt_1_32)
      (constantI S_ 32 0#32) reducesTo_S20000x80_S_d0_1 h_S_) (constantI S_ 32 1000#32)) (after hostOps1 V (Proc.devRef .tc main_values)) := by
  after_reads_simp
  rfl

theorem r_scores : (after Cert.ReferenceIdeal.Gen.hostOps0_1 (after Cert.ReferenceIdeal.Gen.hostOps0 R) (Proc.devRef .tc Cert.ReferenceIdeal.main_v23) : FVec Ideal S1600000 .f32)
    = rScores (R (Proc.devRef .tc Cert.ReferenceIdeal.main_arg1)) (R (Proc.devRef .tc Cert.ReferenceIdeal.main_arg3)) := by
  after_reads_simp
  rfl

theorem r_count : (after Cert.ReferenceIdeal.Gen.hostOps0 R (Proc.devRef .tc Cert.ReferenceIdeal.main_v22) : IVec S_ 32)
    = minsi (Host.reduce IntOp.addi (extui 32 (shapeCast S1600000 (shapeCast S20000x80 (rPass (R (Proc.devRef .tc Cert.ReferenceIdeal.main_arg1))) Cert.ReferenceIdeal.Facts₀.shapeCasts_S1x20000x80_S20000x80) Cert.ReferenceIdeal.Facts₀.shapeCasts_S20000x80_S1600000) natLt_1_32)
      (constantI S_ 32 0#32) Cert.ReferenceIdeal.Facts₀.reducesTo_S1600000_S_d0 h_S_) (constantI S_ 32 1000#32) := by
  after_reads_simp
  rfl

theorem r_flat : (after Cert.ReferenceIdeal.Gen.hostOps0_2 R (Proc.devRef .tc Cert.ReferenceIdeal.main_values) : FVec Ideal S1000 .f32)
    = (best (R (Proc.devRef .tc Cert.ReferenceIdeal.main_v23) : FVec Ideal S1600000 .f32)).1 := by
  after_reads_simp
  rfl

theorem r_flat_i : (after Cert.ReferenceIdeal.Gen.hostOps0_2 R (Proc.devRef .tc Cert.ReferenceIdeal.main_indices) : IVec S1000 32)
    = (best (R (Proc.devRef .tc Cert.ReferenceIdeal.main_v23) : FVec Ideal S1600000 .f32)).2 := by
  after_reads_simp
  rfl

theorem r_valid : (after Cert.ReferenceIdeal.Gen.hostOps0_2 R (Proc.devRef .tc Cert.ReferenceIdeal.main_v30) : IVec S1000 1)
    = validOf (R (Proc.devRef .tc Cert.ReferenceIdeal.main_v22)) (after Cert.ReferenceIdeal.Gen.hostOps0_2 R (Proc.devRef .tc Cert.ReferenceIdeal.main_values)) := by
  after_reads_simp
  rfl

theorem locs_eq (h : (V (Proc.devRef .tc main_arg0) : FVec Ideal S1x20000x2 .f32) = R (Proc.devRef .tc Cert.ReferenceIdeal.main_arg0)) :
    (after hostOps0 V (Proc.devRef .tc main_v0) : FVec Ideal S20000x2 .f32) = after Cert.ReferenceIdeal.Gen.hostOps0 R (Proc.devRef .tc Cert.ReferenceIdeal.main_v0) := by
  after_reads_simp
  rw [h]
  rfl

/-- The box distances, one row per pixel. -/
theorem dists_eq (a2 : FVec Ideal S1x1x4x100x200 .f32) (h : (V (Proc.devRef .tc main_arg2) : FVec Ideal S1x1x4x100x200 .f32) = a2)
    (h' : (R (Proc.devRef .tc Cert.ReferenceIdeal.main_arg2) : FVec Ideal S1x1x4x100x200 .f32) = a2) :
    (after hostOps0 V (Proc.devRef .tc main_v7) : FVec Ideal S20000x4 .f32)
      = shapeCast S20000x4 (after Cert.ReferenceIdeal.Gen.hostOps0 R (Proc.devRef .tc Cert.ReferenceIdeal.main_v8) : FVec Ideal Cert.ReferenceIdeal.S1x20000x4 .f32)
          Cert.ReferenceIdeal.Facts₀.shapeCasts_S1x20000x4_S20000x4 := by
  after_reads_simp
  rw [h, h']
  funext i
  obtain ⟨t, q, rfl⟩ : ∃ (t : Fin 20000) (q : Fin 4), i = ix2 t q := ⟨_, _, eq_ix2 i⟩
  refine Eq.trans ?_ (dropLead _ _ t q).symm
  exact (kernel_layout a2 _ _ _ t q).trans (reference_layout a2 _ _ _ t q).symm

theorem r_dists : (after Cert.ReferenceIdeal.Gen.hostOps0_8 R (Proc.devRef .tc Cert.ReferenceIdeal.main_v36) : FVec Ideal S20000x4 .f32)
    = shapeCast S20000x4 (R (Proc.devRef .tc Cert.ReferenceIdeal.main_v8) : FVec Ideal Cert.ReferenceIdeal.S1x20000x4 .f32)
          Cert.ReferenceIdeal.Facts₀.shapeCasts_S1x20000x4_S20000x4 := by
  after_reads_simp
  rfl

theorem r_sizes : (after Cert.ReferenceIdeal.Gen.hostOps0 R (Proc.devRef .tc Cert.ReferenceIdeal.main_v4) : IVec Cert.ReferenceIdeal.S2 32)
    = shapeCast Cert.ReferenceIdeal.S2 (R (Proc.devRef .tc Cert.ReferenceIdeal.main_arg4) : IVec S1x2 32) Cert.ReferenceIdeal.Facts₀.shapeCasts_S1x2_S2 := by
  after_reads_simp
  rfl

theorem size_at (x : IVec S1x2 32) (k : Fin 2) (off : Fin 2 → Nat) (off' : Fin 1 → Nat) (ho : off = ![0, k.val]) (ho' : off' = ![k.val])
    (h1 : S1x2.Slices off S1x1) (h2 : S1x1.ShapeCasts S_)
    (h3 : S1x2.ShapeCasts Cert.ReferenceIdeal.S2) (h4 : Cert.ReferenceIdeal.S2.Slices off' S1) (h5 : S1.ShapeCasts S_) :
    shapeCast S_ (extractStridedSlice S1x1 off x h1) h2 = shapeCast S_ (extractStridedSlice S1 off' (shapeCast Cert.ReferenceIdeal.S2 x h3) h4) h5 := by
  subst ho ho'
  funext j
  refine (shapeCast_apply _ h2 j (ix2 (0 : Fin 1) (0 : Fin 1)) (by
    rw [Shape.rowMajor_val_two]
    have := (S_.rowMajor j).isLt
    have e : S_.numel = 1 := by decide
    show 0 * 1 + 0 = _
    omega)).trans ?_
  refine Eq.trans ?_ (shapeCast_apply _ h5 j (ix1 (0 : Fin 1)) (by
    rw [Shape.rowMajor_val_one]
    have := (S_.rowMajor j).isLt
    have e : S_.numel = 1 := by decide
    show 0 = _
    omega)).symm
  refine (extractStridedSlice_apply _ x h1 _ (ix2 (0 : Fin 1) k) (fun a => by
    match a with
    | ⟨0, _⟩ => rfl
    | ⟨1, _⟩ => rfl)).trans ?_
  refine Eq.trans ?_ (extractStridedSlice_apply _ _ h4 _ (ix1 k) (fun a => by
    match a with
    | ⟨0, _⟩ => rfl)).symm
  exact (shapeCast_apply x h3 (ix1 k) (ix2 (0 : Fin 1) k) (by
    rw [Shape.rowMajor_val_two, Shape.rowMajor_val_one]
    show 0 * 2 + k.val = k.val
    omega)).symm

theorem wmax_eq (h : (R (Proc.devRef .tc Cert.ReferenceIdeal.main_v4) : IVec Cert.ReferenceIdeal.S2 32)
      = shapeCast Cert.ReferenceIdeal.S2 (V (Proc.devRef .tc main_arg4) : IVec S1x2 32) Cert.ReferenceIdeal.Facts₀.shapeCasts_S1x2_S2) :
    (after hostOps1_7 V (Proc.devRef .tc main_v56) : FVec Ideal S_ .f32) = after Cert.ReferenceIdeal.Gen.hostOps0_10 R (Proc.devRef .tc Cert.ReferenceIdeal.main_v65) := by
  after_reads_simp
  rw [h]
  refine congrArg (fun w : IVec S_ 32 => maximumf (subf (sitofp (F := Ideal) .f32 w) (constant (F := Ideal) S_ .f32 0x3F800000#32)) (constant (F := Ideal) S_ .f32 0x00000000#32)) ?_
  exact size_at _ 1 _ _ rfl rfl _ _ _ _ _

theorem hmax_eq (h : (R (Proc.devRef .tc Cert.ReferenceIdeal.main_v4) : IVec Cert.ReferenceIdeal.S2 32)
      = shapeCast Cert.ReferenceIdeal.S2 (V (Proc.devRef .tc main_arg4) : IVec S1x2 32) Cert.ReferenceIdeal.Facts₀.shapeCasts_S1x2_S2) :
    (after hostOps1_7 V (Proc.devRef .tc main_v58) : FVec Ideal S_ .f32) = after Cert.ReferenceIdeal.Gen.hostOps0_10 R (Proc.devRef .tc Cert.ReferenceIdeal.main_v67) := by
  after_reads_simp
  rw [h]
  refine congrArg (fun w : IVec S_ 32 => maximumf (subf (sitofp (F := Ideal) .f32 w) (constant (F := Ideal) S_ .f32 0x3F800000#32)) (constant (F := Ideal) S_ .f32 0x00000000#32)) ?_
  exact size_at _ 0 _ _ rfl rfl _ _ _ _ _

end Cert.Proof.Nms

end
-- ==== Proof.Nms.Common.lean ====
/-
  The candidates of the two programs: launched on equal arguments, both find the same candidates, in the same order, with
  the same boxes, labels and scores.
-/
module

public import proofs.«01_k».proof.Proof.Nms.Prefix

@[expose] public section

set_option maxRecDepth 8192

noncomputable section

namespace Cert.Proof.Nms

open Cert.KernelIdeal Cert.KernelIdeal.Gen

open Idealize.ShloMosaic hiding ix1 ix2 ix3 ix4 ix5 eq_ix1 eq_ix2 eq_ix3 eq_ix4
open Idealize.ShloMosaic.ValueIdx
open Idealize.ShloMosaic.TcCoe

open Idealize.ShloMosaic.StableHlo (after)
open Cert.Proof.Nms.Ref (R0 R1 R2 R3 R4 R5 R6 R7 R8 R9 R10 R11 R12 R13 R14 R15 R16 R17 R18 rv)

variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)

/-- Both programs are launched on the same arguments. -/
structure Same : Prop where
  arg0 : (V0 m c (Proc.devRef .tc main_arg0) : FVec Ideal S1x20000x2 .f32) = R0 m' c (Proc.devRef .tc Cert.ReferenceIdeal.main_arg0)
  arg1 : (V0 m c (Proc.devRef .tc main_arg1) : FVec Ideal S1x1x80x100x200 .f32) = R0 m' c (Proc.devRef .tc Cert.ReferenceIdeal.main_arg1)
  arg2 : (V0 m c (Proc.devRef .tc main_arg2) : FVec Ideal S1x1x4x100x200 .f32) = R0 m' c (Proc.devRef .tc Cert.ReferenceIdeal.main_arg2)
  arg3 : (V0 m c (Proc.devRef .tc main_arg3) : FVec Ideal S1x1x1x100x200 .f32) = R0 m' c (Proc.devRef .tc Cert.ReferenceIdeal.main_arg3)
  arg4 : (V0 m c (Proc.devRef .tc main_arg4) : IVec S1x2 32) = R0 m' c (Proc.devRef .tc Cert.ReferenceIdeal.main_arg4)

/-- What the first region leaves: the masked scores. -/
theorem region0 : (V2 m (outs1 m) c (Proc.devRef .tc main_v9) : FVec Ideal S20000x80 .f32) = score (classes (V0 m c (Proc.devRef .tc main_arg1))) (centers (V0 m c (Proc.devRef .tc main_arg3))) := by
  refine ((after0 m c main_v9).symm.trans (Pipeline.afterRegion_arr (dat0 (V1 m) c) (V1 m c) launch0.win.arr_inj (2 : Fin 3))).trans ?_
  refine (out0 (V1 m) c).trans ?_
  exact congrArg₂ score (k_classes (V0 m c)) (k_centers (V0 m c))

theorem cols_congr {a b d e a' b' d' e' : FVec Ideal S1000 .f32} (h1 : a = a') (h2 : b = b') (h3 : d = d') (h4 : e = e') :
    fourCols a b d e = fourCols a' b' d' e' := by
  rw [h1, h2, h3, h4]

variable {m m' c} (H : Same m m' c)
include H

theorem scores_same : shapeCast S1600000 (V2 m (outs1 m) c (Proc.devRef .tc main_v9) : FVec Ideal S20000x80 .f32) shapeCasts_S20000x80_S1600000
    = (R2 m' c (Proc.devRef .tc Cert.ReferenceIdeal.main_v23) : FVec Ideal S1600000 .f32) := by
  rw [region0, scores_eq, H.arg1, H.arg3]
  exact (r_scores (R0 m' c)).symm

theorem values_same : (kv m c main_values : FVec Ideal S1000 .f32) = rv m' c Cert.ReferenceIdeal.main_values := by
  rw [← up3 m c main_values (by decide), ← Ref.up3 m' c Cert.ReferenceIdeal.main_values (by decide)]
  refine (k_flat _).trans (Eq.trans ?_ (r_flat _).symm)
  rw [scores_same H]

theorem indices_same : (kv m c main_indices : IVec S1000 32) = rv m' c Cert.ReferenceIdeal.main_indices := by
  rw [← up3 m c main_indices (by decide), ← Ref.up3 m' c Cert.ReferenceIdeal.main_indices (by decide)]
  refine (k_flat_i _).trans (Eq.trans ?_ (r_flat_i _).symm)
  rw [scores_same H]

theorem valid_same : (kv m c main_v22 : IVec S1000 1) = rv m' c Cert.ReferenceIdeal.main_v30 := by
  rw [← up3 m c main_v22 (by decide), ← Ref.up3 m' c Cert.ReferenceIdeal.main_v30 (by decide)]
  refine (k_valid _).trans (Eq.trans ?_ (r_valid _).symm)
  refine congrArg₂ validOf ?_ ?_
  · have e : (V2 m (outs1 m) c (Proc.devRef .tc main_v5) : FVec Ideal S20000x80 .f32) = classes (V0 m c (Proc.devRef .tc main_arg1)) :=
      (V2_of m (outs1 m) c main_v5 (by decide)).trans (k_classes (V0 m c))
    have e' : (R2 m' c (Proc.devRef .tc Cert.ReferenceIdeal.main_v22) : IVec S_ 32) = R1 m' c (Proc.devRef .tc Cert.ReferenceIdeal.main_v22) :=
      Ref.R2_of m' c Cert.ReferenceIdeal.main_v22 (by decide)
    rw [e, count_eq, e', H.arg1]
    exact (r_count (R0 m' c)).symm
  · refine (up3 m c main_values (by decide)).trans ((values_same H).trans ?_)
    exact (Ref.up3 m' c Cert.ReferenceIdeal.main_values (by decide)).symm

theorem c80a_same : (kv m c main_c_2 : IVec S_ 32) = rv m' c Cert.ReferenceIdeal.main_c_3 := by
  rw [← up3 m c main_c_2 (by decide), ← Ref.up3 m' c Cert.ReferenceIdeal.main_c_3 (by decide)]
  exact c80a _ _

theorem div_same : (kv m c main_v23 : IVec S1000 32) = rv m' c Cert.ReferenceIdeal.main_v31 := by
  rw [← up4 m c main_v23 (by decide), ← Ref.up4 m' c Cert.ReferenceIdeal.main_v31 (by decide)]
  exact div_eq _ _ (by rw [up3 m c main_indices (by decide), Ref.up3 m' c Cert.ReferenceIdeal.main_indices (by decide)]; exact indices_same H) (by rw [up3 m c main_c_2 (by decide), Ref.up3 m' c Cert.ReferenceIdeal.main_c_3 (by decide)]; exact c80a_same H)

theorem c80b_same : (kv m c main_c_3 : IVec S_ 32) = rv m' c Cert.ReferenceIdeal.main_c_4 := by
  rw [← up5 m c main_c_3 (by decide), ← Ref.up5 m' c Cert.ReferenceIdeal.main_c_4 (by decide)]
  exact c80b _ _

theorem rem_same : (kv m c main_v24 : IVec S1000 32) = rv m' c Cert.ReferenceIdeal.main_v32 := by
  rw [← up6 m c main_v24 (by decide), ← Ref.up6 m' c Cert.ReferenceIdeal.main_v32 (by decide)]
  exact rem_eq _ _ (by rw [up5 m c main_indices (by decide), Ref.up5 m' c Cert.ReferenceIdeal.main_indices (by decide)]; exact indices_same H) (by rw [up5 m c main_c_3 (by decide), Ref.up5 m' c Cert.ReferenceIdeal.main_c_4 (by decide)]; exact c80b_same H)

theorem labels_same : (kv m c main_v26 : IVec S1000 32) = rv m' c Cert.ReferenceIdeal.main_v34 := by
  rw [← up7 m c main_v26 (by decide), ← Ref.up7 m' c Cert.ReferenceIdeal.main_v34 (by decide)]
  exact lab_eq _ _ (by rw [up6 m c main_v24 (by decide), Ref.up6 m' c Cert.ReferenceIdeal.main_v32 (by decide)]; exact rem_same H)

theorem locs_same : (kv m c main_v0 : FVec Ideal S20000x2 .f32) = rv m' c Cert.ReferenceIdeal.main_v0 := by
  rw [← up1 m c main_v0 (by decide), ← Ref.up1 m' c Cert.ReferenceIdeal.main_v0 (by decide)]
  exact locs_eq _ _ H.arg0

theorem loc_same : (kv m c main_v27 : FVec Ideal S1000x2 .f32) = rv m' c Cert.ReferenceIdeal.main_v35 := by
  rw [← up8 m c main_v27 (by decide), ← Ref.up8 m' c Cert.ReferenceIdeal.main_v35 (by decide)]
  exact loc_eq _ _ (by rw [up7 m c main_v0 (by decide), Ref.up7 m' c Cert.ReferenceIdeal.main_v0 (by decide)]; exact locs_same H) (by rw [up7 m c main_v23 (by decide), Ref.up7 m' c Cert.ReferenceIdeal.main_v31 (by decide)]; exact div_same H)

theorem dists_same : (kv m c main_v7 : FVec Ideal S20000x4 .f32) = rv m' c Cert.ReferenceIdeal.main_v36 := by
  rw [← up1 m c main_v7 (by decide), ← Ref.up9 m' c Cert.ReferenceIdeal.main_v36 (by decide)]
  refine (dists_eq (V0 m c) (R0 m' c) _ H.arg2 rfl).trans (Eq.trans ?_ (r_dists _).symm)
  refine congrArg (fun x => shapeCast S20000x4 x Cert.ReferenceIdeal.Facts₀.shapeCasts_S1x20000x4_S20000x4) ?_
  exact (Ref.up1 m' c Cert.ReferenceIdeal.main_v8 (by decide)).trans (Ref.up8 m' c Cert.ReferenceIdeal.main_v8 (by decide)).symm

theorem reg_same : (kv m c main_v28 : FVec Ideal S1000x4 .f32) = rv m' c Cert.ReferenceIdeal.main_v37 := by
  rw [← up9 m c main_v28 (by decide), ← Ref.up10 m' c Cert.ReferenceIdeal.main_v37 (by decide)]
  exact reg_eq _ _ (by rw [up8 m c main_v7 (by decide), Ref.up9 m' c Cert.ReferenceIdeal.main_v36 (by decide)]; exact dists_same H) (by rw [up8 m c main_v23 (by decide), Ref.up9 m' c Cert.ReferenceIdeal.main_v31 (by decide)]; exact div_same H)

theorem x1_same : (kv m c main_v33 : FVec Ideal S1000 .f32) = rv m' c Cert.ReferenceIdeal.main_v42 := by
  rw [← up10 m c main_v33 (by decide), ← Ref.up11 m' c Cert.ReferenceIdeal.main_v42 (by decide)]
  exact x1_eq _ _ (by rw [up9 m c main_v27 (by decide), Ref.up10 m' c Cert.ReferenceIdeal.main_v35 (by decide)]; exact loc_same H) (by rw [up9 m c main_v28 (by decide), Ref.up10 m' c Cert.ReferenceIdeal.main_v37 (by decide)]; exact reg_same H)

theorem y1_same : (kv m c main_v38 : FVec Ideal S1000 .f32) = rv m' c Cert.ReferenceIdeal.main_v47 := by
  rw [← up10 m c main_v38 (by decide), ← Ref.up11 m' c Cert.ReferenceIdeal.main_v47 (by decide)]
  exact y1_eq _ _ (by rw [up9 m c main_v27 (by decide), Ref.up10 m' c Cert.ReferenceIdeal.main_v35 (by decide)]; exact loc_same H) (by rw [up9 m c main_v28 (by decide), Ref.up10 m' c Cert.ReferenceIdeal.main_v37 (by decide)]; exact reg_same H)

theorem x2_same : (kv m c main_v43 : FVec Ideal S1000 .f32) = rv m' c Cert.ReferenceIdeal.main_v52 := by
  rw [← up10 m c main_v43 (by decide), ← Ref.up11 m' c Cert.ReferenceIdeal.main_v52 (by decide)]
  exact x2_eq _ _ (by rw [up9 m c main_v27 (by decide), Ref.up10 m' c Cert.ReferenceIdeal.main_v35 (by decide)]; exact loc_same H) (by rw [up9 m c main_v28 (by decide), Ref.up10 m' c Cert.ReferenceIdeal.main_v37 (by decide)]; exact reg_same H)

theorem y2_same : (kv m c main_v48 : FVec Ideal S1000 .f32) = rv m' c Cert.ReferenceIdeal.main_v57 := by
  rw [← up10 m c main_v48 (by decide), ← Ref.up11 m' c Cert.ReferenceIdeal.main_v57 (by decide)]
  exact y2_eq _ _ (by rw [up9 m c main_v27 (by decide), Ref.up10 m' c Cert.ReferenceIdeal.main_v35 (by decide)]; exact loc_same H) (by rw [up9 m c main_v28 (by decide), Ref.up10 m' c Cert.ReferenceIdeal.main_v37 (by decide)]; exact reg_same H)

theorem wmax_same : (kv m c main_v56 : FVec Ideal S_ .f32) = rv m' c Cert.ReferenceIdeal.main_v65 := by
  rw [← up10 m c main_v56 (by decide), ← Ref.up11 m' c Cert.ReferenceIdeal.main_v65 (by decide)]
  refine wmax_eq _ _ ?_
  have e : (V9 m (outs1 m) c (Proc.devRef .tc main_arg4) : IVec S1x2 32) = V0 m c (Proc.devRef .tc main_arg4) :=
    (up9 m c main_arg4 (by decide)).trans (up0 m c main_arg4 (by decide)).symm
  have e' : (R10 m' c (Proc.devRef .tc Cert.ReferenceIdeal.main_v4) : IVec Cert.ReferenceIdeal.S2 32) = R1 m' c (Proc.devRef .tc Cert.ReferenceIdeal.main_v4) :=
    (Ref.up10 m' c Cert.ReferenceIdeal.main_v4 (by decide)).trans (Ref.up1 m' c Cert.ReferenceIdeal.main_v4 (by decide)).symm
  rw [e, e', H.arg4]
  exact r_sizes (R0 m' c)

theorem hmax_same : (kv m c main_v58 : FVec Ideal S_ .f32) = rv m' c Cert.ReferenceIdeal.main_v67 := by
  rw [← up10 m c main_v58 (by decide), ← Ref.up11 m' c Cert.ReferenceIdeal.main_v67 (by decide)]
  refine hmax_eq _ _ ?_
  have e : (V9 m (outs1 m) c (Proc.devRef .tc main_arg4) : IVec S1x2 32) = V0 m c (Proc.devRef .tc main_arg4) :=
    (up9 m c main_arg4 (by decide)).trans (up0 m c main_arg4 (by decide)).symm
  have e' : (R10 m' c (Proc.devRef .tc Cert.ReferenceIdeal.main_v4) : IVec Cert.ReferenceIdeal.S2 32) = R1 m' c (Proc.devRef .tc Cert.ReferenceIdeal.main_v4) :=
    (Ref.up10 m' c Cert.ReferenceIdeal.main_v4 (by decide)).trans (Ref.up1 m' c Cert.ReferenceIdeal.main_v4 (by decide)).symm
  rw [e, e', H.arg4]
  exact r_sizes (R0 m' c)

theorem clip_a_same : (kv m c main_v59 : FVec Ideal S1000 .f32) = rv m' c Cert.ReferenceIdeal.main_v71 := by
  rw [← up11 m c main_v59 (by decide), ← Ref.up11 m' c Cert.ReferenceIdeal.main_v71 (by decide)]
  refine (clip_a _ (clip0_a _)).trans (Eq.trans ?_ (rclip_a _).symm)
  refine congrArg₂ clip ?_ ?_
  · refine (up10 m c main_v33 (by decide)).trans ((x1_same H).trans ?_)
    exact (Ref.up11 m' c Cert.ReferenceIdeal.main_v42 (by decide)).symm
  · refine (up10 m c main_v56 (by decide)).trans ((wmax_same H).trans ?_)
    exact (Ref.up11 m' c Cert.ReferenceIdeal.main_v65 (by decide)).symm

theorem clip_b_same : (kv m c main_v60 : FVec Ideal S1000 .f32) = rv m' c Cert.ReferenceIdeal.main_v75 := by
  rw [← up13 m c main_v60 (by decide), ← Ref.up11 m' c Cert.ReferenceIdeal.main_v75 (by decide)]
  refine (clip_b _ (clip0_b _)).trans (Eq.trans ?_ (rclip_b _).symm)
  refine congrArg₂ clip ?_ ?_
  · refine (up12 m c main_v43 (by decide)).trans ((x2_same H).trans ?_)
    exact (Ref.up11 m' c Cert.ReferenceIdeal.main_v52 (by decide)).symm
  · refine (up12 m c main_v56 (by decide)).trans ((wmax_same H).trans ?_)
    exact (Ref.up11 m' c Cert.ReferenceIdeal.main_v65 (by decide)).symm

theorem clip_c_same : (kv m c main_v61 : FVec Ideal S1000 .f32) = rv m' c Cert.ReferenceIdeal.main_v79 := by
  rw [← up15 m c main_v61 (by decide), ← Ref.up11 m' c Cert.ReferenceIdeal.main_v79 (by decide)]
  refine (clip_c _ (clip0_c _)).trans (Eq.trans ?_ (rclip_c _).symm)
  refine congrArg₂ clip ?_ ?_
  · refine (up14 m c main_v38 (by decide)).trans ((y1_same H).trans ?_)
    exact (Ref.up11 m' c Cert.ReferenceIdeal.main_v47 (by decide)).symm
  · refine (up14 m c main_v58 (by decide)).trans ((hmax_same H).trans ?_)
    exact (Ref.up11 m' c Cert.ReferenceIdeal.main_v67 (by decide)).symm

theorem clip_d_same : (kv m c main_v62 : FVec Ideal S1000 .f32) = rv m' c Cert.ReferenceIdeal.main_v83 := by
  rw [← up17 m c main_v62 (by decide), ← Ref.up11 m' c Cert.ReferenceIdeal.main_v83 (by decide)]
  refine (clip_d _ (clip0_d _)).trans (Eq.trans ?_ (rclip_d _).symm)
  refine congrArg₂ clip ?_ ?_
  · refine (up16 m c main_v48 (by decide)).trans ((y2_same H).trans ?_)
    exact (Ref.up11 m' c Cert.ReferenceIdeal.main_v57 (by decide)).symm
  · refine (up16 m c main_v58 (by decide)).trans ((hmax_same H).trans ?_)
    exact (Ref.up11 m' c Cert.ReferenceIdeal.main_v67 (by decide)).symm

theorem boxes_same : (kv m c main_v67 : FVec Ideal S1000x4 .f32) = rv m' c Cert.ReferenceIdeal.main_v88 := by
  rw [← up18 m c main_v67 (by decide), ← Ref.up11 m' c Cert.ReferenceIdeal.main_v88 (by decide)]
  refine (cols_k _).trans (Eq.trans ?_ (cols_r _).symm)
  refine cols_congr ?_ ?_ ?_ ?_
  · refine (up17 m c main_v59 (by decide)).trans ((clip_a_same H).trans ?_)
    exact (Ref.up11 m' c Cert.ReferenceIdeal.main_v71 (by decide)).symm
  · refine (up17 m c main_v61 (by decide)).trans ((clip_c_same H).trans ?_)
    exact (Ref.up11 m' c Cert.ReferenceIdeal.main_v79 (by decide)).symm
  · refine (up17 m c main_v60 (by decide)).trans ((clip_b_same H).trans ?_)
    exact (Ref.up11 m' c Cert.ReferenceIdeal.main_v75 (by decide)).symm
  · refine (up17 m c main_v62 (by decide)).trans ((clip_d_same H).trans ?_)
    exact (Ref.up11 m' c Cert.ReferenceIdeal.main_v83 (by decide)).symm

theorem pos_same : (kv m c main_v70 : IVec S1000 1) = rv m' c Cert.ReferenceIdeal.main_v91 := by
  rw [← up18 m c main_v70 (by decide), ← Ref.up11 m' c Cert.ReferenceIdeal.main_v91 (by decide)]
  exact pos_eq _ _ (by rw [up17 m c main_v22 (by decide), Ref.up10 m' c Cert.ReferenceIdeal.main_v30 (by decide)]; exact valid_same H) (by rw [up17 m c main_values (by decide), Ref.up10 m' c Cert.ReferenceIdeal.main_values (by decide)]; exact values_same H)

theorem one_same : (kv m c main_cst_14 : FVec Ideal S_ .f32) = rv m' c Cert.ReferenceIdeal.main_cst_15 := by
  rw [← up18 m c main_cst_14 (by decide), ← Ref.up11 m' c Cert.ReferenceIdeal.main_cst_15 (by decide)]
  exact one_eq _ _

theorem safe_same : (kv m c main_v71 : FVec Ideal S1000 .f32) = rv m' c Cert.ReferenceIdeal.main_v92 := by
  rw [← up19 m c main_v71 (by decide), ← Ref.up12 m' c Cert.ReferenceIdeal.main_v92 (by decide)]
  exact safe_eq _ _ (by rw [up18 m c main_cst_14 (by decide), Ref.up11 m' c Cert.ReferenceIdeal.main_cst_15 (by decide)]; exact one_same H) (by rw [up18 m c main_v70 (by decide), Ref.up11 m' c Cert.ReferenceIdeal.main_v91 (by decide)]; exact pos_same H) (by rw [up18 m c main_values (by decide), Ref.up11 m' c Cert.ReferenceIdeal.main_values (by decide)]; exact values_same H)

theorem sqrt_same : (kv m c main_v72 : FVec Ideal S1000 .f32) = rv m' c Cert.ReferenceIdeal.main_v93 := by
  rw [← up20 m c main_v72 (by decide), ← Ref.up13 m' c Cert.ReferenceIdeal.main_v93 (by decide)]
  exact sqrt_eq _ _ (by rw [up19 m c main_v71 (by decide), Ref.up12 m' c Cert.ReferenceIdeal.main_v92 (by decide)]; exact safe_same H)

theorem zero_same : (kv m c main_cst_15 : FVec Ideal S_ .f32) = rv m' c Cert.ReferenceIdeal.main_cst_16 := by
  rw [← up20 m c main_cst_15 (by decide), ← Ref.up13 m' c Cert.ReferenceIdeal.main_cst_16 (by decide)]
  exact zero_eq _ _

theorem det_same : (kv m c main_v73 : FVec Ideal S1000 .f32) = rv m' c Cert.ReferenceIdeal.main_v94 := by
  rw [← up21 m c main_v73 (by decide), ← Ref.up14 m' c Cert.ReferenceIdeal.main_v94 (by decide)]
  exact det_eq _ _ (by rw [up20 m c main_cst_15 (by decide), Ref.up13 m' c Cert.ReferenceIdeal.main_cst_16 (by decide)]; exact zero_same H) (by rw [up20 m c main_v22 (by decide), Ref.up13 m' c Cert.ReferenceIdeal.main_v30 (by decide)]; exact valid_same H) (by rw [up20 m c main_v72 (by decide), Ref.up13 m' c Cert.ReferenceIdeal.main_v93 (by decide)]; exact sqrt_same H)

theorem bot_same : (kv m c main_cst_16 : FVec Ideal S_ .f32) = rv m' c Cert.ReferenceIdeal.main_cst_18 := by
  rw [← up22 m c main_cst_16 (by decide), ← Ref.up15 m' c Cert.ReferenceIdeal.main_cst_18 (by decide)]
  exact bot_eq _ _

theorem s_same : (kv m c main_v74 : FVec Ideal S1000 .f32) = rv m' c Cert.ReferenceIdeal.main_v101 := by
  rw [← up23 m c main_v74 (by decide), ← Ref.up16 m' c Cert.ReferenceIdeal.main_v101 (by decide)]
  exact s_eq _ _ (by rw [up22 m c main_cst_16 (by decide), Ref.up15 m' c Cert.ReferenceIdeal.main_cst_18 (by decide)]; exact bot_same H) (by rw [up22 m c main_v22 (by decide), Ref.up15 m' c Cert.ReferenceIdeal.main_v30 (by decide)]; exact valid_same H) (by rw [up22 m c main_v73 (by decide), Ref.up15 m' c Cert.ReferenceIdeal.main_v94 (by decide)]; exact det_same H)

theorem neg_same : (kv m c main_v75 : FVec Ideal S1000 .f32) = rv m' c Cert.ReferenceIdeal.main_v102 := by
  rw [← up24 m c main_v75 (by decide), ← Ref.up17 m' c Cert.ReferenceIdeal.main_v102 (by decide)]
  exact neg_eq _ _ (by rw [up23 m c main_v74 (by decide), Ref.up16 m' c Cert.ReferenceIdeal.main_v101 (by decide)]; exact s_same H)

theorem order_same : (kv m c main_v76 : IVec S1000 32) = rv m' c Cert.ReferenceIdeal.main_v103 := by
  rw [← up25 m c main_v76 (by decide), ← Ref.up18 m' c Cert.ReferenceIdeal.main_v103 (by decide)]
  exact order_eq _ _ (by rw [up24 m c main_v75 (by decide), Ref.up17 m' c Cert.ReferenceIdeal.main_v102 (by decide)]; exact neg_same H)

end Cert.Proof.Nms

end
-- ==== Proof.Nms.KerTail.lean ====
/-
  The kernel after its candidates are ordered: the reads by the order, the padding to 1024, the eight inputs of the
  suppression region, and the slices of its results, each stretch's result as one expression and entry by entry.
-/
module

public import proofs.«01_k».proof.Proof.Nms.Up
public import proofs.«01_k».proof.Proof.Nms.Take
public import Idealize.ShloMosaic.Lib.StableHlo.RunRead
public import Idealize.ShloMosaic.Lib.StableHlo.RunClose

@[expose] public section

set_option maxRecDepth 8192

noncomputable section

namespace Cert.Proof.Nms

open Cert.KernelIdeal Cert.KernelIdeal.Gen
open Idealize.ShloMosaic hiding ix1 ix2 ix3 ix4 ix5 eq_ix1 eq_ix2 eq_ix3 eq_ix4
open Idealize.ShloMosaic.ValueIdx
open Idealize.ShloMosaic.TcCoe
open Idealize.ShloMosaic.StableHlo (after)

/-- The rows of `x` in the order of `idx`. -/
def orderRows (x : FVec Ideal S1000x4 .f32) (idx : IVec S1000 32) : FVec Ideal S1000x4 .f32 :=
  takeRows (B := 1000) bcast_S_S1000 bcast_S1000_S1000x1_0 bcast_S_S1000x1 bcast_S1_S1x1_1 bcast_S1x1_S1000x1_0_1 reducesTo_S1000x1_S1000_d1 h_S_
    bcast_S1000_S1000x4_0 bcast_S_S1000x4 gather_S1000x4_S1000x1_S1000x4_1_0_n_n_0_1_14.wf (Ideal.ofBits .f32 0x7FC00000#32) x idx

/-- The entries of `x` in the order of `idx`. -/
def orderOnes {α : Type} (z : α) (x : S1000.Idx → α) (idx : IVec S1000 32) : S1000.Idx → α :=
  takeOnes (B := 1000) bcast_S_S1000 bcast_S1000_S1000x1_0 bcast_S_S1000x1 bcast_S1_S1x1_1 bcast_S1x1_S1000x1_0_1 reducesTo_S1000x1_S1000_d1 h_S_
    gather_S1000_S1000x1_S1000_n_0_n_n_0_1_1.wf z x idx

theorem orderRows_apply (x : FVec Ideal S1000x4 .f32) (idx : IVec S1000 32) (j k : Fin 1000) (q : Fin 4) (e : idx (ix1 j) = BitVec.ofNat 32 k.val) :
    orderRows x idx (ix2 j q) = x (ix2 k q) := takeRows_apply _ _ _ _ _ _ _ _ _ _ _ x idx j q k e

theorem orderOnes_apply {α : Type} (z : α) (x : S1000.Idx → α) (idx : IVec S1000 32) (j k : Fin 1000) (e : idx (ix1 j) = BitVec.ofNat 32 k.val) :
    orderOnes z x idx (ix1 j) = x (ix1 k) := takeOnes_apply _ _ _ _ _ _ _ _ _ x idx j k e

/-- A family on 1000 places continued by `z` to 1024. -/
def ext {α : Type} (z : α) (f : Fin 1000 → α) (i : Fin 1024) : α := if h : i.val < 1000 then f ⟨i.val, h⟩ else z

theorem ext_castLE {α : Type} (z : α) (f : Fin 1000 → α) (i : Fin 1000) : ext z f (i.castLE (by decide)) = f i := by
  unfold ext
  exact dif_pos i.isLt

theorem ext_pad {α : Type} (z : α) (f : Fin 1000 → α) (i : Fin 1024) (h : 1000 ≤ i.val) : ext z f i = z := by
  unfold ext
  exact dif_neg (by omega)

/-- 24 rows of zeros below the boxes. -/
def padRows (x : FVec Ideal S1000x4 .f32) : FVec Ideal S1024x4 .f32 :=
  concatenate S1024x4 0 [⟨S1000x4, x⟩, ⟨S24x4, broadcastInDim S24x4 ![] bcast_S_S24x4 (constant (F := Ideal) S_ .f32 0x00000000#32)⟩] concatenates_S1000x4_S24x4_S1024x4_d0

/-- 24 entries of the number of bits `z` after the 1000. -/
def padOnes (z : BitVec 32) (x : FVec Ideal S1000 .f32) : FVec Ideal S1024 .f32 :=
  concatenate S1024 0 [⟨S1000, x⟩, ⟨S24, broadcastInDim S24 ![] bcast_S_S24 (constant (F := Ideal) S_ .f32 z)⟩] concatenates_S1000_S24_S1024_d0

theorem padRows_apply (x : FVec Ideal S1000x4 .f32) (i : Fin 1024) (k : Fin 4) :
    padRows x (ix2 i k) = ext (Ideal.ofBits .f32 0x00000000#32) (fun j => x (ix2 j k)) i := by
  unfold padRows ext
  by_cases h : i.val < 1000
  · rw [dif_pos h]
    exact concatenate_pair_apply_left (0 : Fin S1024x4.rank) x _ _ (ix2 i k) rfl (ix2 ⟨i.val, h⟩ k) (fun b => by
      match b with
      | ⟨0, _⟩ => rfl
      | ⟨1, _⟩ => rfl)
  · rw [dif_neg h]
    have hi := i.isLt
    exact concatenate_pair_apply_right (s₂ := S24x4) (0 : Fin S1024x4.rank) x _ _ (ix2 i k) rfl rfl (ix2 (⟨i.val - 1000, by omega⟩ : Fin 24) k) (fun b hb => by
      match b with
      | ⟨0, _⟩ => exact absurd rfl hb
      | ⟨1, _⟩ => rfl) (by
      show i.val - 1000 + 1000 = i.val
      omega)

theorem padOnes_apply (z : BitVec 32) (x : FVec Ideal S1000 .f32) (i : Fin 1024) :
    padOnes z x (ix1 i) = ext (Ideal.ofBits .f32 z) (fun j => x (ix1 j)) i := by
  unfold padOnes ext
  by_cases h : i.val < 1000
  · rw [dif_pos h]
    exact concatenate_pair_apply_left (0 : Fin S1024.rank) x _ _ (ix1 i) rfl (ix1 ⟨i.val, h⟩) (fun b => by
      match b with
      | ⟨0, _⟩ => rfl)
  · rw [dif_neg h]
    have hi := i.isLt
    exact concatenate_pair_apply_right (s₂ := S24) (0 : Fin S1024.rank) x _ _ (ix1 i) rfl rfl (ix1 (⟨i.val - 1000, by omega⟩ : Fin 24)) (fun b hb => by
      match b with
      | ⟨0, _⟩ => exact absurd rfl hb) (by
      show i.val - 1000 + 1000 = i.val
      omega)

/-- One entry a row. -/
def asColumn (x : FVec Ideal S1024 .f32) : FVec Ideal S1024x1 .f32 := shapeCast S1024x1 x shapeCasts_S1024_S1024x1
/-- One entry a column. -/
def asRow (x : FVec Ideal S1024 .f32) : FVec Ideal S1x1024 .f32 := shapeCast S1x1024 x shapeCasts_S1024_S1x1024
/-- The boxes turned on their side. -/
def turned (x : FVec Ideal S1024x4 .f32) : FVec Ideal S4x1024 .f32 := transpose S4x1024 [1, 0] x transposes_S1024x4_S4x1024_1_0

theorem asColumn_apply (x : FVec Ideal S1024 .f32) (i : Fin 1024) : asColumn x (ix2 i (0 : Fin 1)) = x (ix1 i) :=
  shapeCast_apply x _ _ (ix1 i) (by
    rw [Shape.rowMajor_val_two, Shape.rowMajor_val_one]
    show i.val = i.val * 1 + 0
    omega)
theorem asRow_apply (x : FVec Ideal S1024 .f32) (i : Fin 1024) : asRow x (ix2 (0 : Fin 1) i) = x (ix1 i) :=
  shapeCast_apply x _ _ (ix1 i) (by
    rw [Shape.rowMajor_val_two, Shape.rowMajor_val_one]
    show i.val = 0 * 1024 + i.val
    omega)
theorem turned_apply (x : FVec Ideal S1024x4 .f32) (i : Fin 1024) (k : Fin 4) : turned x (ix2 k i) = x (ix2 i k) :=
  transpose_apply [1, 0] x _ (ix2 k i) (ix2 i k) (fun b => by
    match b with
    | ⟨0, _⟩ => rfl
    | ⟨1, _⟩ => rfl)

/-- The first hundred entries of a column of 128. -/
def firstOnes (x : FVec Ideal S128x1 .f32) : FVec Ideal S100 .f32 :=
  shapeCast S100 (extractStridedSlice S100x1 ![0, 0] x slices_S128x1_S100x1_0_0) shapeCasts_S100x1_S100
/-- The first hundred rows of 128. -/
def firstRows (x : FVec Ideal S128x4 .f32) : FVec Ideal S100x4 .f32 :=
  extractStridedSlice S100x4 ![0, 0] x slices_S128x4_S100x4_0_0

theorem firstOnes_apply (x : FVec Ideal S128x1 .f32) (r : Fin 100) : firstOnes x (ix1 r) = x (ix2 (r.castLE (by decide) : Fin 128) (0 : Fin 1)) := by
  unfold firstOnes
  refine (shapeCast_apply _ _ (ix1 r) (ix2 r (0 : Fin 1)) (by
    rw [Shape.rowMajor_val_two, Shape.rowMajor_val_one]
    show r.val * 1 + 0 = r.val
    omega)).trans ?_
  exact extractStridedSlice_apply _ x _ _ (ix2 (r.castLE (by decide) : Fin 128) (0 : Fin 1)) (fun a => by
    match a with
    | ⟨0, _⟩ => exact (Nat.zero_add _).symm
    | ⟨1, _⟩ => rfl)
theorem firstRows_apply (x : FVec Ideal S128x4 .f32) (r : Fin 100) (q : Fin 4) : firstRows x (ix2 r q) = x (ix2 (r.castLE (by decide) : Fin 128) q) := by
  unfold firstRows
  exact extractStridedSlice_apply _ x _ _ (ix2 (r.castLE (by decide) : Fin 128) q) (fun a => by
    match a with
    | ⟨0, _⟩ => exact (Nat.zero_add _).symm
    | ⟨1, _⟩ => exact (Nat.zero_add _).symm)

/-- A label read as a number and back is the label. -/
theorem label_back (b : BitVec 32) : FloatOps.fptosi (F := Ideal) (φ := .f32) 32 (FloatOps.sitofp .f32 b) = b := by
  show BitVec.ofInt 32 (Ideal.toIntClamped (-(2 ^ (32 - 1) : Nat)) ((2 ^ (32 - 1) : Nat) - 1) ((b.toInt : ℝ) : EReal)) = b
  have h1 : -(2 ^ 31 : Int) ≤ b.toInt := BitVec.le_toInt b
  have h2 : b.toInt < 2 ^ 31 := BitVec.toInt_lt
  rw [Ideal.toIntClamped_coe, Int.floor_intCast, Int.ceil_intCast, ite_self]
  have e : max (-(2 ^ (32 - 1) : Nat) : Int) (min ((2 ^ (32 - 1) : Nat) - 1) b.toInt) = b.toInt := by
    rw [min_eq_right (by norm_num; omega), max_eq_right (by norm_num; omega)]
  rw [e, BitVec.ofInt_toInt]

/-- The flags as numbers. -/
def flags (v : IVec S1000 1) : FVec Ideal S1000 .f32 := uitofp .f32 v
/-- The labels as numbers. -/
def labelNums (v : IVec S1000 32) : FVec Ideal S1000 .f32 := sitofp .f32 v

variable (V : Valuation τ sig (Elt Ideal))

theorem take_boxes : (after hostOps1_23 V (Proc.devRef .tc main_v77) : FVec Ideal S1000x4 .f32)
    = orderRows (V (Proc.devRef .tc main_v67)) (V (Proc.devRef .tc main_v76)) := by
  after_reads_simp
  rfl

theorem take_ok : (after hostOps1_24 V (Proc.devRef .tc main_v78) : IVec S1000 1)
    = orderOnes 1#1 (V (Proc.devRef .tc main_v22)) (V (Proc.devRef .tc main_v76)) := by
  after_reads_simp
  rfl

theorem flag_ok : (after hostOps1_25 V (Proc.devRef .tc main_v79) : FVec Ideal S1000 .f32)
    = flags (V (Proc.devRef .tc main_v78)) := by
  after_reads_simp
  rfl

theorem take_scores : (after hostOps1_26 V (Proc.devRef .tc main_v80) : FVec Ideal S1000 .f32)
    = orderOnes (Ideal.ofBits .f32 0x7FC00000#32) (V (Proc.devRef .tc main_v74)) (V (Proc.devRef .tc main_v76)) := by
  after_reads_simp
  rfl

theorem take_labels : (after hostOps1_27 V (Proc.devRef .tc main_v81) : IVec S1000 32)
    = orderOnes 2147483648#32 (V (Proc.devRef .tc main_v26)) (V (Proc.devRef .tc main_v76)) := by
  after_reads_simp
  rfl

theorem win0 : (after hostOps1_28 V (Proc.devRef .tc main_v84) : FVec Ideal S1024x4 .f32)
    = padRows (V (Proc.devRef .tc main_v77)) := by
  after_reads_simp
  rfl

theorem win1 : (after hostOps1_28 V (Proc.devRef .tc main_v91) : FVec Ideal S4x1024 .f32)
    = turned (padRows (V (Proc.devRef .tc main_v77))) := by
  after_reads_simp
  rfl

theorem win2 : (after hostOps1_28 V (Proc.devRef .tc main_v92) : FVec Ideal S1024x1 .f32)
    = asColumn (padOnes 0xFF800000#32 (V (Proc.devRef .tc main_v80))) := by
  after_reads_simp
  rfl

theorem win3 : (after hostOps1_28 V (Proc.devRef .tc main_v93) : FVec Ideal S1x1024 .f32)
    = asRow (padOnes 0xFF800000#32 (V (Proc.devRef .tc main_v80))) := by
  after_reads_simp
  rfl

theorem win4 : (after hostOps1_28 V (Proc.devRef .tc main_v94) : FVec Ideal S1024x1 .f32)
    = asColumn (padOnes 0x00000000#32 (labelNums (V (Proc.devRef .tc main_v81)))) := by
  after_reads_simp
  rfl

theorem win5 : (after hostOps1_28 V (Proc.devRef .tc main_v95) : FVec Ideal S1x1024 .f32)
    = asRow (padOnes 0x00000000#32 (labelNums (V (Proc.devRef .tc main_v81)))) := by
  after_reads_simp
  rfl

theorem win6 : (after hostOps1_28 V (Proc.devRef .tc main_v96) : FVec Ideal S1024x1 .f32)
    = asColumn (padOnes 0x00000000#32 (V (Proc.devRef .tc main_v79))) := by
  after_reads_simp
  rfl

theorem win7 : (after hostOps1_28 V (Proc.devRef .tc main_v97) : FVec Ideal S1x1024 .f32)
    = asRow (padOnes 0x00000000#32 (V (Proc.devRef .tc main_v79))) := by
  after_reads_simp
  rfl

theorem res0 : (after hostOps2 V (Proc.devRef .tc main_v99) : FVec Ideal S100x4 .f32)
    = firstRows (V (Proc.devRef .tc main_v98_0)) := by
  after_reads_simp
  rfl

theorem res1 : (after hostOps2 V (Proc.devRef .tc main_v101) : FVec Ideal S100 .f32)
    = firstOnes (V (Proc.devRef .tc main_v98_1)) := by
  after_reads_simp
  rfl

theorem res2 : (after hostOps2 V (Proc.devRef .tc main_v104) : IVec S100 32)
    = fptosi 32 (firstOnes (V (Proc.devRef .tc main_v98_2))) := by
  after_reads_simp
  rfl

end Cert.Proof.Nms

end
-- ==== Proof.Nms.Grid.lean ====
/-
  What the second kernel writes: each surviving candidate's place in the order of the scores, the one-hot matrix of the
  places, and the entries that its rows pick out of the boxes, scores and labels.
-/
module

public import proofs.«01_k».proof.Proof.Nms.Mask

@[expose] public section

set_option maxRecDepth 1860

noncomputable section

namespace Cert.Proof.Nms

open Cert.KernelIdeal Cert.KernelIdeal.Gen

open Idealize.ShloMosaic hiding ix1 ix2 ix3 ix4 eq_ix1 eq_ix2 eq_ix3 eq_ix4
open Idealize.ShloMosaic.ValueIdx
open Idealize.ShloMosaic.TcCoe

/-- Minus infinity. -/
theorem ofBits_bot : Ideal.ofBits .f32 0xFF800000#32 = (⊥ : EReal) := by simp [Ideal.ofBits, Ideal.ieee]

/-- A float comparison `=` at an entry. -/
theorem cmpf_oeq_iff {φ : FTy} (a b : Ideal φ) : FloatOps.cmpf (F := Ideal) .oeq a b = 1#1 ↔ (a : EReal) = b := by
  show Ideal.cmp .oeq a b = 1#1 ↔ _
  by_cases h : (a : EReal) = b <;> simp [Ideal.cmp, h]

open Classical in
/-- A bit widened and read as a number is 1 or 0. -/
theorem bit_value (b : BitVec 1) : (FloatOps.sitofp .f32 (b.setWidth 32) : Ideal .f32) = if b = 1#1 then (1 : EReal) else 0 := by
  rcases BitVec.eq_zero_or_eq_one b with rfl | rfl
  · rw [if_neg (by decide)]
    show ((((0#1).setWidth 32).toInt : ℝ) : EReal) = 0
    rw [show ((0#1).setWidth 32).toInt = 0 by decide]; simp
  · rw [if_pos rfl]
    show ((((1#1).setWidth 32).toInt : ℝ) : EReal) = 1
    rw [show ((1#1).setWidth 32).toInt = 1 by decide]; simp

/-- A small natural word read as a number. -/
theorem nat_value (n : ℕ) (h : n < 2147483648) : (FloatOps.sitofp .f32 (BitVec.ofNat 32 n) : Ideal .f32) = ((n : ℝ) : EReal) := by
  show ((((BitVec.ofNat 32 n).toInt : ℤ) : ℝ) : EReal) = _
  rw [toInt_ofNat n h]; norm_cast

theorem bcast_places {α : Type} (x : S1x1024.Idx → α) (i : Fin 128) (j : Fin 1024) :
    broadcastTo S128x1024 x broadcasts_S1x1024_S128x1024 (ix2 i j) = x (ix2 (0 : Fin 1) j) :=
  broadcastTo_apply x _ _ _ fun a => by match a with | ⟨0, _⟩ => rfl | ⟨1, _⟩ => rfl

/-- A sum down the first axis. -/
theorem sum_first {M N : ℕ} (x : FVec Ideal (⟨2, ![M, N]⟩ : Shape) .f32) (h : (⟨2, ![M, N]⟩ : Shape).Reduces [0] ⟨1, ![N]⟩)
    (hφ : FKind.Formats .f32) (hacc : 0x00000000#32 = FKind.add.neutral .f32 hφ) (j : Fin N) :
    multiReduction .add [0] ⟨1, ![N]⟩ x 0x00000000#32 h hφ hacc (ix1 j) = ∑ i : Fin M, (x (ix2 i j) : EReal) := by
  rw [Ideal.multiReduction_add_single]
  refine Finset.sum_congr rfl fun i _ => congrArg x ?_
  funext a; match a with | ⟨0, _⟩ => rfl | ⟨1, _⟩ => rfl

/-- A sum along the second axis. -/
theorem sum_second {M N : ℕ} (x : FVec Ideal (⟨2, ![M, N]⟩ : Shape) .f32) (h : (⟨2, ![M, N]⟩ : Shape).Reduces [1] ⟨1, ![M]⟩)
    (hφ : FKind.Formats .f32) (hacc : 0x00000000#32 = FKind.add.neutral .f32 hφ) (j : Fin M) :
    multiReduction .add [1] ⟨1, ![M]⟩ x 0x00000000#32 h hφ hacc (ix1 j) = ∑ i : Fin N, (x (ix2 j i) : EReal) := by
  rw [Ideal.multiReduction_add_single]
  refine Finset.sum_congr rfl fun i _ => congrArg x ?_
  funext a; match a with | ⟨0, _⟩ => rfl | ⟨1, _⟩ => rfl

theorem sum_down (x : FVec Ideal S1024x1024 .f32) (j : Fin 1024) :
    multiReduction .add [0] S1024 x 0x00000000#32 reduces_S1024x1024_S1024 (.inl rfl) rfl (ix1 j) = ∑ i : Fin 1024, (x (ix2 i j) : EReal) :=
  sum_first (M := 1024) (N := 1024) x reduces_S1024x1024_S1024 _ _ j

theorem sum_along (x : FVec Ideal S128x1024 .f32) (p : Fin 128) :
    multiReduction .add [1] S128 x 0x00000000#32 reduces_S128x1024_S128 (.inl rfl) rfl (ix1 p) = ∑ j : Fin 1024, (x (ix2 p j) : EReal) :=
  sum_second (M := 128) (N := 1024) x reduces_S128x1024_S128 _ _ p

theorem cast_out {α : Type} (x : S128.Idx → α) (p : Fin 128) : shapeCast S128x1 x shapeCasts_S128_S128x1 (ix2 p (0 : Fin 1)) = x (ix1 p) :=
  shapeCast_apply x _ _ _ (by
    rw [Shape.rowMajor_val_two, Shape.rowMajor_val_one]
    show p.val = p.val * 1 + 0
    omega)
theorem cast_rank {α : Type} (x : S1024.Idx → α) (j : Fin 1024) : shapeCast S1x1024 x shapeCasts_S1024_S1x1024 (ix2 (0 : Fin 1) j) = x (ix1 j) :=
  shapeCast_apply x _ _ _ (by
    rw [Shape.rowMajor_val_two, Shape.rowMajor_val_one]
    show j.val = 0 * 1024 + j.val
    omega)

section Places

variable (kc : FVec Ideal S1024x1 .f32) (kr : FVec Ideal S1x1024 .f32) (s : Vec Ideal S1024x1 .f32) (t : Vec Ideal S1x1024 .f32)
  (f : Fin 1024 → EReal)

open Classical in
theorem pay22_apply (hr : ∀ j, f j = if (0 : EReal) < kr (ix2 (0 : Fin 1) j) then (t (ix2 (0 : Fin 1) j) : EReal) else ⊥) (j : Fin 1024) :
    k1_pay22 kr t (ix2 (0 : Fin 1) j) = f j := by
  unfold k1_pay22
  rw [cast_row]
  show Scalar.select (FloatOps.cmpf (F := Ideal) .ogt (kr (ix2 (0 : Fin 1) j)) (Ideal.ofBits .f32 0x00000000#32)) (t (ix2 (0 : Fin 1) j)) (Ideal.ofBits .f32 0xFF800000#32) = _
  rw [select_of_iff (cmpf_ogt_iff _ _), Ideal.ofBits_zero_f32, ofBits_bot, hr]

open Classical in
/-- The one-hot matrix: row `p` is 1 at the candidate that `p` others come before. -/
theorem places_apply (hc : ∀ i, f i = if (0 : EReal) < kc (ix2 i (0 : Fin 1)) then (s (ix2 i (0 : Fin 1)) : EReal) else ⊥)
    (hr : ∀ j, f j = if (0 : EReal) < kr (ix2 (0 : Fin 1) j) then (t (ix2 (0 : Fin 1) j) : EReal) else ⊥) (p : Fin 128) (j : Fin 1024) :
    places kc kr s t (ix2 p j) = if (Finset.univ.filter fun i => Above f i j).card = p.val then (1 : EReal) else 0 := by
  have hrow := pay22_apply kr t f hr
  unfold places k1_pay23
  revert hrow
  generalize k1_pay22 kr t = fr
  intro hrow
  have hcol : ∀ i : Fin 1024, select (cmpf .ogt kc (broadcast S1024x1 (Scalar.ofBits .f32 0x00000000#32 : Ideal .f32))) (shapeCast S1024x1 s shapeCasts_S1024x1_S1024x1)
      (broadcast S1024x1 (Scalar.ofBits .f32 0xFF800000#32 : Ideal .f32)) (ix2 i (0 : Fin 1)) = f i := by
    intro i
    rw [cast_col]
    show Scalar.select (FloatOps.cmpf (F := Ideal) .ogt (kc (ix2 i (0 : Fin 1))) (Ideal.ofBits .f32 0x00000000#32)) (s (ix2 i (0 : Fin 1))) (Ideal.ofBits .f32 0xFF800000#32) = _
    rw [select_of_iff (cmpf_ogt_iff _ _), Ideal.ofBits_zero_f32, ofBits_bot, hc]
  revert hcol
  generalize select (cmpf .ogt kc (broadcast S1024x1 (Scalar.ofBits .f32 0x00000000#32 : Ideal .f32))) (shapeCast S1024x1 s shapeCasts_S1024x1_S1024x1)
      (broadcast S1024x1 (Scalar.ofBits .f32 0xFF800000#32 : Ideal .f32)) = fc
  intro hcol
  have hsum : multiReduction .add [0] S1024
      (sitofp .f32 (extui 32 (ori (cmpf .ogt (broadcastTo S1024x1024 fc broadcasts_S1024x1_S1024x1024) (broadcastTo S1024x1024 fr broadcasts_S1x1024_S1024x1024))
        (andi (cmpf .oeq (broadcastTo S1024x1024 fc broadcasts_S1024x1_S1024x1024) (broadcastTo S1024x1024 fr broadcasts_S1x1024_S1024x1024))
          (cmpi .slt (iota .tc S1024x1024 32 [0] iota_S1024x1024_d0_w32) (iota .tc S1024x1024 32 [1] iota_S1024x1024_d1_w32)))) natLt_1_32) : FVec Ideal S1024x1024 .f32)
      0x00000000#32 reduces_S1024x1024_S1024 (.inl rfl) rfl (ix1 j) = (((Finset.univ.filter fun i => Above f i j).card : ℝ) : EReal) := by
    rw [sum_down]
    have hent : ∀ i : Fin 1024, ((sitofp .f32 (extui 32 (ori (cmpf .ogt (broadcastTo S1024x1024 fc broadcasts_S1024x1_S1024x1024) (broadcastTo S1024x1024 fr broadcasts_S1x1024_S1024x1024))
        (andi (cmpf .oeq (broadcastTo S1024x1024 fc broadcasts_S1024x1_S1024x1024) (broadcastTo S1024x1024 fr broadcasts_S1x1024_S1024x1024))
          (cmpi .slt (iota .tc S1024x1024 32 [0] iota_S1024x1024_d0_w32) (iota .tc S1024x1024 32 [1] iota_S1024x1024_d1_w32)))) natLt_1_32) : FVec Ideal S1024x1024 .f32) (ix2 i j) : EReal)
        = if Above f i j then (1 : EReal) else 0 := by
      intro i
      refine (bit_value _).trans ?_
      refine if_congr ?_ rfl rfl
      refine (ori_iff _ _).trans (or_congr ?_ ((andi_iff _ _).trans (and_congr ?_ (slt_iotas i j))))
      · refine (cmpf_ogt_iff _ _).trans ?_
        rw [bcast_col, bcast_row, hcol, hrow]
      · refine (cmpf_oeq_iff _ _).trans ?_
        rw [bcast_col, bcast_row, hcol, hrow]
    rw [Finset.sum_congr rfl fun i _ => hent i, Finset.sum_boole]
    norm_cast
  have hcond : FloatOps.cmpf (F := Ideal) (φ := .f32) .oeq ((((Finset.univ.filter fun i => Above f i j).card : ℝ) : EReal)) (FloatOps.sitofp .f32 (BitVec.ofNat 32 p.val)) = 1#1
      ↔ (Finset.univ.filter fun i => Above f i j).card = p.val := by
    rw [cmpf_oeq_iff, nat_value _ (by have := p.isLt; omega)]
    norm_cast
  refine Eq.trans ?_ ((select_of_iff hcond (Ideal.ofBits .f32 0x3F800000#32) (Ideal.ofBits .f32 0x00000000#32)).trans (by rw [Ideal.ofBits_one_f32, Ideal.ofBits_zero_f32]))
  show Scalar.select (FloatOps.cmpf (F := Ideal) .oeq (broadcastTo S128x1024 _ broadcasts_S1x1024_S128x1024 (ix2 p j)) (FloatOps.sitofp .f32 (iota .tc S128x1024 32 [0] iota_S128x1024_d0_w32 (ix2 p j)))) _ _ = _
  rw [bcast_places, cast_rank, hsum, iota_single_apply]
  rfl

end Places

section Picks

variable (g : FVec Ideal S128x1024 .f32) (x : Vec Ideal S1x1024 .f32) (p : Fin 128) (k : Fin 1024)

open Classical in
/-- A one-hot row times a row of values sums to the value at its place. -/
theorem pick (hg : ∀ j, g (ix2 p j) = if j = k then (1 : EReal) else 0) : k1_pay1 g x (ix2 p (0 : Fin 1)) = x (ix2 (0 : Fin 1) k) := by
  unfold k1_pay1
  rw [cast_out, sum_along]
  have : ∀ j, (mulf g (broadcastTo S128x1024 x broadcasts_S1x1024_S128x1024) (ix2 p j) : EReal) = if j = k then (x (ix2 (0 : Fin 1) k) : EReal) else 0 := by
    intro j
    show (g (ix2 p j) : EReal) * (broadcastTo S128x1024 x broadcasts_S1x1024_S128x1024 (ix2 p j)) = _
    rw [bcast_places, hg]
    split
    · rename_i h; rw [one_mul, h]
    · rw [zero_mul]
  rw [Finset.sum_congr rfl fun j _ => this j, Finset.sum_ite_eq' Finset.univ k, if_pos (Finset.mem_univ k)]

theorem pay25_eq : k1_pay25 g x = k1_pay1 g x := by unfold k1_pay25 k1_pay1; rw [cast_row]
theorem pay26_eq : k1_pay26 g x = k1_pay1 g x := by unfold k1_pay26 k1_pay1; rw [cast_row]
theorem pay27_eq : k1_pay27 g x = k1_pay1 g x := by unfold k1_pay27 k1_pay1; rw [cast_row]
theorem pay28_eq : k1_pay28 g x = k1_pay1 g x := by unfold k1_pay28 k1_pay1; rw [cast_row]
theorem pay29_eq : k1_pay29 x = x := cast_row x

/-- The infinite value replaced by zero. -/
def tame (a : EReal) : EReal := if a = ⊤ ∨ a = ⊥ then 0 else a

/-- The detection's score: the picked value, an infinite one replaced by zero. -/
theorem detScores_apply (kc : FVec Ideal S1024x1 .f32) (kr : FVec Ideal S1x1024 .f32) (s : Vec Ideal S1024x1 .f32) (t : Vec Ideal S1x1024 .f32)
    (f : Fin 1024 → EReal) (hrow : ∀ j, k1_pay22 kr t (ix2 (0 : Fin 1) j) = f j)
    (hg : ∀ j, places kc kr s t (ix2 p j) = if j = k then (1 : EReal) else 0) : detScores kc kr s t (ix2 p (0 : Fin 1)) = tame (f k) := by
  unfold detScores k1_pay24
  revert hrow hg
  unfold places
  generalize k1_pay22 kr t = fr
  generalize k1_pay23 (iota .tc S1024x1024 32 [0] iota_S1024x1024_d0_w32) (iota .tc S1024x1024 32 [1] iota_S1024x1024_d1_w32) kc kr s t = g
  intro hrow hg
  rw [cast_row]
  have hsum : multiReduction .add [1] S128 (select (cmpf .ogt g (broadcast S128x1024 (Scalar.ofBits .f32 0x00000000#32 : Ideal .f32)))
      (broadcastTo S128x1024 fr broadcasts_S1x1024_S128x1024) (broadcast S128x1024 (Scalar.ofBits .f32 0x00000000#32 : Ideal .f32)))
      0x00000000#32 reduces_S128x1024_S128 (.inl rfl) rfl (ix1 p) = f k := by
    rw [sum_along]
    have : ∀ j, (select (cmpf .ogt g (broadcast S128x1024 (Scalar.ofBits .f32 0x00000000#32 : Ideal .f32)))
        (broadcastTo S128x1024 fr broadcasts_S1x1024_S128x1024) (broadcast S128x1024 (Scalar.ofBits .f32 0x00000000#32 : Ideal .f32)) (ix2 p j) : EReal)
        = if j = k then f k else 0 := by
      intro j
      show Scalar.select (FloatOps.cmpf (F := Ideal) .ogt (g (ix2 p j)) (Ideal.ofBits .f32 0x00000000#32)) (broadcastTo S128x1024 fr broadcasts_S1x1024_S128x1024 (ix2 p j)) (Ideal.ofBits .f32 0x00000000#32) = _
      rw [select_of_iff (p := j = k), bcast_places, hrow, Ideal.ofBits_zero_f32]
      · split
        · rename_i h; rw [h]
        · rfl
      · rw [cmpf_ogt_iff, hg, Ideal.ofBits_zero_f32]
        split
        · rename_i h; exact ⟨fun _ => h, fun _ => zero_lt_one⟩
        · rename_i h; exact ⟨fun e => absurd e (lt_irrefl _), fun e => absurd e h⟩
    rw [Finset.sum_congr rfl fun j _ => this j, Finset.sum_ite_eq' Finset.univ k, if_pos (Finset.mem_univ k)]
  revert hsum
  generalize multiReduction .add [1] S128 (select (cmpf .ogt g (broadcast S128x1024 (Scalar.ofBits .f32 0x00000000#32 : Ideal .f32)))
      (broadcastTo S128x1024 fr broadcasts_S1x1024_S128x1024) (broadcast S128x1024 (Scalar.ofBits .f32 0x00000000#32 : Ideal .f32)))
      0x00000000#32 reduces_S128x1024_S128 (.inl rfl) rfl = y
  intro hsum
  show Scalar.select (IntOp.xori (FloatOps.weird (shapeCast S128x1 y shapeCasts_S128_S128x1 (ix2 p (0 : Fin 1)))) 1#1) (shapeCast S128x1 y shapeCasts_S128_S128x1 (ix2 p (0 : Fin 1))) (Ideal.ofBits .f32 0x00000000#32) = _
  rw [cast_out, hsum, Ideal.ofBits_zero_f32]
  unfold tame
  have hw : (FloatOps.weird (F := Ideal) (f k) : BitVec 1) = BitVec.ofBool (decide (f k = ⊤ ∨ f k = ⊥)) := rfl
  rw [hw]
  by_cases h : f k = ⊤ ∨ f k = ⊥
  · rw [if_pos h, decide_eq_true h]; rfl
  · rw [if_neg h, decide_eq_false h]; rfl

end Picks

end Cert.Proof.Nms
end
-- ==== Proof.Nms.Detect.lean ====
/-
  What the second kernel writes, from the entries of the arrays it reads: a row of the detections is the candidate that as
  many others come before, in the order of the surviving candidates' scores; and the same row named on the 1000
  candidates before padding, by a sort.
-/
module

public import proofs.«01_k».proof.Proof.Nms.Grid

@[expose] public section

set_option maxRecDepth 1860

noncomputable section

namespace Cert.Proof.Nms

open Cert.KernelIdeal Cert.KernelIdeal.Gen

open Idealize.ShloMosaic hiding ix1 ix2 ix3 ix4 eq_ix1 eq_ix2 eq_ix3 eq_ix4
open Idealize.ShloMosaic.ValueIdx
open Idealize.ShloMosaic.TcCoe

theorem ldC0_apply (f : (cc1_stg0_0 : Ref sig .tc).ty.Contents (Elt Ideal)) (i : Fin 1024) : ldC0 f (ix2 i (0 : Fin 1)) = f (ix2 i (0 : Fin 4)) := by
  refine congrArg f ?_
  funext a; match a with | ⟨0, _⟩ => exact Fin.ext (by simp) | ⟨1, _⟩ => exact Fin.ext (by first | rfl | simp)
theorem ldR0_apply (f : (cc1_stg1_0 : Ref sig .tc).ty.Contents (Elt Ideal)) (i : Fin 1024) : ldR0 f (ix2 (0 : Fin 1) i) = f (ix2 (0 : Fin 4) i) := by
  refine congrArg f ?_
  funext a; match a with | ⟨0, _⟩ => exact Fin.ext (by first | rfl | simp) | ⟨1, _⟩ => exact Fin.ext (by simp)
theorem ldC1_apply (f : (cc1_stg0_0 : Ref sig .tc).ty.Contents (Elt Ideal)) (i : Fin 1024) : ldC1 f (ix2 i (0 : Fin 1)) = f (ix2 i (1 : Fin 4)) := by
  refine congrArg f ?_
  funext a; match a with | ⟨0, _⟩ => exact Fin.ext (by simp) | ⟨1, _⟩ => exact Fin.ext (by first | rfl | simp)
theorem ldR1_apply (f : (cc1_stg1_0 : Ref sig .tc).ty.Contents (Elt Ideal)) (i : Fin 1024) : ldR1 f (ix2 (0 : Fin 1) i) = f (ix2 (1 : Fin 4) i) := by
  refine congrArg f ?_
  funext a; match a with | ⟨0, _⟩ => exact Fin.ext (by first | rfl | simp) | ⟨1, _⟩ => exact Fin.ext (by simp)
theorem ldC2_apply (f : (cc1_stg0_0 : Ref sig .tc).ty.Contents (Elt Ideal)) (i : Fin 1024) : ldC2 f (ix2 i (0 : Fin 1)) = f (ix2 i (2 : Fin 4)) := by
  refine congrArg f ?_
  funext a; match a with | ⟨0, _⟩ => exact Fin.ext (by simp) | ⟨1, _⟩ => exact Fin.ext (by first | rfl | simp)
theorem ldR2_apply (f : (cc1_stg1_0 : Ref sig .tc).ty.Contents (Elt Ideal)) (i : Fin 1024) : ldR2 f (ix2 (0 : Fin 1) i) = f (ix2 (2 : Fin 4) i) := by
  refine congrArg f ?_
  funext a; match a with | ⟨0, _⟩ => exact Fin.ext (by first | rfl | simp) | ⟨1, _⟩ => exact Fin.ext (by simp)
theorem ldC3_apply (f : (cc1_stg0_0 : Ref sig .tc).ty.Contents (Elt Ideal)) (i : Fin 1024) : ldC3 f (ix2 i (0 : Fin 1)) = f (ix2 i (3 : Fin 4)) := by
  refine congrArg f ?_
  funext a; match a with | ⟨0, _⟩ => exact Fin.ext (by simp) | ⟨1, _⟩ => exact Fin.ext (by first | rfl | simp)
theorem ldR3_apply (f : (cc1_stg1_0 : Ref sig .tc).ty.Contents (Elt Ideal)) (i : Fin 1024) : ldR3 f (ix2 (0 : Fin 1) i) = f (ix2 (3 : Fin 4) i) := by
  refine congrArg f ?_
  funext a; match a with | ⟨0, _⟩ => exact Fin.ext (by first | rfl | simp) | ⟨1, _⟩ => exact Fin.ext (by simp)

section Window

variable (f0 : (cc1_stg0_0 : Ref sig .tc).ty.Contents (Elt Ideal)) (f1 : (cc1_stg1_0 : Ref sig .tc).ty.Contents (Elt Ideal))
  (f2 : (cc1_stg2_0 : Ref sig .tc).ty.Contents (Elt Ideal)) (f3 : (cc1_stg3_0 : Ref sig .tc).ty.Contents (Elt Ideal))
  (f4 : (cc1_stg4_0 : Ref sig .tc).ty.Contents (Elt Ideal)) (f5 : (cc1_stg5_0 : Ref sig .tc).ty.Contents (Elt Ideal))
  (f6 : (cc1_stg6_0 : Ref sig .tc).ty.Contents (Elt Ideal)) (f7 : (cc1_stg7_0 : Ref sig .tc).ty.Contents (Elt Ideal))
  (b : Fin 1024 → Fin 4 → Ideal .f32) (l s : Fin 1024 → Ideal .f32) (A : Fin 1024 → Prop)

open Classical in
/-- The eight inputs hold the candidates' boxes `b`, scores `s`, labels `l` and flags `A`, each both ways. -/
structure Entries : Prop where
  box : ∀ i k, f0 (ix2 i k) = b i k
  boxT : ∀ i k, f1 (ix2 k i) = b i k
  sc : ∀ i, f2 (ix2 i (0 : Fin 1)) = s i
  scT : ∀ i, f3 (ix2 (0 : Fin 1) i) = s i
  lab : ∀ i, f4 (ix2 i (0 : Fin 1)) = l i
  labT : ∀ i, f5 (ix2 (0 : Fin 1) i) = l i
  ok : ∀ i, f6 (ix2 i (0 : Fin 1)) = if A i then (1 : EReal) else 0
  okT : ∀ i, f7 (ix2 (0 : Fin 1) i) = if A i then (1 : EReal) else 0

open Classical in
/-- The score of a survivor, and minus infinity for the others. -/
def ranked {n : ℕ} (K : Fin n → Prop) (s : Fin n → Ideal .f32) (i : Fin n) : EReal := if K i then s i else ⊥

variable {f0 f1 f2 f3 f4 f5 f6 f7 b l s A}

theorem Entries.holds (H : Entries f0 f1 f2 f3 f4 f5 f6 f7 b l s A) :
    Holds b l (ldC0 f0) (ldC1 f0) (ldC2 f0) (ldC3 f0) f4 (ldR0 f1) (ldR1 f1) (ldR2 f1) (ldR3 f1) f5 where
  c0 i := (ldC0_apply f0 i).trans (H.box i 0)
  c1 i := (ldC1_apply f0 i).trans (H.box i 1)
  c2 i := (ldC2_apply f0 i).trans (H.box i 2)
  c3 i := (ldC3_apply f0 i).trans (H.box i 3)
  lc := H.lab
  r0 i := (ldR0_apply f1 i).trans (H.boxT i 0)
  r1 i := (ldR1_apply f1 i).trans (H.boxT i 1)
  r2 i := (ldR2_apply f1 i).trans (H.boxT i 2)
  r3 i := (ldR3_apply f1 i).trans (H.boxT i 3)
  lr := H.labT

open Classical in
/-- The kernel's survivors are the greedy selection `K`, and row `p` of its outputs is the candidate that `p` others come before. -/
theorem Entries.detect (H : Entries f0 f1 f2 f3 f4 f5 f6 f7 b l s A) :
    ∃ K : Fin 1024 → Prop, Greedy A (Overlaps b l) K ∧
      ∀ (p : Fin 128) (k : Fin 1024), (∀ j, (Finset.univ.filter fun i => Above (ranked K s) i j).card = p.val ↔ j = k) →
        (∀ q, det8 (theGrid f0 f1 f2 f3 f4 f5 f6 f7) f1 (ix2 p q) = b k q) ∧
        theScores f0 f1 f2 f3 f4 f5 f6 f7 (ix2 p (0 : Fin 1)) = tame (ranked K s k) ∧
        k1_pay25 (theGrid f0 f1 f2 f3 f4 f5 f6 f7) f5 (ix2 p (0 : Fin 1)) = l k := by
  have hS := H.holds.lower
  have hU := H.holds.upper
  unfold theGrid theScores
  revert hS hU
  generalize lower (ldC0 f0) (ldC1 f0) (ldC2 f0) (ldC3 f0) f4 (ldR0 f1) (ldR1 f1) (ldR2 f1) (ldR3 f1) f5 = S
  generalize upper (ldC0 f0) (ldC1 f0) (ldC2 f0) (ldC3 f0) f4 (ldR0 f1) (ldR1 f1) (ldR2 f1) (ldR3 f1) f5 = U
  intro hS hU
  have hG := keepCol_greedy S f6 (Overlaps b l) A hS H.ok
  have hT := keepRow_col S U f6 f7 (fun i j => (hU i j).trans (hS i j).symm) (fun i => (H.okT i).trans (H.ok i).symm)
  revert hG hT
  generalize keepCol S f6 = kc
  generalize keepRow U S f6 f7 = kr
  intro hG hT
  refine ⟨fun j => (0 : EReal) < kc (ix2 j (0 : Fin 1)), hG, fun p k hk => ?_⟩
  have hc : ∀ i, ranked (fun j => (0 : EReal) < kc (ix2 j (0 : Fin 1))) s i = @ite EReal ((0 : EReal) < kc (ix2 i (0 : Fin 1))) _ (f2 (ix2 i (0 : Fin 1))) ⊥ :=
    fun i => by unfold ranked; rw [H.sc]; congr
  have hr : ∀ i, ranked (fun j => (0 : EReal) < kc (ix2 j (0 : Fin 1))) s i = @ite EReal ((0 : EReal) < kr (ix2 (0 : Fin 1) i)) _ (f3 (ix2 (0 : Fin 1) i)) ⊥ :=
    fun i => by unfold ranked; rw [H.scT, hT]; congr
  have hg : ∀ j, places kc kr f2 f3 (ix2 p j) = if j = k then (1 : EReal) else 0 := fun j =>
    (places_apply kc kr f2 f3 _ hc hr p j).trans (if_congr (hk j) rfl rfl)
  refine ⟨fun q => ?_, detScores_apply p k kc kr f2 f3 _ (pay22_apply kr f3 _ hr) hg, ?_⟩
  · show det8at _ f1 p q = _
    unfold det8at
    rw [pay26_eq, pay27_eq, pay28_eq, pay29_eq, pick _ _ p k hg, pick _ _ p k hg, pick _ _ p k hg, pick _ _ p k hg,
      ldR0_apply, ldR1_apply, ldR2_apply, ldR3_apply, H.boxT, H.boxT, H.boxT, H.boxT]
    revert q; intro q
    fin_cases q <;> rfl
  · rw [pay25_eq, pick _ _ p k hg, H.labT]

end Window

open Classical in
/-- On 1024 candidates of which only the first 1000 can survive, the candidate that `r` others come before is the `r`-th
    of a sort of the 1000. -/
theorem place_iff {K : Fin 1024 → Prop} {s : Fin 1024 → Ideal .f32} (f : Fin 1000 → EReal) (R : Fin 1000 → Fin 1000 → Bool)
    (hR : ∀ i j, R i j = true ↔ f j < f i) (hf : ∀ i : Fin 1000, ranked K s (i.castLE (by decide)) = f i)
    (hK : ∀ i : Fin 1024, 1000 ≤ i.val → ¬K i) (r : Fin 1000) (j : Fin 1024) :
    (Finset.univ.filter fun i => Above (ranked K s) i j).card = r.val ↔ j = (sortedFrom R r).castLE (by decide) := by
  have hbot : ∀ i : Fin 1024, 1000 ≤ i.val → ranked K s i = ⊥ := fun i hi => by unfold ranked; rw [if_neg (hK i hi)]
  have hcard : ∀ j' : Fin 1000, (Finset.univ.filter fun i => Above (ranked K s) i (j'.castLE (by decide))).card
      = (Finset.univ.filter fun i => Above f i j').card := by
    intro j'
    rw [← Finset.card_map (s := Finset.univ.filter fun i => Above f i j') (Fin.castLEEmb (n := 1000) (m := 1024) (by decide))]
    congr 1
    ext i
    simp only [Finset.mem_filter, Finset.mem_univ, true_and, Finset.mem_map, Fin.castLEEmb_apply]
    constructor
    · intro h
      by_cases hi : i.val < 1000
      · refine ⟨⟨i.val, hi⟩, ?_, rfl⟩
        have e := hf ⟨i.val, hi⟩
        rw [show Fin.castLE (by decide) ⟨i.val, hi⟩ = i from rfl] at e
        unfold Above at h ⊢
        rw [hf, e] at h
        exact h.imp id (And.imp_right fun h => h)
      · have hi : 1000 ≤ i.val := by omega
        rcases h with h | h
        · rw [hbot i hi] at h; exact absurd h not_lt_bot
        · have h1 : i.val < j'.val := h.2
          have := j'.isLt; omega
    · rintro ⟨i', h, rfl⟩
      unfold Above at h ⊢
      rw [hf, hf]
      exact h.imp id fun e => ⟨e.1, Fin.lt_def.2 (Fin.lt_def.1 e.2)⟩
  by_cases hj : j.val < 1000
  · obtain ⟨j', rfl⟩ : ∃ j' : Fin 1000, j = j'.castLE (by decide) := ⟨⟨j.val, hj⟩, rfl⟩
    rw [hcard]
    constructor
    · intro h; rw [eq_sorted_of_card f R hR r j' h]
    · intro h
      have : j' = sortedFrom R r := Fin.castLE_injective (by decide : 1000 ≤ 1024) h
      rw [this]; exact card_above f R hR r
  · have hj : 1000 ≤ j.val := by omega
    constructor
    · intro h
      have : (Finset.univ.filter fun i : Fin 1024 => i.val < 1000) ⊆ Finset.univ.filter fun i => Above (ranked K s) i j := by
        intro i hi
        simp only [Finset.mem_filter, Finset.mem_univ, true_and] at hi ⊢
        unfold Above
        rw [hbot j hj]
        rcases eq_bot_or_bot_lt (ranked K s i) with e | e
        · exact Or.inr ⟨e, by show i.val < j.val; omega⟩
        · exact Or.inl e
      have hc := Finset.card_le_card this
      have hn : (Finset.univ.filter fun i : Fin 1024 => i.val < 1000).card = 1000 := by
        rw [show (Finset.univ.filter fun i : Fin 1024 => i.val < 1000) = Finset.Iio (⟨1000, by decide⟩ : Fin 1024) from by
          ext i; simp [Fin.lt_def], Fin.card_Iio]
      have := r.isLt
      omega
    · intro h
      have := congrArg Fin.val h
      have h2 := (sortedFrom R r).isLt
      simp only [Fin.val_castLE] at this
      omega

end Cert.Proof.Nms
end
-- ==== Proof.Nms.KerEnd.lean ====
/-
  What the kernel computes: its eight inputs of the suppression region hold the ordered candidates, padded with candidates
  that do not count, and its results are those of the greedy selection's hundred best.
-/
module

public import proofs.«01_k».proof.Proof.Nms.KerTail
public import proofs.«01_k».proof.Proof.Nms.Detect
public import proofs.«01_k».proof.Proof.Nms.Run

@[expose] public section

set_option maxRecDepth 8192

noncomputable section

namespace Cert.Proof.Nms

open Cert.KernelIdeal Cert.KernelIdeal.Gen
open Idealize.ShloMosaic hiding ix1 ix2 ix3 ix4 ix5 eq_ix1 eq_ix2 eq_ix3 eq_ix4
open Idealize.ShloMosaic.ValueIdx
open Idealize.ShloMosaic.TcCoe
open Idealize.ShloMosaic.StableHlo (after)

variable (m : (ℓ : Loc nD τ sig) → Buf (Elt Ideal) ℓ) (c : Dev nD) (σ : Fin 1000 → Fin 1000)

/-- The ordered boxes, labels, scores and valid candidates. -/
def kBox (i : Fin 1000) (k : Fin 4) : Ideal .f32 := (kv m c main_v67 : FVec Ideal S1000x4 .f32) (ix2 (σ i) k)
def kLabel (i : Fin 1000) : Ideal .f32 := FloatOps.sitofp .f32 ((kv m c main_v26 : IVec S1000 32) (ix1 (σ i)))
def kScore (i : Fin 1000) : Ideal .f32 := (kv m c main_v74 : FVec Ideal S1000 .f32) (ix1 (σ i))
def kValid (i : Fin 1000) : Prop := (kv m c main_v22 : IVec S1000 1) (ix1 (σ i)) = 1#1

/-- The same, padded. -/
def pBox (i : Fin 1024) (k : Fin 4) : Ideal .f32 := ext (Ideal.ofBits .f32 0x00000000#32) (fun j => kBox m c σ j k) i
def pLabel : Fin 1024 → Ideal .f32 := ext (Ideal.ofBits .f32 0x00000000#32) (kLabel m c σ)
def pScore : Fin 1024 → Ideal .f32 := ext (Ideal.ofBits .f32 0xFF800000#32) (kScore m c σ)
def pValid : Fin 1024 → Prop := ext False (kValid m c σ)

variable (hσ : ∀ j, (kv m c main_v76 : IVec S1000 32) (ix1 j) = BitVec.ofNat 32 (σ j).val)

include hσ in
theorem boxes_at (j : Fin 1000) (q : Fin 4) : (kv m c main_v77 : FVec Ideal S1000x4 .f32) (ix2 j q) = kBox m c σ j q := by
  have e : (kv m c main_v77 : FVec Ideal S1000x4 .f32) = orderRows (kv m c main_v67) (kv m c main_v76) := by
    refine (up26 m c main_v77 (by decide)).symm.trans ((take_boxes (V25 m (outs1 m) c)).trans ?_)
    exact congrArg₂ orderRows (up25 m c main_v67 (by decide)) (up25 m c main_v76 (by decide))
  rw [e, orderRows_apply _ _ j (σ j) q (hσ j)]
  rfl

open Classical in
include hσ in
theorem flags_at (j : Fin 1000) : (kv m c main_v79 : FVec Ideal S1000 .f32) (ix1 j) = if kValid m c σ j then (1 : EReal) else 0 := by
  have e : (kv m c main_v79 : FVec Ideal S1000 .f32) = flags (kv m c main_v78) := by
    refine (up28 m c main_v79 (by decide)).symm.trans ((flag_ok (V27 m (outs1 m) c)).trans ?_)
    exact congrArg flags (up27 m c main_v78 (by decide))
  have e' : (kv m c main_v78 : IVec S1000 1) = orderOnes 1#1 (kv m c main_v22) (kv m c main_v76) := by
    refine (up27 m c main_v78 (by decide)).symm.trans ((take_ok (V26 m (outs1 m) c)).trans ?_)
    exact congrArg₂ (orderOnes 1#1) (up26 m c main_v22 (by decide)) (up26 m c main_v76 (by decide))
  have e2 : (kv m c main_v78 : IVec S1000 1) (ix1 j) = (kv m c main_v22 : IVec S1000 1) (ix1 (σ j)) := by
    rw [e', orderOnes_apply _ _ _ j (σ j) (hσ j)]
  rw [e]
  show ((((kv m c main_v78 : IVec S1000 1) (ix1 j)).toNat : ℝ) : EReal) = _
  rw [e2]
  by_cases h : kValid m c σ j
  · rw [if_pos h, show (kv m c main_v22 : IVec S1000 1) (ix1 (σ j)) = 1#1 from h]
    simp
  · rw [if_neg h, (BitVec.eq_zero_or_eq_one ((kv m c main_v22 : IVec S1000 1) (ix1 (σ j)))).resolve_right h]
    simp

include hσ in
theorem scores_at (j : Fin 1000) : (kv m c main_v80 : FVec Ideal S1000 .f32) (ix1 j) = kScore m c σ j := by
  have e : (kv m c main_v80 : FVec Ideal S1000 .f32) = orderOnes (Ideal.ofBits .f32 0x7FC00000#32) (kv m c main_v74) (kv m c main_v76) := by
    refine (up29 m c main_v80 (by decide)).symm.trans ((take_scores (V28 m (outs1 m) c)).trans ?_)
    exact congrArg₂ (orderOnes _) (up28 m c main_v74 (by decide)) (up28 m c main_v76 (by decide))
  rw [e, orderOnes_apply _ _ _ j (σ j) (hσ j)]
  rfl

include hσ in
theorem labels_at (j : Fin 1000) : labelNums (kv m c main_v81) (ix1 j) = kLabel m c σ j := by
  have e : (kv m c main_v81 : IVec S1000 32) = orderOnes 2147483648#32 (kv m c main_v26) (kv m c main_v76) := by
    refine (up30 m c main_v81 (by decide)).symm.trans ((take_labels (V29 m (outs1 m) c)).trans ?_)
    exact congrArg₂ (orderOnes _) (up29 m c main_v26 (by decide)) (up29 m c main_v76 (by decide))
  show FloatOps.sitofp .f32 ((kv m c main_v81 : IVec S1000 32) (ix1 j)) = _
  rw [e, orderOnes_apply _ _ _ j (σ j) (hσ j)]
  rfl

theorem ent1_kv (r : Ref sig .tc) : ent1 m c (Proc.devRef .tc r) = kv m c r := (congrFun (outs1_V31 m c) _).symm

theorem in_box : (kv m c main_v84 : FVec Ideal S1024x4 .f32) = padRows (kv m c main_v77) :=
  (win0 (V30 m (outs1 m) c)).trans (congrArg padRows (up30 m c main_v77 (by decide)))
theorem in_boxT : (kv m c main_v91 : FVec Ideal S4x1024 .f32) = turned (padRows (kv m c main_v77)) :=
  (win1 (V30 m (outs1 m) c)).trans (congrArg (fun x => turned (padRows x)) (up30 m c main_v77 (by decide)))
theorem in_sc : (kv m c main_v92 : FVec Ideal S1024x1 .f32) = asColumn (padOnes 0xFF800000#32 (kv m c main_v80)) :=
  (win2 (V30 m (outs1 m) c)).trans (congrArg (fun x => asColumn (padOnes 0xFF800000#32 x)) (up30 m c main_v80 (by decide)))
theorem in_scT : (kv m c main_v93 : FVec Ideal S1x1024 .f32) = asRow (padOnes 0xFF800000#32 (kv m c main_v80)) :=
  (win3 (V30 m (outs1 m) c)).trans (congrArg (fun x => asRow (padOnes 0xFF800000#32 x)) (up30 m c main_v80 (by decide)))
theorem in_lab : (kv m c main_v94 : FVec Ideal S1024x1 .f32) = asColumn (padOnes 0x00000000#32 (labelNums (kv m c main_v81))) :=
  (win4 (V30 m (outs1 m) c)).trans (congrArg (fun x => asColumn (padOnes 0x00000000#32 (labelNums x))) (up30 m c main_v81 (by decide)))
theorem in_labT : (kv m c main_v95 : FVec Ideal S1x1024 .f32) = asRow (padOnes 0x00000000#32 (labelNums (kv m c main_v81))) :=
  (win5 (V30 m (outs1 m) c)).trans (congrArg (fun x => asRow (padOnes 0x00000000#32 (labelNums x))) (up30 m c main_v81 (by decide)))
theorem in_ok : (kv m c main_v96 : FVec Ideal S1024x1 .f32) = asColumn (padOnes 0x00000000#32 (kv m c main_v79)) :=
  (win6 (V30 m (outs1 m) c)).trans (congrArg (fun x => asColumn (padOnes 0x00000000#32 x)) (up30 m c main_v79 (by decide)))
theorem in_okT : (kv m c main_v97 : FVec Ideal S1x1024 .f32) = asRow (padOnes 0x00000000#32 (kv m c main_v79)) :=
  (win7 (V30 m (outs1 m) c)).trans (congrArg (fun x => asRow (padOnes 0x00000000#32 x)) (up30 m c main_v79 (by decide)))

open Classical in
theorem ext_flag (A : Fin 1000 → Prop) (i : Fin 1024) :
    ext (Ideal.ofBits .f32 0x00000000#32) (fun j => if A j then (1 : EReal) else 0) i = if ext False A i then (1 : EReal) else 0 := by
  unfold ext
  by_cases h : i.val < 1000
  · rw [dif_pos h, dif_pos h]
  · rw [dif_neg h, dif_neg h, if_neg not_false]
    exact Ideal.ofBits_zero_f32

open Classical in
include hσ in
theorem flags_pad (i : Fin 1024) : padOnes 0x00000000#32 (kv m c main_v79) (ix1 i) = if pValid m c σ i then (1 : EReal) else 0 := by
  rw [padOnes_apply]
  unfold pValid
  rw [← ext_flag]
  exact congrArg (fun f => ext (Ideal.ofBits .f32 0x00000000#32) f i) (funext (flags_at m c σ hσ))

include hσ in
theorem boxes_pad (i : Fin 1024) (k : Fin 4) : padRows (kv m c main_v77) (ix2 i k) = pBox m c σ i k := by
  rw [padRows_apply]
  exact congrArg (fun f => ext (Ideal.ofBits .f32 0x00000000#32) f i) (funext fun j => boxes_at m c σ hσ j k)

include hσ in
theorem scores_pad (i : Fin 1024) : padOnes 0xFF800000#32 (kv m c main_v80) (ix1 i) = pScore m c σ i := by
  rw [padOnes_apply]
  exact congrArg (fun f => ext (Ideal.ofBits .f32 0xFF800000#32) f i) (funext (scores_at m c σ hσ))

include hσ in
theorem labels_pad (i : Fin 1024) : padOnes 0x00000000#32 (labelNums (kv m c main_v81)) (ix1 i) = pLabel m c σ i := by
  rw [padOnes_apply]
  exact congrArg (fun f => ext (Ideal.ofBits .f32 0x00000000#32) f i) (funext (labels_at m c σ hσ))

include hσ in
theorem ker_entries : Entries (stg1_0 (ent1 m) c) (stg1_1 (ent1 m) c) (stg1_2 (ent1 m) c) (stg1_3 (ent1 m) c) (stg1_4 (ent1 m) c) (stg1_5 (ent1 m) c)
    (stg1_6 (ent1 m) c) (stg1_7 (ent1 m) c) (pBox m c σ) (pLabel m c σ) (pScore m c σ) (pValid m c σ) where
  box i k := by
    rw [(stg1_0_eq (ent1 m) c).trans ((ent1_kv m c main_v84).trans (in_box m c))]
    exact boxes_pad m c σ hσ i k
  boxT i k := by
    rw [(stg1_1_eq (ent1 m) c).trans ((ent1_kv m c main_v91).trans (in_boxT m c))]
    exact (turned_apply _ i k).trans (boxes_pad m c σ hσ i k)
  sc i := by
    rw [(stg1_2_eq (ent1 m) c).trans ((ent1_kv m c main_v92).trans (in_sc m c))]
    exact (asColumn_apply _ i).trans (scores_pad m c σ hσ i)
  scT i := by
    rw [(stg1_3_eq (ent1 m) c).trans ((ent1_kv m c main_v93).trans (in_scT m c))]
    exact (asRow_apply _ i).trans (scores_pad m c σ hσ i)
  lab i := by
    rw [(stg1_4_eq (ent1 m) c).trans ((ent1_kv m c main_v94).trans (in_lab m c))]
    exact (asColumn_apply _ i).trans (labels_pad m c σ hσ i)
  labT i := by
    rw [(stg1_5_eq (ent1 m) c).trans ((ent1_kv m c main_v95).trans (in_labT m c))]
    exact (asRow_apply _ i).trans (labels_pad m c σ hσ i)
  ok i := by
    rw [(stg1_6_eq (ent1 m) c).trans ((ent1_kv m c main_v96).trans (in_ok m c))]
    exact (asColumn_apply _ i).trans (flags_pad m c σ hσ i)
  okT i := by
    rw [(stg1_7_eq (ent1 m) c).trans ((ent1_kv m c main_v97).trans (in_okT m c))]
    exact (asRow_apply _ i).trans (flags_pad m c σ hσ i)

/-- The region's results. -/
theorem found0 : (V32 m (outs1 m) c (Proc.devRef .tc main_v98_0) : FVec Ideal S128x4 .f32) = det0 (ent1 m) c :=
  (after1 m c main_v98_0).symm.trans ((Pipeline.afterRegion_arr (dat1 (ent1 m) c) (ent1 m c) launch1.win.arr_inj (8 : Fin 11)).trans (out1_0 (ent1 m) c))
theorem found1 : (V32 m (outs1 m) c (Proc.devRef .tc main_v98_1) : FVec Ideal S128x1 .f32) = det1 (ent1 m) c :=
  (after1 m c main_v98_1).symm.trans ((Pipeline.afterRegion_arr (dat1 (ent1 m) c) (ent1 m c) launch1.win.arr_inj (9 : Fin 11)).trans (out1_1 (ent1 m) c))
theorem found2 : (V32 m (outs1 m) c (Proc.devRef .tc main_v98_2) : FVec Ideal S128x1 .f32) = det2 (ent1 m) c :=
  (after1 m c main_v98_2).symm.trans ((Pipeline.afterRegion_arr (dat1 (ent1 m) c) (ent1 m c) launch1.win.arr_inj (10 : Fin 11)).trans (out1_2 (ent1 m) c))

theorem ker0 : (V33 m (outs1 m) c (Proc.devRef .tc main_v99) : FVec Ideal S100x4 .f32) = firstRows (det0 (ent1 m) c) :=
  (res0 (V32 m (outs1 m) c)).trans (congrArg firstRows (found0 m c))
theorem ker1 : (V33 m (outs1 m) c (Proc.devRef .tc main_v101) : FVec Ideal S100 .f32) = firstOnes (det1 (ent1 m) c) :=
  (res1 (V32 m (outs1 m) c)).trans (congrArg firstOnes (found1 m c))
theorem ker2 : (V33 m (outs1 m) c (Proc.devRef .tc main_v104) : IVec S100 32) = fptosi 32 (firstOnes (det2 (ent1 m) c)) :=
  (res2 (V32 m (outs1 m) c)).trans (congrArg (fun x => fptosi 32 (firstOnes x)) (found2 m c))

open Classical in
include hσ in
/-- The kernel's results, entry by entry. -/
theorem ker_results : ∃ K : Fin 1024 → Prop, Greedy (pValid m c σ) (Overlaps (pBox m c σ) (pLabel m c σ)) K ∧
    ∀ (r : Fin 100) (k : Fin 1024), (∀ j, (Finset.univ.filter fun i => Above (ranked K (pScore m c σ)) i j).card = r.val ↔ j = k) →
      (∀ q, (V33 m (outs1 m) c (Proc.devRef .tc main_v99) : FVec Ideal S100x4 .f32) (ix2 r q) = pBox m c σ k q) ∧
      (V33 m (outs1 m) c (Proc.devRef .tc main_v101) : FVec Ideal S100 .f32) (ix1 r) = tame (ranked K (pScore m c σ) k) ∧
      (V33 m (outs1 m) c (Proc.devRef .tc main_v104) : IVec S100 32) (ix1 r) = FloatOps.fptosi 32 (pLabel m c σ k) := by
  obtain ⟨K, hK, h⟩ := (ker_entries m c σ hσ).detect
  refine ⟨K, hK, fun r k hk => ?_⟩
  obtain ⟨h0, h1, h2⟩ := h (r.castLE (by decide)) k hk
  refine ⟨fun q => ?_, ?_, ?_⟩
  · rw [ker0, firstRows_apply]
    unfold det0 grid1
    exact h0 q
  · rw [ker1, firstOnes_apply]
    unfold det1
    exact h1
  · rw [ker2]
    show FloatOps.fptosi 32 (firstOnes (det2 (ent1 m) c) (ix1 r)) = _
    rw [firstOnes_apply]
    unfold det2 grid1
    exact congrArg (FloatOps.fptosi 32) h2

end Cert.Proof.Nms

end
-- ==== Proof.Nms.RefStep.lean ====
/-
  One trip of the reference's suppression loop, entry by entry: the pass of box `t` drops the later boxes that overlap it,
  when it is itself still kept. The whole loop is then the greedy selection.
-/
module

public import proofs.«01_k».proof.Proof.Nms.RefUp
public import proofs.«01_k».proof.Proof.Nms.Take
public import Idealize.ShloMosaic.Lib.DynamicIndex

@[expose] public section

set_option maxRecDepth 8192

noncomputable section

namespace Cert.Proof.Nms.Ref

open Cert.ReferenceIdeal Cert.ReferenceIdeal.Gen Cert.ReferenceIdeal.Value
open Idealize.ShloMosaic hiding ix1 ix2 ix3 ix4 ix5 eq_ix1 eq_ix2 eq_ix3 eq_ix4
open Idealize.ShloMosaic.ValueIdx
open Idealize.ShloMosaic.TcCoe

/-- An index that counts from the end when it is negative. -/
def fromEnd (n : BitVec 32) (w : IVec S_ 32) : IVec S_ 32 :=
  select (cmpi .slt w (constantI S_ 32 0#32)) (addi w (constantI S_ 32 n)) w

theorem fromEnd_toInt (n : BitVec 32) (w : IVec S_ 32) (t : ℕ) (ht : t < 1000) (hw : ∀ i, w i = BitVec.ofNat 32 t) (i : S_.Idx) :
    (fromEnd n w i).toInt = t := by
  have h := toInt_small t ht
  unfold fromEnd
  rw [select_slt_zero_of_nonneg w _ _ i (by rw [hw i, h]; omega), hw i, h]

/-- The entry of `x` at row `w` and column `k`. -/
def entry2 {α : Type} (x : S1000x4.Idx → α) (w : IVec S_ 32) (k : BitVec 32) : S_.Idx → α :=
  shapeCast S_ (Host.dynamicSlice S1x1 x (fun a => (((![fromEnd 1000#32 w, fromEnd 4#32 (constantI S_ 32 k)] : Fin 2 → IVec S_ 32)) a (Shape.Idx.first h_S_)).toInt)
    sliceFits_S1000x4_S1x1) shapeCasts_S1x1_S_

/-- The entry of `x` at place `w`. -/
def entry1 {α : Type} (x : S1000.Idx → α) (w : IVec S_ 32) : S_.Idx → α :=
  shapeCast S_ (Host.dynamicSlice S1 x (fun a => (((![fromEnd 1000#32 w] : Fin 1 → IVec S_ 32)) a (Shape.Idx.first h_S_)).toInt)
    sliceFits_S1000_S1) shapeCasts_S1_S_

theorem rank0_pos {s : Shape} (i : S_.Idx) (n : ℕ) (h : n = 0) : n = (S_.rowMajor i).val := by
  have := (S_.rowMajor i).isLt
  have e : S_.numel = 1 := by decide
  omega

theorem entry2_apply {α : Type} (x : S1000x4.Idx → α) (w : IVec S_ 32) (t : Fin 1000) (k : Fin 4) (hw : ∀ i, w i = BitVec.ofNat 32 t.val) (i : S_.Idx) :
    entry2 x w (BitVec.ofNat 32 k.val) i = x (ix2 t k) := by
  unfold entry2
  have hk := k.isLt
  have ht := t.isLt
  have hoff : S1000x4.Slices ![t.val, k.val] S1x1 := ⟨rfl, fun a => by
    match a with
    | ⟨0, _⟩ => show t.val + 1 ≤ 1000; omega
    | ⟨1, _⟩ => show k.val + 1 ≤ 4; omega⟩
  rw [Host.dynamicSlice_eq_extractStridedSlice S1x1 x _ ![t.val, k.val] sliceFits_S1000x4_S1x1 hoff (fun a => by
    match a with
    | ⟨0, _⟩ => exact fromEnd_toInt _ w t.val ht hw _
    | ⟨1, _⟩ => exact fromEnd_toInt _ _ k.val (by omega) (fun _ => rfl) _)]
  refine (shapeCast_apply _ _ i (ix2 (0 : Fin 1) (0 : Fin 1)) (by
    rw [Shape.rowMajor_val_two]
    exact rank0_pos (s := S_) i _ rfl)).trans ?_
  exact extractStridedSlice_apply _ x hoff _ (ix2 t k) (fun a => by
    match a with
    | ⟨0, _⟩ => rfl
    | ⟨1, _⟩ => rfl)

theorem entry1_apply {α : Type} (x : S1000.Idx → α) (w : IVec S_ 32) (t : Fin 1000) (hw : ∀ i, w i = BitVec.ofNat 32 t.val) (i : S_.Idx) :
    entry1 x w i = x (ix1 t) := by
  unfold entry1
  have ht := t.isLt
  have hoff : S1000.Slices ![t.val] S1 := ⟨rfl, fun a => by
    match a with
    | ⟨0, _⟩ => show t.val + 1 ≤ 1000; omega⟩
  rw [Host.dynamicSlice_eq_extractStridedSlice S1 x _ ![t.val] sliceFits_S1000_S1 hoff (fun a => by
    match a with
    | ⟨0, _⟩ => exact fromEnd_toInt _ w t.val ht hw _)]
  refine (shapeCast_apply _ _ i (ix1 (0 : Fin 1)) (by
    rw [Shape.rowMajor_val_one]
    exact rank0_pos (s := S_) i _ rfl)).trans ?_
  exact extractStridedSlice_apply _ x hoff _ (ix1 t) (fun a => by
    match a with
    | ⟨0, _⟩ => rfl)

/-- One column of the boxes. -/
def colOf {α : Type} (off : Fin 2 → ℕ) (h : S1000x4.Slices off S1000x1) (x : S1000x4.Idx → α) : S1000.Idx → α :=
  shapeCast S1000 (extractStridedSlice S1000x1 off x h) shapeCasts_S1000x1_S1000

theorem colOf_apply {α : Type} (k : Fin 4) (off : Fin 2 → ℕ) (ho : off = ![0, k.val]) (h : S1000x4.Slices off S1000x1) (x : S1000x4.Idx → α) (j : Fin 1000) :
    colOf off h x (ix1 j) = x (ix2 j k) := by
  subst ho
  unfold colOf
  refine (shapeCast_apply _ _ (ix1 j) (ix2 j (0 : Fin 1)) (by
    rw [Shape.rowMajor_val_two, Shape.rowMajor_val_one]
    show j.val * 1 + 0 = j.val
    omega)).trans ?_
  exact extractStridedSlice_apply _ x h _ (ix2 j k) (fun a => by
    match a with
    | ⟨0, _⟩ => exact (Nat.zero_add _).symm
    | ⟨1, _⟩ => rfl)

/-- A scalar laid over the 1000 candidates. -/
def lay {α : Type} (x : S_.Idx → α) : S1000.Idx → α := broadcastInDim S1000 ![] bcast_S_S1000 x

/-- The shared area of box `w` with every box. -/
def shared (nb : FVec Ideal S1000x4 .f32) (w : IVec S_ 32) : FVec Ideal S1000 .f32 :=
  mulf (maximumf (subf (minimumf (lay (entry2 nb w 2#32)) (colOf ![0, 2] slices_S1000x4_S1000x1_0_2 nb))
      (maximumf (lay (entry2 nb w 0#32)) (colOf ![0, 0] slices_S1000x4_S1000x1_0_0 nb))) (lay (constant (F := Ideal) S_ .f32 0x00000000#32)))
    (maximumf (subf (minimumf (lay (entry2 nb w 3#32)) (colOf ![0, 3] slices_S1000x4_S1000x1_0_3 nb))
      (maximumf (lay (entry2 nb w 1#32)) (colOf ![0, 1] slices_S1000x4_S1000x1_0_1 nb))) (lay (constant (F := Ideal) S_ .f32 0x00000000#32)))

/-- The kept boxes after the pass of box `w`. -/
def passKeep (nb : FVec Ideal S1000x4 .f32) (ar : FVec Ideal S1000 .f32) (io : IVec S1000 32) (w : IVec S_ 32) (K : IVec S1000 1) : IVec S1000 1 :=
  andi K (noti (andi (andi (cmpf .ogt (Host.divf (shared nb w) (addf (subf (addf (lay (entry1 ar w)) ar) (shared nb w)) (lay (constant (F := Ideal) S_ .f32 0x3089705F#32))))
    (lay (constant (F := Ideal) S_ .f32 0x3F19999A#32))) (cmpi .sgt io (lay w))) (lay (entry1 K w))))

theorem shared_eq (V0 : Valuation τ sig (Elt Ideal)) : (res_main_while0b_v188 V0 : FVec Ideal S1000 .f32) = shared (V0 (Proc.devRef .tc main_v119_0)) (V0 (Proc.devRef .tc main_v119_4)) := rfl

theorem step_eq (V0 : Valuation τ sig (Elt Ideal)) : (step_main_v119_5 V0 : IVec S1000 1)
    = passKeep (V0 (Proc.devRef .tc main_v119_0)) (V0 (Proc.devRef .tc main_v119_1)) (V0 (Proc.devRef .tc main_v119_2)) (V0 (Proc.devRef .tc main_v119_4)) (V0 (Proc.devRef .tc main_v119_5)) := by
  unfold step_main_v119_5
  rw [shared_eq]
  rfl

/-- The areas of the boxes. -/
def areas (nb : FVec Ideal S1000x4 .f32) : FVec Ideal S1000 .f32 :=
  mulf (subf (colOf ![0, 2] slices_S1000x4_S1000x1_0_2 nb) (colOf ![0, 0] slices_S1000x4_S1000x1_0_0 nb))
    (subf (colOf ![0, 3] slices_S1000x4_S1000x1_0_3 nb) (colOf ![0, 1] slices_S1000x4_S1000x1_0_1 nb))

theorem areas_apply (nb : FVec Ideal S1000x4 .f32) (j : Fin 1000) : areas nb (ix1 j)
    = FloatOps.mulf (FloatOps.subf (nb (ix2 j 2)) (nb (ix2 j 0))) (FloatOps.subf (nb (ix2 j 3)) (nb (ix2 j 1))) := by
  show FloatOps.mulf (FloatOps.subf (colOf ![0, 2] _ nb (ix1 j)) (colOf ![0, 0] _ nb (ix1 j))) (FloatOps.subf (colOf ![0, 3] _ nb (ix1 j)) (colOf ![0, 1] _ nb (ix1 j))) = _
  rw [colOf_apply 0 ![0, 0] rfl, colOf_apply 1 ![0, 1] rfl, colOf_apply 2 ![0, 2] rfl, colOf_apply 3 ![0, 3] rfl]

theorem lay_apply {α : Type} (x : S_.Idx → α) (j : S1000.Idx) (a : α) (h : ∀ i, x i = a) : lay x j = a := h _

theorem shared_apply (nb : FVec Ideal S1000x4 .f32) (w : IVec S_ 32) (t : Fin 1000) (hw : ∀ i, w i = BitVec.ofNat 32 t.val) (j : Fin 1000) :
    shared nb w (ix1 j) =
      FloatOps.mulf (FloatOps.maximumf (FloatOps.subf (FloatOps.minimumf (nb (ix2 t 2)) (nb (ix2 j 2))) (FloatOps.maximumf (nb (ix2 t 0)) (nb (ix2 j 0)))) (Ideal.ofBits .f32 0x00000000#32))
        (FloatOps.maximumf (FloatOps.subf (FloatOps.minimumf (nb (ix2 t 3)) (nb (ix2 j 3))) (FloatOps.maximumf (nb (ix2 t 1)) (nb (ix2 j 1)))) (Ideal.ofBits .f32 0x00000000#32)) := by
  show FloatOps.mulf (FloatOps.maximumf (FloatOps.subf (FloatOps.minimumf (lay (entry2 nb w 2#32) (ix1 j)) (colOf ![0, 2] _ nb (ix1 j)))
      (FloatOps.maximumf (lay (entry2 nb w 0#32) (ix1 j)) (colOf ![0, 0] _ nb (ix1 j)))) (Ideal.ofBits .f32 0x00000000#32))
    (FloatOps.maximumf (FloatOps.subf (FloatOps.minimumf (lay (entry2 nb w 3#32) (ix1 j)) (colOf ![0, 3] _ nb (ix1 j)))
      (FloatOps.maximumf (lay (entry2 nb w 1#32) (ix1 j)) (colOf ![0, 1] _ nb (ix1 j)))) (Ideal.ofBits .f32 0x00000000#32)) = _
  rw [colOf_apply 0 ![0, 0] rfl, colOf_apply 1 ![0, 1] rfl, colOf_apply 2 ![0, 2] rfl, colOf_apply 3 ![0, 3] rfl,
    lay_apply _ _ _ (show ∀ i, entry2 nb w 0#32 i = nb (ix2 t 0) from entry2_apply nb w t 0 hw), lay_apply _ _ _ (show ∀ i, entry2 nb w 1#32 i = nb (ix2 t 1) from entry2_apply nb w t 1 hw), lay_apply _ _ _ (show ∀ i, entry2 nb w 2#32 i = nb (ix2 t 2) from entry2_apply nb w t 2 hw), lay_apply _ _ _ (show ∀ i, entry2 nb w 3#32 i = nb (ix2 t 3) from entry2_apply nb w t 3 hw)]

theorem noti_iff (x : BitVec 1) : ~~~x = 1#1 ↔ ¬x = 1#1 := by
  rcases BitVec.eq_zero_or_eq_one x with rfl | rfl <;> decide

/-- The pass of box `t`, entry by entry. -/
theorem passKeep_apply (nb : FVec Ideal S1000x4 .f32) (w : IVec S_ 32) (K : IVec S1000 1) (t : Fin 1000) (hw : ∀ i, w i = BitVec.ofNat 32 t.val) (j : Fin 1000) :
    passKeep nb (areas nb) (iotaInDim S1000 32 0) w K (ix1 j) = 1#1 ↔ K (ix1 j) = 1#1 ∧ ¬(t.val < j.val ∧
      over (nb (ix2 t 0)) (nb (ix2 t 1)) (nb (ix2 t 2)) (nb (ix2 t 3)) (nb (ix2 j 0)) (nb (ix2 j 1)) (nb (ix2 j 2)) (nb (ix2 j 3)) = 1#1 ∧ K (ix1 t) = 1#1) := by
  have e : passKeep nb (areas nb) (iotaInDim S1000 32 0) w K (ix1 j)
      = IntOp.andi (K (ix1 j)) (~~~(IntOp.andi (IntOp.andi
          (FloatOps.cmpf (F := Ideal) .ogt (FloatOps.divf (shared nb w (ix1 j)) (FloatOps.addf (FloatOps.subf (FloatOps.addf (lay (entry1 (areas nb) w) (ix1 j)) (areas nb (ix1 j))) (shared nb w (ix1 j))) (Ideal.ofBits .f32 0x3089705F#32)))
            (Ideal.ofBits .f32 0x3F19999A#32))
          (IntOp.cmpi .sgt (BitVec.ofNat 32 j.val) (lay w (ix1 j)))) (lay (entry1 K w) (ix1 j)))) := rfl
  have hg : IntOp.cmpi .sgt (BitVec.ofNat 32 j.val) (BitVec.ofNat 32 t.val) = 1#1 ↔ t.val < j.val := by
    show BitVec.ofBool ((BitVec.ofNat 32 t.val).slt (BitVec.ofNat 32 j.val)) = 1#1 ↔ _
    rw [BitVec.slt_eq_decide, toInt_small t.val t.isLt, toInt_small j.val j.isLt]
    by_cases h : t.val < j.val
    · simp [h]
    · simp [h]
  rw [e, lay_apply _ _ _ (entry1_apply (areas nb) w t hw), lay_apply _ _ _ (entry1_apply K w t hw), lay_apply w _ _ hw, shared_apply nb w t hw j,
    areas_apply, areas_apply, andi_iff, noti_iff, andi_iff, andi_iff, hg]
  unfold over
  tauto

end Cert.Proof.Nms.Ref

end
-- ==== Proof.Nms.RefTail.lean ====
/-
  The reference after its candidates are ordered: the reads by the order, the loop's entry, the final choice of a hundred,
  each stretch's result as one expression, and that expression entry by entry.
-/
module

public import proofs.«01_k».proof.Proof.Nms.RefStep
public import Idealize.ShloMosaic.Lib.StableHlo.RunRead
public import Idealize.ShloMosaic.Lib.StableHlo.RunClose

@[expose] public section

set_option maxRecDepth 8192

noncomputable section

namespace Cert.Proof.Nms.Ref

open Cert.ReferenceIdeal Cert.ReferenceIdeal.Gen Cert.ReferenceIdeal.Value
open Idealize.ShloMosaic hiding ix1 ix2 ix3 ix4 ix5 eq_ix1 eq_ix2 eq_ix3 eq_ix4
open Idealize.ShloMosaic.ValueIdx
open Idealize.ShloMosaic.TcCoe
open Idealize.ShloMosaic.StableHlo (after)

/-- The rows of `x` in the order of `idx`. -/
def rowsAt (x : FVec Ideal S1000x4 .f32) (idx : IVec S1000 32) : FVec Ideal S1000x4 .f32 :=
  takeRows (B := 1000) bcast_S_S1000 bcast_S1000_S1000x1_0 bcast_S_S1000x1 bcast_S1_S1x1_1 bcast_S1x1_S1000x1_0_1 reducesTo_S1000x1_S1000_d1 h_S_
    bcast_S1000_S1000x4_0 bcast_S_S1000x4 gather_S1000x4_S1000x1_S1000x4_1_0_n_n_0_1_14.wf (Ideal.ofBits .f32 0x7FC00000#32) x idx

/-- The entries of `x` in the order of `idx`. -/
def onesAt {α : Type} (z : α) (x : S1000.Idx → α) (idx : IVec S1000 32) : S1000.Idx → α :=
  takeOnes (B := 1000) bcast_S_S1000 bcast_S1000_S1000x1_0 bcast_S_S1000x1 bcast_S1_S1x1_1 bcast_S1x1_S1000x1_0_1 reducesTo_S1000x1_S1000_d1 h_S_
    gather_S1000_S1000x1_S1000_n_0_n_n_0_1_1.wf z x idx

/-- A hundred rows of `x`, those `idx` names. -/
def rowsOf (x : FVec Ideal S1000x4 .f32) (idx : IVec S100 32) : FVec Ideal S100x4 .f32 :=
  takeRows (B := 100) bcast_S_S100 bcast_S100_S100x1_0 bcast_S_S100x1 bcast_S1_S1x1_1 bcast_S1x1_S100x1_0_1 reducesTo_S100x1_S100_d1 h_S_
    bcast_S100_S100x4_0 bcast_S_S100x4 gather_S1000x4_S100x1_S100x4_1_0_n_n_0_1_14.wf (Ideal.ofBits .f32 0x7FC00000#32) x idx

/-- A hundred entries of `x`, those `idx` names. -/
def onesOf {α : Type} (z : α) (x : S1000.Idx → α) (idx : IVec S100 32) : S100.Idx → α :=
  takeOnes (B := 100) bcast_S_S100 bcast_S100_S100x1_0 bcast_S_S100x1 bcast_S1_S1x1_1 bcast_S1x1_S100x1_0_1 reducesTo_S100x1_S100_d1 h_S_
    gather_S1000_S100x1_S100_n_0_n_n_0_1_1.wf z x idx

theorem rowsAt_apply (x : FVec Ideal S1000x4 .f32) (idx : IVec S1000 32) (j k : Fin 1000) (q : Fin 4) (e : idx (ix1 j) = BitVec.ofNat 32 k.val) :
    rowsAt x idx (ix2 j q) = x (ix2 k q) := takeRows_apply _ _ _ _ _ _ _ _ _ _ _ x idx j q k e

theorem onesAt_apply {α : Type} (z : α) (x : S1000.Idx → α) (idx : IVec S1000 32) (j k : Fin 1000) (e : idx (ix1 j) = BitVec.ofNat 32 k.val) :
    onesAt z x idx (ix1 j) = x (ix1 k) := takeOnes_apply _ _ _ _ _ _ _ _ _ x idx j k e

theorem rowsOf_apply (x : FVec Ideal S1000x4 .f32) (idx : IVec S100 32) (j : Fin 100) (k : Fin 1000) (q : Fin 4) (e : idx (ix1 j) = BitVec.ofNat 32 k.val) :
    rowsOf x idx (ix2 j q) = x (ix2 k q) := takeRows_apply _ _ _ _ _ _ _ _ _ _ _ x idx j q k e

theorem onesOf_apply {α : Type} (z : α) (x : S1000.Idx → α) (idx : IVec S100 32) (j : Fin 100) (k : Fin 1000) (e : idx (ix1 j) = BitVec.ofNat 32 k.val) :
    onesOf z x idx (ix1 j) = x (ix1 k) := takeOnes_apply _ _ _ _ _ _ _ _ _ x idx j k e

/-- The boxes shifted apart by class. -/
def shifted (b : FVec Ideal S1000x4 .f32) (l : IVec S1000 32) : FVec Ideal S1000x4 .f32 :=
  addf b (broadcastInDim S1000x4 ![0, 1] bcast_S1000x1_S1000x4_0_1 (broadcastInDim S1000x1 ![0] bcast_S1000_S1000x1_0
    (mulf (sitofp .f32 l) (lay (constant (F := Ideal) S_ .f32 0x461C4000#32)))))

theorem shifted_apply (b : FVec Ideal S1000x4 .f32) (l : IVec S1000 32) (j : Fin 1000) (q : Fin 4) :
    shifted b l (ix2 j q) = moved (b (ix2 j q)) (FloatOps.sitofp .f32 (l (ix1 j))) := by
  have e : broadcastInDim S1000x4 ![0, 1] bcast_S1000x1_S1000x4_0_1 (broadcastInDim S1000x1 ![0] bcast_S1000_S1000x1_0
      (mulf (sitofp .f32 l) (lay (constant (F := Ideal) S_ .f32 0x461C4000#32)))) (ix2 j q)
      = (mulf (sitofp .f32 l) (lay (constant (F := Ideal) S_ .f32 0x461C4000#32)) : FVec Ideal S1000 .f32) (ix1 j) := by
    refine (broadcastInDim_apply ![0, 1] bcast_S1000x1_S1000x4_0_1 _ (ix2 j q) (ix2 j (0 : Fin 1)) (fun a => by
      match a with
      | ⟨0, _⟩ => rfl
      | ⟨1, _⟩ => rfl)).trans ?_
    exact broadcastInDim_apply ![0] bcast_S1000_S1000x1_0 _ (ix2 j (0 : Fin 1)) (ix1 j) (fun a => by
      match a with
      | ⟨0, _⟩ => rfl)
  show FloatOps.addf _ _ = _
  rw [e]
  rfl

variable (R : Valuation τ sig (Elt Ideal))

theorem shift_eq : (after hostOps0_14 R (Proc.devRef .tc main_v100) : FVec Ideal S1000x4 .f32)
    = shifted (R (Proc.devRef .tc main_v88)) (R (Proc.devRef .tc main_v34)) := by
  after_reads_simp
  rfl

theorem nb_eq : (after hostOps0_18 R (Proc.devRef .tc main_v104) : FVec Ideal S1000x4 .f32)
    = rowsAt (R (Proc.devRef .tc main_v100)) (R (Proc.devRef .tc main_v103)) := by
  after_reads_simp
  rfl

theorem ok_eq : (after hostOps0_19 R (Proc.devRef .tc main_v105) : IVec S1000 1)
    = onesAt 1#1 (R (Proc.devRef .tc main_v30)) (R (Proc.devRef .tc main_v103)) := by
  after_reads_simp
  rfl

theorem sc_eq : (after hostOps0_20 R (Proc.devRef .tc main_v106) : FVec Ideal S1000 .f32)
    = onesAt (Ideal.ofBits .f32 0x7FC00000#32) (R (Proc.devRef .tc main_v101)) (R (Proc.devRef .tc main_v103)) := by
  after_reads_simp
  rfl

theorem in0 : (after hostOps0_21 R (Proc.devRef .tc main_v119_0) : FVec Ideal S1000x4 .f32)
    = (R (Proc.devRef .tc main_v104)) := by
  after_reads_simp
  rfl

theorem in1 : (after hostOps0_21 R (Proc.devRef .tc main_v119_1) : FVec Ideal S1000 .f32)
    = areas (R (Proc.devRef .tc main_v104)) := by
  after_reads_simp
  rfl

theorem in2 : (after hostOps0_21 R (Proc.devRef .tc main_v119_2) : IVec S1000 32)
    = iotaInDim S1000 32 0 := by
  after_reads_simp
  rfl

theorem in4 : (after hostOps0_21 R (Proc.devRef .tc main_v119_4) : IVec S_ 32)
    = constantI S_ 32 0#32 := by
  after_reads_simp
  rfl

theorem in5 : (after hostOps0_21 R (Proc.devRef .tc main_v119_5) : IVec S1000 1)
    = (R (Proc.devRef .tc main_v105)) := by
  after_reads_simp
  rfl

theorem low_eq : (after hostOps0_22 R (Proc.devRef .tc main_cst_21) : FVec Ideal S_ .f32)
    = constant (F := Ideal) S_ .f32 0xFF800000#32 := by
  after_reads_simp

theorem left_eq : (after hostOps0_23 R (Proc.devRef .tc main_v120) : FVec Ideal S1000 .f32)
    = select (R (Proc.devRef .tc main_v119_5)) (R (Proc.devRef .tc main_v106)) (lay (R (Proc.devRef .tc main_cst_21))) := by
  after_reads_simp
  rfl

/-- The hundred greatest entries and their places. -/
def hundred (x : FVec Ideal S1000 .f32) : FVec Ideal S100 .f32 × IVec S100 32 :=
  Host.topK S100 0 (fun a b : Ideal .f32 => FloatOps.cmpfTotal .gt a b) x sliceFits_S1000_S100

theorem top_eq : (after hostOps0_24 R (Proc.devRef .tc main_values_22) : FVec Ideal S100 .f32)
    = (hundred (R (Proc.devRef .tc main_v120))).1 := by
  after_reads_simp
  rfl

theorem sel_eq : (after hostOps0_24 R (Proc.devRef .tc main_indices_23) : IVec S100 32)
    = (hundred (R (Proc.devRef .tc main_v120))).2 := by
  after_reads_simp
  rfl

theorem box_eq : (after hostOps0_25 R (Proc.devRef .tc main_v121) : FVec Ideal S1000x4 .f32)
    = rowsAt (R (Proc.devRef .tc main_v88)) (R (Proc.devRef .tc main_v103)) := by
  after_reads_simp
  rfl

theorem out0_eq : (after hostOps0_26 R (Proc.devRef .tc main_v122) : FVec Ideal S100x4 .f32)
    = rowsOf (R (Proc.devRef .tc main_v121)) (R (Proc.devRef .tc main_indices_23)) := by
  after_reads_simp
  rfl

theorem lab_eq : (after hostOps0_27 R (Proc.devRef .tc main_v123) : IVec S1000 32)
    = onesAt 2147483648#32 (R (Proc.devRef .tc main_v34)) (R (Proc.devRef .tc main_v103)) := by
  after_reads_simp
  rfl

theorem out2_eq : (after hostOps0_28 R (Proc.devRef .tc main_v124) : IVec S100 32)
    = onesOf 2147483648#32 (R (Proc.devRef .tc main_v123)) (R (Proc.devRef .tc main_indices_23)) := by
  after_reads_simp
  rfl

theorem fin_eq : (after hostOps0_29 R (Proc.devRef .tc main_v127) : IVec S100 1)
    = cmpf .olt (Host.absf (R (Proc.devRef .tc main_values_22))) (broadcastInDim S100 ![] bcast_S_S100 (constant (F := Ideal) S_ .f32 0x7F800000#32)) := by
  after_reads_simp

theorem zero_eq : (after hostOps0_29 R (Proc.devRef .tc main_cst_25) : FVec Ideal S_ .f32)
    = constant (F := Ideal) S_ .f32 0x00000000#32 := by
  after_reads_simp

theorem out1_eq : (after hostOps0_30 R (Proc.devRef .tc main_v128) : FVec Ideal S100 .f32)
    = select (R (Proc.devRef .tc main_v127)) (R (Proc.devRef .tc main_values_22)) (broadcastInDim S100 ![] bcast_S_S100 (R (Proc.devRef .tc main_cst_25))) := by
  after_reads_simp
  rfl

/-- Whether one score comes strictly before another in the final choice. -/
def before (x : FVec Ideal S1000 .f32) (i j : Fin 1000) : Bool :=
  (FloatOps.cmpfTotal (F := Ideal) .gt (x (ix1 i)) (x (ix1 j)) == 1#1)

theorem before_iff (x : FVec Ideal S1000 .f32) (i j : Fin 1000) : before x i j = true ↔ (show EReal from x (ix1 j)) < x (ix1 i) := by
  unfold before
  rw [beq_iff_eq, Ideal.cmpfTotal_def]
  show BitVec.ofBool (decide (_ > _)) = 1#1 ↔ _
  by_cases h : (show EReal from x (ix1 j)) < x (ix1 i)
  · simp [h]
  · simp [h]

theorem along_ix1 (j k : Fin 1000) : (Shape.Idx.along (s := S1000) (ix1 j) (0 : Fin 1) k) = ix1 k := by
  funext a
  match a with
  | ⟨0, _⟩ => rfl

theorem slice100 {α : Type} (x : S1000.Idx → α) (r : Fin 100) :
    extractStridedSlice S100 (fun _ => 0) x sliceFits_S1000_S100 (ix1 r) = x (ix1 (r.castLE (by decide))) :=
  extractStridedSlice_apply _ x sliceFits_S1000_S100 (ix1 r) (ix1 (r.castLE (by decide))) (fun a => by
    match a with
    | ⟨0, _⟩ => exact (Nat.zero_add _).symm)

/-- All scores sorted, greatest first, with their places. -/
def allSorted (x : FVec Ideal S1000 .f32) : FVec Ideal S1000 .f32 × IVec S1000 32 :=
  Host.sort2 S1000 0 (fun l r : Ideal .f32 × BitVec 32 => FloatOps.cmpfTotal (F := Ideal) (φ := .f32) .gt l.1 r.1) x (iotaInDim S1000 32 0)

theorem hundred_eq (x : FVec Ideal S1000 .f32) : hundred x
    = (extractStridedSlice S100 (fun _ => 0) (allSorted x).1 sliceFits_S1000_S100, extractStridedSlice S100 (fun _ => 0) (allSorted x).2 sliceFits_S1000_S100) := rfl

theorem before_along (x : FVec Ideal S1000 .f32) (j : Fin 1000) :
    (fun k k' : Fin 1000 => FloatOps.cmpfTotal (F := Ideal) (φ := .f32) .gt (x (Shape.Idx.along (s := S1000) (ix1 j) (0 : Fin 1) k))
      (x (Shape.Idx.along (s := S1000) (ix1 j) (0 : Fin 1) k')) == 1#1) = before x :=
  funext fun k => funext fun k' => congrArg₂ (fun a b : Ideal .f32 => FloatOps.cmpfTotal .gt a b == 1#1)
    (congrArg x (along_ix1 j k)) (congrArg x (along_ix1 j k'))

theorem allSorted_val (x : FVec Ideal S1000 .f32) (j : Fin 1000) : (allSorted x).1 (ix1 j) = x (ix1 (sortedFrom (before x) j)) :=
  (congrArg (fun B : Fin 1000 → Fin 1000 → Bool => x (Shape.Idx.along (s := S1000) (ix1 j) (0 : Fin 1) (sortedFrom B j))) (before_along x j)).trans
    (congrArg x (along_ix1 j _))

theorem sorted_along (x : FVec Ideal S1000 .f32) (y : IVec S1000 32) (j : Fin 1000) :
    (Host.sort2 S1000 0 (fun l r : Ideal .f32 × BitVec 32 => FloatOps.cmpfTotal (F := Ideal) (φ := .f32) .gt l.1 r.1) x y).2 (ix1 j)
      = y (ix1 (sortedFrom (before x) j)) :=
  (congrArg (fun B : Fin 1000 → Fin 1000 → Bool => y (Shape.Idx.along (s := S1000) (ix1 j) (0 : Fin 1) (sortedFrom B j))) (before_along x j)).trans
    (congrArg y (along_ix1 j _))

theorem iota_at (k : Fin 1000) : iotaInDim S1000 32 0 (ix1 k) = BitVec.ofNat 32 k.val := rfl

theorem allSorted_idx (x : FVec Ideal S1000 .f32) (j : Fin 1000) : (allSorted x).2 (ix1 j) = BitVec.ofNat 32 (sortedFrom (before x) j).val :=
  (sorted_along x _ j).trans (iota_at _)

theorem hundred_val (x : FVec Ideal S1000 .f32) (r : Fin 100) :
    (hundred x).1 (ix1 r) = x (ix1 (sortedFrom (before x) (r.castLE (by decide)))) := by
  rw [hundred_eq]
  exact (slice100 _ r).trans (allSorted_val x _)

theorem hundred_idx (x : FVec Ideal S1000 .f32) (r : Fin 100) :
    (hundred x).2 (ix1 r) = BitVec.ofNat 32 (sortedFrom (before x) (r.castLE (by decide))).val := by
  rw [hundred_eq]
  exact (slice100 _ r).trans (allSorted_idx x _)

end Cert.Proof.Nms.Ref

end
-- ==== Proof.Nms.RefEnd.lean ====
/-
  What the reference computes: the greedy selection among the ordered candidates, and the hundred best survivors' boxes,
  scores and labels.
-/
module

public import proofs.«01_k».proof.Proof.Nms.RefTail
public import proofs.«01_k».proof.Proof.Nms.Detect
public import Idealize.ShloMosaic.Lib.KernelVsHost

@[expose] public section

set_option maxRecDepth 8192

noncomputable section

namespace Cert.Proof.Nms.Ref

open Cert.ReferenceIdeal Cert.ReferenceIdeal.Gen Cert.ReferenceIdeal.Value
open Idealize.ShloMosaic hiding ix1 ix2 ix3 ix4 ix5 eq_ix1 eq_ix2 eq_ix3 eq_ix4
open Idealize.ShloMosaic.ValueIdx
open Idealize.ShloMosaic.TcCoe
open Idealize.ShloMosaic.StableHlo (after entryContents)

variable (m : (ℓ : Loc nD τ sig) → Buf (Elt Ideal) ℓ) (c : Dev nD)

/-- The loop's carried buffers after `t` passes. -/
def passes (t : ℕ) : Valuation τ sig (Elt Ideal) := STEP^[t] (entryContents preI m c)

theorem passes_zero (r : Ref sig .tc) : passes m c 0 (Proc.devRef .tc r) = after hostOps0_21 (R21 m c) (Proc.devRef .tc r) := rfl

theorem passes_succ (t : ℕ) : passes m c (t + 1) = STEP (passes m c t) := Function.iterate_succ_apply' _ _ _

theorem passes_0 (t : ℕ) : (passes m c t (Proc.devRef .tc main_v119_0) : FVec Ideal S1000x4 .f32) = rv m c main_v104 := by
  induction t with
  | zero => exact (passes_zero m c main_v119_0).trans ((in0 (R21 m c)).trans (up21 m c main_v104 (by decide)))
  | succ t ih => rw [passes_succ, STEP_main_v119_0]; exact ih

theorem passes_1 (t : ℕ) : (passes m c t (Proc.devRef .tc main_v119_1) : FVec Ideal S1000 .f32) = areas (rv m c main_v104) := by
  induction t with
  | zero => exact (passes_zero m c main_v119_1).trans ((in1 (R21 m c)).trans (congrArg areas (up21 m c main_v104 (by decide))))
  | succ t ih => rw [passes_succ, STEP_main_v119_1]; exact ih

theorem passes_2 (t : ℕ) : (passes m c t (Proc.devRef .tc main_v119_2) : IVec S1000 32) = iotaInDim S1000 32 0 := by
  induction t with
  | zero => exact (passes_zero m c main_v119_2).trans (in2 (R21 m c))
  | succ t ih => rw [passes_succ, STEP_main_v119_2]; exact ih

theorem passes_4 (t : ℕ) (i : S_.Idx) : (passes m c t (Proc.devRef .tc main_v119_4) : IVec S_ 32) i = BitVec.ofNat 32 t := by
  induction t with
  | zero => exact congrFun ((passes_zero m c main_v119_4).trans (in4 (R21 m c))) i
  | succ t ih =>
    rw [passes_succ, STEP_main_v119_4]
    show IntOp.addi ((passes m c t (Proc.devRef .tc main_v119_4) : IVec S_ 32) i) 1#32 = _
    rw [ih]
    exact (BitVec.ofNat_add t 1).symm

theorem passes_5_zero : (passes m c 0 (Proc.devRef .tc main_v119_5) : IVec S1000 1) = rv m c main_v105 :=
  (passes_zero m c main_v119_5).trans ((in5 (R21 m c)).trans (up21 m c main_v105 (by decide)))

theorem passes_5_succ (t : ℕ) : (passes m c (t + 1) (Proc.devRef .tc main_v119_5) : IVec S1000 1)
    = passKeep (rv m c main_v104) (areas (rv m c main_v104)) (iotaInDim S1000 32 0) (passes m c t (Proc.devRef .tc main_v119_4)) (passes m c t (Proc.devRef .tc main_v119_5)) := by
  rw [passes_succ, STEP_main_v119_5, step_eq]
  rw [passes_0, passes_1, passes_2]

theorem loop_end : (rv m c main_v119_5 : IVec S1000 1) = passes m c 1000 (Proc.devRef .tc main_v119_5) :=
  (up23 m c main_v119_5 (by decide)).symm.trans
    ((cond_keeps _ main_v119_5 (by decide)).trans (atK_agree m c 1000 main_v119_5 (by decide)))

variable (σ : Fin 1000 → Fin 1000)

/-- The ordered boxes, labels, scores and valid candidates. -/
def boxAt (i : Fin 1000) (k : Fin 4) : Ideal .f32 := (rv m c main_v88 : FVec Ideal S1000x4 .f32) (ix2 (σ i) k)
def labelAt (i : Fin 1000) : Ideal .f32 := FloatOps.sitofp .f32 ((rv m c main_v34 : IVec S1000 32) (ix1 (σ i)))
def scoreAt (i : Fin 1000) : Ideal .f32 := (rv m c main_v101 : FVec Ideal S1000 .f32) (ix1 (σ i))
def validAt (i : Fin 1000) : Prop := (rv m c main_v30 : IVec S1000 1) (ix1 (σ i)) = 1#1
def keptAt (i : Fin 1000) : Prop := (rv m c main_v119_5 : IVec S1000 1) (ix1 i) = 1#1

variable (hσ : ∀ j, (rv m c main_v103 : IVec S1000 32) (ix1 j) = BitVec.ofNat 32 (σ j).val)

include hσ in
theorem nb_at (j : Fin 1000) (q : Fin 4) : (rv m c main_v104 : FVec Ideal S1000x4 .f32) (ix2 j q) = moved (boxAt m c σ j q) (labelAt m c σ j) := by
  have e : (rv m c main_v104 : FVec Ideal S1000x4 .f32) = rowsAt (rv m c main_v100) (rv m c main_v103) := by
    refine (up19 m c main_v104 (by decide)).symm.trans ((nb_eq (R18 m c)).trans ?_)
    exact congrArg₂ rowsAt (up18 m c main_v100 (by decide)) (up18 m c main_v103 (by decide))
  have e' : (rv m c main_v100 : FVec Ideal S1000x4 .f32) = shifted (rv m c main_v88) (rv m c main_v34) := by
    refine (up15 m c main_v100 (by decide)).symm.trans ((shift_eq (R14 m c)).trans ?_)
    exact congrArg₂ shifted (up14 m c main_v88 (by decide)) (up14 m c main_v34 (by decide))
  rw [e, rowsAt_apply _ _ j (σ j) q (hσ j), e', shifted_apply]
  rfl

include hσ in
theorem ok_at (j : Fin 1000) : (rv m c main_v105 : IVec S1000 1) (ix1 j) = (rv m c main_v30 : IVec S1000 1) (ix1 (σ j)) := by
  have e : (rv m c main_v105 : IVec S1000 1) = onesAt 1#1 (rv m c main_v30) (rv m c main_v103) := by
    refine (up20 m c main_v105 (by decide)).symm.trans ((ok_eq (R19 m c)).trans ?_)
    exact congrArg₂ (onesAt 1#1) (up19 m c main_v30 (by decide)) (up19 m c main_v103 (by decide))
  rw [e, onesAt_apply _ _ _ j (σ j) (hσ j)]

include hσ in
theorem sc_at (j : Fin 1000) : (rv m c main_v106 : FVec Ideal S1000 .f32) (ix1 j) = scoreAt m c σ j := by
  have e : (rv m c main_v106 : FVec Ideal S1000 .f32) = onesAt (Ideal.ofBits .f32 0x7FC00000#32) (rv m c main_v101) (rv m c main_v103) := by
    refine (up21 m c main_v106 (by decide)).symm.trans ((sc_eq (R20 m c)).trans ?_)
    exact congrArg₂ (onesAt _) (up20 m c main_v101 (by decide)) (up20 m c main_v103 (by decide))
  rw [e, onesAt_apply _ _ _ j (σ j) (hσ j)]
  rfl

include hσ in
/-- The loop keeps the greedy selection. -/
theorem kept_greedy : Greedy (validAt m c σ) (Overlaps (boxAt m c σ) (labelAt m c σ)) (keptAt m c) := by
  have h : Greedy (validAt m c σ) (Overlaps (boxAt m c σ) (labelAt m c σ))
      ((fun t j => (passes m c t (Proc.devRef .tc main_v119_5) : IVec S1000 1) (ix1 j) = 1#1) 1000) :=
    pass_greedy (fun t j => (passes m c t (Proc.devRef .tc main_v119_5) : IVec S1000 1) (ix1 j) = 1#1)
      (fun j => by
        show (passes m c 0 (Proc.devRef .tc main_v119_5) : IVec S1000 1) (ix1 j) = 1#1 ↔ _
        rw [passes_5_zero, ok_at m c σ hσ j]
        rfl)
      (fun t ht j => by
        show (passes m c (t + 1) (Proc.devRef .tc main_v119_5) : IVec S1000 1) (ix1 j) = 1#1 ↔ _
        rw [passes_5_succ, passKeep_apply _ _ _ ⟨t, ht⟩ (passes_4 m c t) j]
        simp only [nb_at m c σ hσ]
        rfl)
  intro j
  have hj := h j
  unfold keptAt
  rw [loop_end]
  exact hj

theorem select_if {s : Shape} {α : Type} (k : IVec s 1) (x y : s.Idx → α) (j : s.Idx) : select k x y j = if k j = 1#1 then x j else y j := by
  show Scalar.select (k j) (x j) (y j) = _
  rcases BitVec.eq_zero_or_eq_one (k j) with h | h <;> rw [h] <;> rfl

include hσ in
theorem left_at (j : Fin 1000) : (rv m c main_v120 : FVec Ideal S1000 .f32) (ix1 j) = ranked (keptAt m c) (scoreAt m c σ) j := by
  have e : (rv m c main_v120 : FVec Ideal S1000 .f32) = select (rv m c main_v119_5) (rv m c main_v106) (lay (rv m c main_cst_21)) := by
    refine (up25 m c main_v120 (by decide)).symm.trans ((left_eq (R24 m c)).trans ?_)
    rw [up24 m c main_v119_5 (by decide), up24 m c main_v106 (by decide), up24 m c main_cst_21 (by decide)]
  have e' : (rv m c main_cst_21 : FVec Ideal S_ .f32) = constant (F := Ideal) S_ .f32 0xFF800000#32 :=
    (up24 m c main_cst_21 (by decide)).symm.trans (low_eq (R23 m c))
  rw [e, e', select_if]
  unfold ranked
  by_cases h : keptAt m c j
  · rw [if_pos h, if_pos (show (rv m c main_v119_5 : IVec S1000 1) (ix1 j) = 1#1 from h)]
    exact sc_at m c σ hσ j
  · rw [if_neg h, if_neg (show ¬(rv m c main_v119_5 : IVec S1000 1) (ix1 j) = 1#1 from h)]
    exact ofBits_bot

theorem tame_eq (a : Ideal .f32) : Scalar.select (FloatOps.cmpf (F := Ideal) .olt (FloatOps.hostAbsf a) (Ideal.ofBits .f32 0x7F800000#32)) a (Ideal.ofBits .f32 0x00000000#32)
    = tame a := by
  rw [show FloatOps.cmpf (F := Ideal) .olt (FloatOps.hostAbsf a) (Ideal.ofBits .f32 0x7F800000#32) = _ from (Ideal.xori_weird_eq_hostAbsf_olt_inf a).symm,
    show FloatOps.weird a = BitVec.ofBool (decide ((show EReal from a) = ⊤ ∨ (show EReal from a) = ⊥)) from rfl]
  unfold tame
  by_cases h : (show EReal from a) = ⊤ ∨ (show EReal from a) = ⊥
  · rw [if_pos h, decide_eq_true h]
    exact Ideal.ofBits_zero_f32
  · rw [if_neg h, decide_eq_false h]
    rfl

/-- The infinite scores replaced by zero. -/
def tamed (v : FVec Ideal S100 .f32) : FVec Ideal S100 .f32 :=
  select (cmpf .olt (Host.absf v) (broadcastInDim S100 ![] bcast_S_S100 (constant (F := Ideal) S_ .f32 0x7F800000#32))) v
    (broadcastInDim S100 ![] bcast_S_S100 (constant (F := Ideal) S_ .f32 0x00000000#32))

theorem tamed_apply (v : FVec Ideal S100 .f32) (r : Fin 100) : tamed v (ix1 r) = tame (v (ix1 r)) := tame_eq _

/-- The place of the `r`-th best survivor. -/
def bestAt (r : Fin 100) : Fin 1000 := sortedFrom (before (rv m c main_v120)) (r.castLE (by decide))

include hσ in
theorem before_ranked (i j : Fin 1000) : before (rv m c main_v120) i j = true
    ↔ ranked (keptAt m c) (scoreAt m c σ) j < ranked (keptAt m c) (scoreAt m c σ) i := by
  rw [before_iff, left_at m c σ hσ i, left_at m c σ hσ j]

theorem sel_at (r : Fin 100) : (rv m c main_indices_23 : IVec S100 32) (ix1 r) = BitVec.ofNat 32 (bestAt m c r).val := by
  have e : (rv m c main_indices_23 : IVec S100 32) = (hundred (rv m c main_v120)).2 :=
    (up26 m c main_indices_23 (by decide)).symm.trans ((sel_eq (R25 m c)).trans (congrArg (fun x => (hundred x).2) (up25 m c main_v120 (by decide))))
  rw [e, hundred_idx]
  rfl

include hσ in
theorem out0_at (r : Fin 100) (q : Fin 4) : (rv m c main_v122 : FVec Ideal S100x4 .f32) (ix2 r q) = boxAt m c σ (bestAt m c r) q := by
  have e : (rv m c main_v122 : FVec Ideal S100x4 .f32) = rowsOf (rv m c main_v121) (rv m c main_indices_23) := by
    refine (up28 m c main_v122 (by decide)).symm.trans ((out0_eq (R27 m c)).trans ?_)
    exact congrArg₂ rowsOf (up27 m c main_v121 (by decide)) (up27 m c main_indices_23 (by decide))
  have e' : (rv m c main_v121 : FVec Ideal S1000x4 .f32) = rowsAt (rv m c main_v88) (rv m c main_v103) := by
    refine (up27 m c main_v121 (by decide)).symm.trans ((box_eq (R26 m c)).trans ?_)
    exact congrArg₂ rowsAt (up26 m c main_v88 (by decide)) (up26 m c main_v103 (by decide))
  rw [e, rowsOf_apply _ _ r _ q (sel_at m c r), e', rowsAt_apply _ _ _ _ q (hσ _)]
  rfl

include hσ in
theorem out2_at (r : Fin 100) : (rv m c main_v124 : IVec S100 32) (ix1 r) = (rv m c main_v34 : IVec S1000 32) (ix1 (σ (bestAt m c r))) := by
  have e : (rv m c main_v124 : IVec S100 32) = onesOf 2147483648#32 (rv m c main_v123) (rv m c main_indices_23) := by
    refine (up30 m c main_v124 (by decide)).symm.trans ((out2_eq (R29 m c)).trans ?_)
    exact congrArg₂ (onesOf _) (up29 m c main_v123 (by decide)) (up29 m c main_indices_23 (by decide))
  have e' : (rv m c main_v123 : IVec S1000 32) = onesAt 2147483648#32 (rv m c main_v34) (rv m c main_v103) := by
    refine (up29 m c main_v123 (by decide)).symm.trans ((lab_eq (R28 m c)).trans ?_)
    exact congrArg₂ (onesAt _) (up28 m c main_v34 (by decide)) (up28 m c main_v103 (by decide))
  rw [e, onesOf_apply _ _ _ r _ (sel_at m c r), e', onesAt_apply _ _ _ _ _ (hσ _)]

include hσ in
theorem out1_at (r : Fin 100) : (rv m c main_v128 : FVec Ideal S100 .f32) (ix1 r) = tame (ranked (keptAt m c) (scoreAt m c σ) (bestAt m c r)) := by
  have e : (rv m c main_v128 : FVec Ideal S100 .f32) = select (rv m c main_v127) (rv m c main_values_22) (broadcastInDim S100 ![] bcast_S_S100 (rv m c main_cst_25)) := by
    refine (out1_eq (R31 m c)).trans ?_
    rw [up31 m c main_v127 (by decide), up31 m c main_values_22 (by decide), up31 m c main_cst_25 (by decide)]
  have e1 : (rv m c main_v127 : IVec S100 1) = cmpf .olt (Host.absf (rv m c main_values_22)) (broadcastInDim S100 ![] bcast_S_S100 (constant (F := Ideal) S_ .f32 0x7F800000#32)) := by
    refine (up31 m c main_v127 (by decide)).symm.trans ((fin_eq (R30 m c)).trans ?_)
    rw [up30 m c main_values_22 (by decide)]
  have e2 : (rv m c main_cst_25 : FVec Ideal S_ .f32) = constant (F := Ideal) S_ .f32 0x00000000#32 :=
    (up31 m c main_cst_25 (by decide)).symm.trans (zero_eq (R30 m c))
  have e3 : (rv m c main_values_22 : FVec Ideal S100 .f32) = (hundred (rv m c main_v120)).1 :=
    (up26 m c main_values_22 (by decide)).symm.trans ((top_eq (R25 m c)).trans (congrArg (fun x => (hundred x).1) (up25 m c main_v120 (by decide))))
  have e4 : (rv m c main_values_22 : FVec Ideal S100 .f32) (ix1 r) = ranked (keptAt m c) (scoreAt m c σ) (bestAt m c r) := by
    rw [e3, hundred_val]
    exact left_at m c σ hσ _
  have e5 : (rv m c main_v128 : FVec Ideal S100 .f32) = tamed (rv m c main_values_22) := by rw [e, e1, e2]; rfl
  rw [e5, tamed_apply, e4]

end Cert.Proof.Nms.Ref

end
-- ==== Proof.Nms.Results.lean ====
/-
  The two programs give the same boxes, scores and labels: their selections are the greedy one on the same ordered
  candidates, and the hundred best survivors are found at the same places.
-/
module

public import proofs.«01_k».proof.Proof.Nms.Common
public import proofs.«01_k».proof.Proof.Nms.KerEnd
public import proofs.«01_k».proof.Proof.Nms.RefEnd

@[expose] public section

set_option maxRecDepth 8192

noncomputable section

namespace Cert.Proof.Nms

open Cert.KernelIdeal Cert.KernelIdeal.Gen
open Idealize.ShloMosaic hiding ix1 ix2 ix3 ix4 ix5 eq_ix1 eq_ix2 eq_ix3 eq_ix4
open Idealize.ShloMosaic.ValueIdx
open Idealize.ShloMosaic.TcCoe
open Idealize.ShloMosaic.StableHlo (after)
open Cert.Proof.Nms.Ref (rv)

/-- A sort that carries the places along returns places. -/
theorem sorted_places (cmp : Ideal .f32 × BitVec 32 → Ideal .f32 × BitVec 32 → BitVec 1) (x : FVec Ideal S1000 .f32) :
    ∃ σ : Fin 1000 → Fin 1000, ∀ j, (Host.sort2 S1000 0 cmp x (iotaInDim S1000 32 0)).2 (ix1 j) = BitVec.ofNat 32 (σ j).val := by
  let y : IVec S1000 32 := iotaInDim S1000 32 0
  refine ⟨fun j => sortedFrom (fun k k' : Fin 1000 => cmp (x (Shape.Idx.along (s := S1000) (ix1 j) (0 : Fin 1) k), y (Shape.Idx.along (s := S1000) (ix1 j) (0 : Fin 1) k))
    (x (Shape.Idx.along (s := S1000) (ix1 j) (0 : Fin 1) k'), y (Shape.Idx.along (s := S1000) (ix1 j) (0 : Fin 1) k')) == 1#1) j, fun j => ?_⟩
  exact (congrArg y (Ref.along_ix1 j _)).trans (Ref.iota_at _)

/-- The places of the candidates, sorted by their negated scores. -/
def byScore (x : FVec Ideal S1000 .f32) : IVec S1000 32 :=
  (Host.sort2 S1000 0 (comparator_f32_i32_d0 (F := Ideal)) x (iotaInDim S1000 32 0)).2

theorem order_sorted (V : Valuation τ sig (Elt Ideal)) : (after hostOps1_22 V (Proc.devRef .tc main_v76) : IVec S1000 32)
    = byScore (V (Proc.devRef .tc main_v75)) := by
  after_reads_simp
  rfl

variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)

/-- The order names a place for each rank. -/
theorem order_places : ∃ σ : Fin 1000 → Fin 1000, ∀ j, (kv m c main_v76 : IVec S1000 32) (ix1 j) = BitVec.ofNat 32 (σ j).val := by
  obtain ⟨σ, h⟩ := sorted_places (comparator_f32_i32_d0 (F := Ideal)) (V24 m (outs1 m) c (Proc.devRef .tc main_v75) : FVec Ideal S1000 .f32)
  refine ⟨σ, fun j => ?_⟩
  rw [← up25 m c main_v76 (by decide)]
  exact (congrFun (order_sorted (V24 m (outs1 m) c)) (ix1 j)).trans (h j)

variable {m m' c} (H : Same m m' c) (σ : Fin 1000 → Fin 1000)

include H in
theorem box_same : Ref.boxAt m' c σ = kBox m c σ := funext fun i => funext fun k => (congrFun (boxes_same H) (ix2 (σ i) k)).symm
include H in
theorem label_same : Ref.labelAt m' c σ = kLabel m c σ := funext fun i => congrArg (FloatOps.sitofp .f32) (congrFun (labels_same H) (ix1 (σ i))).symm
include H in
theorem score_same : Ref.scoreAt m' c σ = kScore m c σ := funext fun i => (congrFun (s_same H) (ix1 (σ i))).symm
include H in
theorem valid_at_same : Ref.validAt m' c σ = kValid m c σ := funext fun i => congrArg (· = 1#1) (congrFun (valid_same H) (ix1 (σ i))).symm

include H in
theorem results_same : (∀ r q, (V33 m (outs1 m) c (Proc.devRef .tc main_v99) : FVec Ideal S100x4 .f32) (ix2 r q)
      = (rv m' c Cert.ReferenceIdeal.main_v122 : FVec Ideal S100x4 .f32) (ix2 r q)) ∧
    (∀ r, (V33 m (outs1 m) c (Proc.devRef .tc main_v101) : FVec Ideal S100 .f32) (ix1 r)
      = (rv m' c Cert.ReferenceIdeal.main_v128 : FVec Ideal S100 .f32) (ix1 r)) ∧
    (∀ r, (V33 m (outs1 m) c (Proc.devRef .tc main_v104) : IVec S100 32) (ix1 r)
      = (rv m' c Cert.ReferenceIdeal.main_v124 : IVec S100 32) (ix1 r)) := by
  obtain ⟨σ, hσ⟩ := order_places m c
  have hσ' : ∀ j, (rv m' c Cert.ReferenceIdeal.main_v103 : IVec S1000 32) (ix1 j) = BitVec.ofNat 32 (σ j).val := fun j =>
    (congrFun (order_same H) (ix1 j)).symm.trans (hσ j)
  obtain ⟨K, hK, h⟩ := ker_results m c σ hσ
  have hR := Ref.kept_greedy m' c σ hσ'
  rw [box_same H, label_same H, valid_at_same H] at hR
  have hKK : ∀ j : Fin 1000, Ref.keptAt m' c j ↔ K (j.castLE (by decide)) := fun j => hR.agree hK (by decide)
    (fun j => by unfold pValid; rw [ext_castLE])
    (fun i j => by unfold Overlaps pBox pLabel; simp only [ext_castLE]) j
  have hpad : ∀ i : Fin 1024, 1000 ≤ i.val → ¬K i := fun i hi hk => by
    have := ((hK i).1 hk).1
    unfold pValid at this
    rwa [ext_pad _ _ _ hi] at this
  have hf : ∀ i : Fin 1000, ranked K (pScore m c σ) (i.castLE (by decide)) = ranked (Ref.keptAt m' c) (Ref.scoreAt m' c σ) i := fun i => by
    unfold ranked
    rw [score_same H]
    by_cases hi : Ref.keptAt m' c i
    · rw [if_pos hi, if_pos ((hKK i).1 hi)]
      unfold pScore
      exact ext_castLE _ _ i
    · rw [if_neg hi, if_neg (fun e => hi ((hKK i).2 e))]
  have hb : ∀ r : Fin 100, _ := fun r => h r ((Ref.bestAt m' c r).castLE (by decide)) fun j =>
    place_iff (ranked (Ref.keptAt m' c) (Ref.scoreAt m' c σ)) (Ref.before (rv m' c Cert.ReferenceIdeal.main_v120)) (Ref.before_ranked m' c σ hσ') hf hpad (r.castLE (by decide)) j
  refine ⟨fun r q => ?_, fun r => ?_, fun r => ?_⟩
  · rw [(hb r).1 q, Ref.out0_at m' c σ hσ' r q, box_same H]
    unfold pBox
    exact ext_castLE _ _ _
  · rw [(hb r).2.1, Ref.out1_at m' c σ hσ' r, hf]
  · rw [(hb r).2.2, Ref.out2_at m' c σ hσ' r]
    unfold pLabel
    rw [ext_castLE]
    unfold kLabel
    exact (label_back _).trans (congrFun (labels_same H) _)

include H in
theorem same0 : (V33 m (outs1 m) c (Proc.devRef .tc main_v99) : FVec Ideal S100x4 .f32) = rv m' c Cert.ReferenceIdeal.main_v122 := funext fun i => by
  rw [eq_ix2 i]
  exact (results_same H).1 _ _
include H in
theorem same1 : (V33 m (outs1 m) c (Proc.devRef .tc main_v101) : FVec Ideal S100 .f32) = rv m' c Cert.ReferenceIdeal.main_v128 := funext fun i => by
  rw [eq_ix1 i]
  exact (results_same H).2.1 _
include H in
theorem same2 : (V33 m (outs1 m) c (Proc.devRef .tc main_v104) : IVec S100 32) = rv m' c Cert.ReferenceIdeal.main_v124 := funext fun i => by
  rw [eq_ix1 i]
  exact (results_same H).2.2 _

end Cert.Proof.Nms

end
-- ==== Proof.Nms.Algebraic.lean ====
/-
  The equality claim: launched on the same arguments, the kernel and the reference end with the same three results.
-/
module

public import proofs.«01_k».proof.Defs
public import proofs.«01_k».proof.Proof.Nms.Results

@[expose] public section

noncomputable section

namespace Cert.Proof.Nms

open Idealize.ShloMosaic Idealize.SL.Sem
open Cert.KernelIdeal Cert.KernelIdeal.Gen

theorem algebraic : Cert.algebraic_KernelIdeal_ReferenceIdeal (hKernelIdeal := Cert.KernelIdeal.Gen.facts) (hReferenceIdeal := Cert.ReferenceIdeal.Gen.facts) :=
  fun m g m' g' _ hargs => by
    have H : ∀ c, Same m m' c := fun c => ⟨(hargs c).1.symm, (hargs c).2.1.symm, (hargs c).2.2.1.symm, (hargs c).2.2.2.1.symm, (hargs c).2.2.2.2.symm⟩
    refine ⟨fun c => V33 m (outs1 m) c (Proc.devRef .tc main_v99), fun c => V33 m (outs1 m) c (Proc.devRef .tc main_v101),
      fun c => V33 m (outs1 m) c (Proc.devRef .tc main_v104), ?_, ?_⟩
    · exact (θ_run _ _ _).mono (fun r h => h.1) (kernel_run m g)
    · refine (θ_run _ _ _).mono (fun r h c => ?_) (Ref.reference_run m' g')
      obtain ⟨h0, h1, h2, h3⟩ := h.1 c
      exact ⟨h0.trans (same0 (H c)).symm, h1.trans (same1 (H c)).symm, h2.trans (same2 (H c)).symm, h3⟩

end Cert.Proof.Nms

end
-- ==== Proof.lean ====
module

public import proofs.«01_k».proof.Defs
public import proofs.«01_k».proof.Proof.Nms.Frames
public import proofs.«01_k».proof.Proof.Nms.Algebraic

@[expose] public section

noncomputable section

namespace Cert.Proof

theorem claim : Cert.Claim :=
  ⟨Cert.KernelIdeal.Gen.facts, Cert.ReferenceIdeal.Gen.facts, Nms.frameK, Nms.frameR, Nms.algebraic⟩

end Cert.Proof

end
